-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v170_0)) (v1 : (c : Dev Cert.KernelIdeal.nD) → Buf (Elt Ideal) ((c.tc : Thread Cert.KernelIdeal.nD Cert.KernelIdeal.τ).loc Cert.KernelIdeal.main_v170_1)) (v2 : (c : Dev Cert.KernelIdeal.nD) → Buf (Elt Ideal) ((c.tc : Thread Cert.KernelIdeal.nD Cert.KernelIdeal.τ).loc Cert.KernelIdeal.main_v170_2)) (v3 : (c : Dev Cert.KernelIdeal.nD) → Buf (Elt Ideal) ((c.tc : Thread Cert.KernelIdeal.nD Cert.KernelIdeal.τ).loc Cert.KernelIdeal.main_v170_3)) (v4 : (c : Dev Cert.KernelIdeal.nD) → Buf (Elt Ideal) ((c.tc : Thread Cert.KernelIdeal.nD Cert.KernelIdeal.τ).loc Cert.KernelIdeal.main_v170_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v170_0) = v0 c
          ∧ r.2.mem ((c.tc : Thread Cert.KernelIdeal.nD Cert.KernelIdeal.τ).loc Cert.KernelIdeal.main_v170_1) = v1 c
          ∧ r.2.mem ((c.tc : Thread Cert.KernelIdeal.nD Cert.KernelIdeal.τ).loc Cert.KernelIdeal.main_v170_2) = v2 c
          ∧ r.2.mem ((c.tc : Thread Cert.KernelIdeal.nD Cert.KernelIdeal.τ).loc Cert.KernelIdeal.main_v170_3) = v3 c
          ∧ r.2.mem ((c.tc : Thread Cert.KernelIdeal.nD Cert.KernelIdeal.τ).loc Cert.KernelIdeal.main_v170_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_v114) = v1 c
          ∧ r.2.mem ((c.tc : Thread Cert.ReferenceIdeal.nD Cert.ReferenceIdeal.τ).loc Cert.ReferenceIdeal.main_v116) = v2 c
          ∧ r.2.mem ((c.tc : Thread Cert.ReferenceIdeal.nD Cert.ReferenceIdeal.τ).loc Cert.ReferenceIdeal.main_v118) = v3 c
          ∧ r.2.mem ((c.tc : Thread Cert.ReferenceIdeal.nD Cert.ReferenceIdeal.τ).loc Cert.ReferenceIdeal.main_v119) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v25_0)) (v1 : (c : Dev Cert.Kernel2Ideal.nD) → Buf (Elt Ideal) ((c.tc : Thread Cert.Kernel2Ideal.nD Cert.Kernel2Ideal.τ).loc Cert.Kernel2Ideal.main_v25_1)) (v2 : (c : Dev Cert.Kernel2Ideal.nD) → Buf (Elt Ideal) ((c.tc : Thread Cert.Kernel2Ideal.nD Cert.Kernel2Ideal.τ).loc Cert.Kernel2Ideal.main_v25_2)) (v3 : (c : Dev Cert.Kernel2Ideal.nD) → Buf (Elt Ideal) ((c.tc : Thread Cert.Kernel2Ideal.nD Cert.Kernel2Ideal.τ).loc Cert.Kernel2Ideal.main_v25_3)) (v4 : (c : Dev Cert.Kernel2Ideal.nD) → Buf (Elt Ideal) ((c.tc : Thread Cert.Kernel2Ideal.nD Cert.Kernel2Ideal.τ).loc Cert.Kernel2Ideal.main_v25_4)) (v5 : (c : Dev Cert.Kernel2Ideal.nD) → Buf (Elt Ideal) ((c.tc : Thread Cert.Kernel2Ideal.nD Cert.Kernel2Ideal.τ).loc Cert.Kernel2Ideal.main_v25_5)) (v6 : (c : Dev Cert.Kernel2Ideal.nD) → Buf (Elt Ideal) ((c.tc : Thread Cert.Kernel2Ideal.nD Cert.Kernel2Ideal.τ).loc Cert.Kernel2Ideal.main_v25_6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v25_0) = v0 c
          ∧ r.2.mem ((c.tc : Thread Cert.Kernel2Ideal.nD Cert.Kernel2Ideal.τ).loc Cert.Kernel2Ideal.main_v25_1) = v1 c
          ∧ r.2.mem ((c.tc : Thread Cert.Kernel2Ideal.nD Cert.Kernel2Ideal.τ).loc Cert.Kernel2Ideal.main_v25_2) = v2 c
          ∧ r.2.mem ((c.tc : Thread Cert.Kernel2Ideal.nD Cert.Kernel2Ideal.τ).loc Cert.Kernel2Ideal.main_v25_3) = v3 c
          ∧ r.2.mem ((c.tc : Thread Cert.Kernel2Ideal.nD Cert.Kernel2Ideal.τ).loc Cert.Kernel2Ideal.main_v25_4) = v4 c
          ∧ r.2.mem ((c.tc : Thread Cert.Kernel2Ideal.nD Cert.Kernel2Ideal.τ).loc Cert.Kernel2Ideal.main_v25_5) = v5 c
          ∧ r.2.mem ((c.tc : Thread Cert.Kernel2Ideal.nD Cert.Kernel2Ideal.τ).loc Cert.Kernel2Ideal.main_v25_6) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v87) = v0 c
          ∧ r.2.mem ((c.tc : Thread Cert.Reference2Ideal.nD Cert.Reference2Ideal.τ).loc Cert.Reference2Ideal.main_v89) = v1 c
          ∧ r.2.mem ((c.tc : Thread Cert.Reference2Ideal.nD Cert.Reference2Ideal.τ).loc Cert.Reference2Ideal.main_v91) = v2 c
          ∧ r.2.mem ((c.tc : Thread Cert.Reference2Ideal.nD Cert.Reference2Ideal.τ).loc Cert.Reference2Ideal.main_v93) = v3 c
          ∧ r.2.mem ((c.tc : Thread Cert.Reference2Ideal.nD Cert.Reference2Ideal.τ).loc Cert.Reference2Ideal.main_v95) = v4 c
          ∧ r.2.mem ((c.tc : Thread Cert.Reference2Ideal.nD Cert.Reference2Ideal.τ).loc Cert.Reference2Ideal.main_v97) = v5 c
          ∧ r.2.mem ((c.tc : Thread Cert.Reference2Ideal.nD Cert.Reference2Ideal.τ).loc Cert.Reference2Ideal.main_v98) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v5_0)) (v1 : (c : Dev Cert.Kernel5Ideal.nD) → Buf (Elt Ideal) ((c.tc : Thread Cert.Kernel5Ideal.nD Cert.Kernel5Ideal.τ).loc Cert.Kernel5Ideal.main_v5_1)) (v2 : (c : Dev Cert.Kernel5Ideal.nD) → Buf (Elt Ideal) ((c.tc : Thread Cert.Kernel5Ideal.nD Cert.Kernel5Ideal.τ).loc Cert.Kernel5Ideal.main_v5_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5_0) = v0 c
          ∧ r.2.mem ((c.tc : Thread Cert.Kernel5Ideal.nD Cert.Kernel5Ideal.τ).loc Cert.Kernel5Ideal.main_v5_1) = v1 c
          ∧ r.2.mem ((c.tc : Thread Cert.Kernel5Ideal.nD Cert.Kernel5Ideal.τ).loc Cert.Kernel5Ideal.main_v5_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v38) = v0 c
          ∧ r.2.mem ((c.tc : Thread Cert.Reference5Ideal.nD Cert.Reference5Ideal.τ).loc Cert.Reference5Ideal.main_v40) = v1 c
          ∧ r.2.mem ((c.tc : Thread Cert.Reference5Ideal.nD Cert.Reference5Ideal.τ).loc Cert.Reference5Ideal.main_v42) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2_0)) (v1 : (c : Dev Cert.Kernel6Ideal.nD) → Buf (Elt Ideal) ((c.tc : Thread Cert.Kernel6Ideal.nD Cert.Kernel6Ideal.τ).loc Cert.Kernel6Ideal.main_v2_1)) (v2 : (c : Dev Cert.Kernel6Ideal.nD) → Buf (Elt Ideal) ((c.tc : Thread Cert.Kernel6Ideal.nD Cert.Kernel6Ideal.τ).loc Cert.Kernel6Ideal.main_v2_2)) (v3 : (c : Dev Cert.Kernel6Ideal.nD) → Buf (Elt Ideal) ((c.tc : Thread Cert.Kernel6Ideal.nD Cert.Kernel6Ideal.τ).loc Cert.Kernel6Ideal.main_v2_3)) (v4 : (c : Dev Cert.Kernel6Ideal.nD) → Buf (Elt Ideal) ((c.tc : Thread Cert.Kernel6Ideal.nD Cert.Kernel6Ideal.τ).loc Cert.Kernel6Ideal.main_v2_4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2_0) = v0 c
          ∧ r.2.mem ((c.tc : Thread Cert.Kernel6Ideal.nD Cert.Kernel6Ideal.τ).loc Cert.Kernel6Ideal.main_v2_1) = v1 c
          ∧ r.2.mem ((c.tc : Thread Cert.Kernel6Ideal.nD Cert.Kernel6Ideal.τ).loc Cert.Kernel6Ideal.main_v2_2) = v2 c
          ∧ r.2.mem ((c.tc : Thread Cert.Kernel6Ideal.nD Cert.Kernel6Ideal.τ).loc Cert.Kernel6Ideal.main_v2_3) = v3 c
          ∧ r.2.mem ((c.tc : Thread Cert.Kernel6Ideal.nD Cert.Kernel6Ideal.τ).loc Cert.Kernel6Ideal.main_v2_4) = v4 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v14) = v0 c
          ∧ r.2.mem ((c.tc : Thread Cert.Reference6Ideal.nD Cert.Reference6Ideal.τ).loc Cert.Reference6Ideal.main_v15) = v1 c
          ∧ r.2.mem ((c.tc : Thread Cert.Reference6Ideal.nD Cert.Reference6Ideal.τ).loc Cert.Reference6Ideal.main_v18) = v2 c
          ∧ r.2.mem ((c.tc : Thread Cert.Reference6Ideal.nD Cert.Reference6Ideal.τ).loc Cert.Reference6Ideal.main_v21) = v3 c
          ∧ r.2.mem ((c.tc : Thread Cert.Reference6Ideal.nD Cert.Reference6Ideal.τ).loc Cert.Reference6Ideal.main_v23) = v4 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v8_0)) (v1 : (c : Dev Cert.Kernel9Ideal.nD) → Buf (Elt Ideal) ((c.tc : Thread Cert.Kernel9Ideal.nD Cert.Kernel9Ideal.τ).loc Cert.Kernel9Ideal.main_v8_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v8_0) = v0 c
          ∧ r.2.mem ((c.tc : Thread Cert.Kernel9Ideal.nD Cert.Kernel9Ideal.τ).loc Cert.Kernel9Ideal.main_v8_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_v10) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite.lean ====
abbrev S1x8192x256 : Shape := ⟨3, ![1, 8192, 256]⟩
abbrev S1x8192x4x64 : Shape := ⟨4, ![1, 8192, 4, 64]⟩
abbrev S256 : Shape := ⟨1, ![256]⟩
abbrev S_ : Shape := ⟨0, ![]⟩

class Facts : Prop where
  bcast_S_S1x8192x256 : S_.BroadcastsInDim S1x8192x256 (![] : Fin 0 → Fin S1x8192x256.rank)
  bcast_S_S1x8192x4x64 : S_.BroadcastsInDim S1x8192x4x64 (![] : Fin 0 → Fin S1x8192x4x64.rank)
  bcast_S_S256 : S_.BroadcastsInDim S256 (![] : Fin 0 → Fin S256.rank)

variable [Facts]

def fn {F : FTy → Type} [FloatOps F] (main_arg0 : FVec F S1x8192x256 .f32) (main_arg1 : FVec F S1x8192x4x64 .f32) (main_arg2 : FVec F S1x8192x4x64 .f32) (main_arg3 : FVec F S1x8192x4x64 .f32) (main_arg4 : FVec F S1x8192x4x64 .f32) (main_arg5 : FVec F S256 .f32) : IVec S1x8192x256 1 × IVec S1x8192x4x64 1 × IVec S1x8192x4x64 1 × IVec S1x8192x4x64 1 × IVec S1x8192x4x64 1 × IVec S256 1 :=
  let main_v0 : FVec F S1x8192x256 .f32 := Host.absf main_arg0
  let main_cst : FVec F S_ .f32 := constant S_ .f32 0x7F800000#32
  let main_v1 : FVec F S1x8192x256 .f32 := broadcastInDim S1x8192x256 ![] bcast_S_S1x8192x256 main_cst
  let main_v2 : IVec S1x8192x256 1 := cmpf .olt main_v0 main_v1
  let main_v3 : FVec F S1x8192x4x64 .f32 := Host.absf main_arg1
  let main_cst_0 : FVec F S_ .f32 := constant S_ .f32 0x7F800000#32
  let main_v4 : FVec F S1x8192x4x64 .f32 := broadcastInDim S1x8192x4x64 ![] bcast_S_S1x8192x4x64 main_cst_0
  let main_v5 : IVec S1x8192x4x64 1 := cmpf .olt main_v3 main_v4
  let main_v6 : FVec F S1x8192x4x64 .f32 := Host.absf main_arg2
  let main_cst_1 : FVec F S_ .f32 := constant S_ .f32 0x7F800000#32
  let main_v7 : FVec F S1x8192x4x64 .f32 := broadcastInDim S1x8192x4x64 ![] bcast_S_S1x8192x4x64 main_cst_1
  let main_v8 : IVec S1x8192x4x64 1 := cmpf .olt main_v6 main_v7
  let main_v9 : FVec F S1x8192x4x64 .f32 := Host.absf main_arg3
  let main_cst_2 : FVec F S_ .f32 := constant S_ .f32 0x7F800000#32
  let main_v10 : FVec F S1x8192x4x64 .f32 := broadcastInDim S1x8192x4x64 ![] bcast_S_S1x8192x4x64 main_cst_2
  let main_v11 : IVec S1x8192x4x64 1 := cmpf .olt main_v9 main_v10
  let main_v12 : FVec F S1x8192x4x64 .f32 := Host.absf main_arg4
  let main_cst_3 : FVec F S_ .f32 := constant S_ .f32 0x7F800000#32
  let main_v13 : FVec F S1x8192x4x64 .f32 := broadcastInDim S1x8192x4x64 ![] bcast_S_S1x8192x4x64 main_cst_3
  let main_v14 : IVec S1x8192x4x64 1 := cmpf .olt main_v12 main_v13
  let main_v15 : FVec F S256 .f32 := Host.absf main_arg5
  let main_cst_4 : FVec F S_ .f32 := constant S_ .f32 0x7F800000#32
  let main_v16 : FVec F S256 .f32 := broadcastInDim S256 ![] bcast_S_S256 main_cst_4
  let main_v17 : IVec S256 1 := cmpf .olt main_v15 main_v16
  (main_v2, main_v5, main_v8, main_v11, main_v14, main_v17)
-- ==== Pre_finite2.lean ====
abbrev S1x8192x1024 : Shape := ⟨3, ![1, 8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S1x8192x1024 : S_.BroadcastsInDim S1x8192x1024 (![] : Fin 0 → Fin S1x8192x1024.rank)
  bcast_S_S1024 : S_.BroadcastsInDim S1024 (![] : Fin 0 → Fin S1024.rank)
  bcast_S_S1024x5632 : S_.BroadcastsInDim S1024x5632 (![] : Fin 0 → Fin S1024x5632.rank)
  bcast_S_S2816x1024 : S_.BroadcastsInDim S2816x1024 (![] : Fin 0 → Fin S2816x1024.rank)

variable [Facts]

def fn {F : FTy → Type} [FloatOps F] (main_arg0 : FVec F S1x8192x1024 .f32) (main_arg1 : FVec F S1x8192x1024 .f32) (main_arg2 : FVec F S1024 .f32) (main_arg3 : FVec F S1024x5632 .f32) (main_arg4 : FVec F S2816x1024 .f32) : IVec S1x8192x1024 1 × IVec S1x8192x1024 1 × IVec S1024 1 × IVec S1024x5632 1 × IVec S2816x1024 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_v3 : FVec F S1x8192x1024 .f32 := Host.absf main_arg1
  let main_cst_0 : FVec F S_ .f32 := constant S_ .f32 0x7F800000#32
  let main_v4 : FVec F S1x8192x1024 .f32 := broadcastInDim S1x8192x1024 ![] bcast_S_S1x8192x1024 main_cst_0
  let main_v5 : IVec S1x8192x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x5632 .f32 := Host.absf main_arg3
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_v12 : FVec F S2816x1024 .f32 := Host.absf main_arg4
  let main_cst_3 : FVec F S_ .f32 := constant S_ .f32 0x7F800000#32
  let main_v13 : FVec F S2816x1024 .f32 := broadcastInDim S2816x1024 ![] bcast_S_S2816x1024 main_cst_3
  let main_v14 : IVec S2816x1024 1 := cmpf .olt main_v12 main_v13
  (main_v2, main_v5, main_v8, main_v11, main_v14)
-- ==== Kernel.lean ====
abbrev S1x8192x256 : Shape := ⟨3, ![1, 8192, 256]⟩
abbrev S1x8192x4x64 : Shape := ⟨4, ![1, 8192, 4, 64]⟩
abbrev S256 : Shape := ⟨1, ![256]⟩
abbrev S1x4x8192x8192 : Shape := ⟨4, ![1, 4, 8192, 8192]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S1x8192x8192 : Shape := ⟨3, ![1, 8192, 8192]⟩
abbrev S4 : Shape := ⟨1, ![4]⟩
abbrev S4x1x1 : Shape := ⟨3, ![4, 1, 1]⟩
abbrev S4x8192x8192 : Shape := ⟨3, ![4, 8192, 8192]⟩
abbrev S1x4x64x8192 : Shape := ⟨4, ![1, 4, 64, 8192]⟩
abbrev S16 : Shape := ⟨1, ![16]⟩
abbrev S16x1 : Shape := ⟨2, ![16, 1]⟩
abbrev S16x8192 : Shape := ⟨2, ![16, 8192]⟩
abbrev S1x16x8192 : Shape := ⟨3, ![1, 16, 8192]⟩
abbrev S4x16x8192 : Shape := ⟨3, ![4, 16, 8192]⟩
abbrev S8192x4x64 : Shape := ⟨3, ![8192, 4, 64]⟩
abbrev S4x8192x64 : Shape := ⟨3, ![4, 8192, 64]⟩
abbrev S4x1x8192x64 : Shape := ⟨4, ![4, 1, 8192, 64]⟩
abbrev S4x16x8192x1 : Shape := ⟨4, ![4, 16, 8192, 1]⟩
abbrev S4x16x8192x64 : Shape := ⟨4, ![4, 16, 8192, 64]⟩
abbrev S4x16x64x64 : Shape := ⟨4, ![4, 16, 64, 64]⟩
abbrev S4x1x64 : Shape := ⟨3, ![4, 1, 64]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S1x512x512 : Shape := ⟨3, ![1, 512, 512]⟩
abbrev S4x512x512 : Shape := ⟨3, ![4, 512, 512]⟩
abbrev S1x1x64 : Shape := ⟨3, ![1, 1, 64]⟩
abbrev S4x1 : Shape := ⟨2, ![4, 1]⟩
abbrev S4x512 : Shape := ⟨2, ![4, 512]⟩
abbrev S4x512x1 : Shape := ⟨3, ![4, 512, 1]⟩
abbrev S4x512x64 : Shape := ⟨3, ![4, 512, 64]⟩
abbrev S1x64x64 : Shape := ⟨3, ![1, 64, 64]⟩
abbrev S4x64x64 : Shape := ⟨3, ![4, 64, 64]⟩
abbrev S1x512x64 : Shape := ⟨3, ![1, 512, 64]⟩
abbrev S1x1x64x64 : Shape := ⟨4, ![1, 1, 64, 64]⟩
abbrev S64x64 : Shape := ⟨2, ![64, 64]⟩
abbrev S1x64 : Shape := ⟨2, ![1, 64]⟩
abbrev S512x64 : Shape := ⟨2, ![512, 64]⟩
abbrev S64 : Shape := ⟨1, ![64]⟩

abbrev nBuf : Space → Nat
  | .hbm => 240
  | .vmem => 35
  | .smem => 0
  | _ => 0

abbrev hbmTy0_0 (i : Nat) : BufTy := match i % 128 with
  | 0 => ⟨S1x8192x256, .f32⟩
  | 1 => ⟨S1x8192x4x64, .f32⟩
  | 2 => ⟨S1x8192x4x64, .f32⟩
  | 3 => ⟨S1x8192x4x64, .f32⟩
  | 4 => ⟨S1x8192x4x64, .f32⟩
  | 5 => ⟨S256, .f32⟩
  | 6 => ⟨S1x4x8192x8192, .f32⟩
  | 7 => ⟨S8192, .i32⟩
  | 8 => ⟨S_, .i32⟩
  | 9 => ⟨S_, .i32⟩
  | 10 => ⟨S8192, .i32⟩
  | 11 => ⟨S8192, .i32⟩
  | 12 => ⟨S8192, .i32⟩
  | 13 => ⟨S_, .i32⟩
  | 14 => ⟨S8192, .i32⟩
  | 15 => ⟨S8192, .i1⟩
  | 16 => ⟨S8192, .i32⟩
  | 17 => ⟨S8192, .i32⟩
  | 18 => ⟨S_, .i32⟩
  | 19 => ⟨S8192, .i32⟩
  | 20 => ⟨S8192, .i1⟩
  | 21 => ⟨S8192, .i1⟩
  | 22 => ⟨S_, .i32⟩
  | 23 => ⟨S8192, .i32⟩
  | 24 => ⟨S8192, .i32⟩
  | 25 => ⟨S8192, .i32⟩
  | 26 => ⟨S8192, .f32⟩
  | 27 => ⟨S8192x1, .f32⟩
  | 28 => ⟨S1x8192, .f32⟩
  | 29 => ⟨S8192x8192, .f32⟩
  | 30 => ⟨S8192x8192, .f32⟩
  | 31 => ⟨S8192x8192, .f32⟩
  | 32 => ⟨S8192x1, .i32⟩
  | 33 => ⟨S1x8192, .i32⟩
  | 34 => ⟨S8192x8192, .i32⟩
  | 35 => ⟨S8192x8192, .i32⟩
  | 36 => ⟨S8192x8192, .i1⟩
  | 37 => ⟨S8192x8192, .f32⟩
  | 38 => ⟨S8192x8192, .f32⟩
  | 39 => ⟨S1x8192, .i32⟩
  | 40 => ⟨S8192x1, .i32⟩
  | 41 => ⟨S8192x8192, .i32⟩
  | 42 => ⟨S8192x8192, .i32⟩
  | 43 => ⟨S8192x8192, .i1⟩
  | 44 => ⟨S1x8192x8192, .i1⟩
  | 45 => ⟨S4, .f32⟩
  | 46 => ⟨S_, .f32⟩
  | 47 => ⟨S4, .f32⟩
  | 48 => ⟨S4, .f32⟩
  | 49 => ⟨S_, .f32⟩
  | 50 => ⟨S4, .f32⟩
  | 51 => ⟨S4, .f32⟩
  | 52 => ⟨S4, .f32⟩
  | 53 => ⟨S4, .f32⟩
  | 54 => ⟨S4, .f32⟩
  | 55 => ⟨S4x1x1, .f32⟩
  | 56 => ⟨S1x8192x8192, .f32⟩
  | 57 => ⟨S4x8192x8192, .f32⟩
  | 58 => ⟨S4x8192x8192, .f32⟩
  | 59 => ⟨S4x8192x8192, .f32⟩
  | 60 => ⟨S4x8192x8192, .f32⟩
  | 61 => ⟨S_, .f32⟩
  | 62 => ⟨S_, .f32⟩
  | 63 => ⟨S4x8192x8192, .i1⟩
  | 64 => ⟨S4x8192x8192, .f32⟩
  | 65 => ⟨S4x8192x8192, .f32⟩
  | 66 => ⟨S1x4x8192x8192, .f32⟩
  | 67 => ⟨S1x4x8192x8192, .f32⟩
  | 68 => ⟨S1x4x64x8192, .f32⟩
  | 69 => ⟨S1x8192x4x64, .f32⟩
  | 70 => ⟨S16, .i32⟩
  | 71 => ⟨S_, .i32⟩
  | 72 => ⟨S16, .i32⟩
  | 73 => ⟨S16, .i32⟩
  | 74 => ⟨S16, .f32⟩
  | 75 => ⟨S8192, .i32⟩
  | 76 => ⟨S16x1, .f32⟩
  | 77 => ⟨S_, .f32⟩
  | 78 => ⟨S16x1, .f32⟩
  | 79 => ⟨S16x1, .f32⟩
  | 80 => ⟨S8192, .f32⟩
  | 81 => ⟨S1x8192, .f32⟩
  | 82 => ⟨S16x8192, .f32⟩
  | 83 => ⟨S16x8192, .f32⟩
  | 84 => ⟨S16x8192, .f32⟩
  | 85 => ⟨S1x8192, .i32⟩
  | 86 => ⟨S16x1, .i32⟩
  | 87 => ⟨S16x8192, .i32⟩
  | 88 => ⟨S16x8192, .i32⟩
  | 89 => ⟨S16x8192, .i1⟩
  | 90 => ⟨S1x16x8192, .i1⟩
  | 91 => ⟨S4, .f32⟩
  | 92 => ⟨S_, .f32⟩
  | 93 => ⟨S4, .f32⟩
  | 94 => ⟨S4, .f32⟩
  | 95 => ⟨S_, .f32⟩
  | 96 => ⟨S4, .f32⟩
  | 97 => ⟨S4, .f32⟩
  | 98 => ⟨S4, .f32⟩
  | 99 => ⟨S4, .f32⟩
  | 100 => ⟨S4, .f32⟩
  | 101 => ⟨S4x1x1, .f32⟩
  | 102 => ⟨S1x16x8192, .f32⟩
  | 103 => ⟨S4x16x8192, .f32⟩
  | 104 => ⟨S4x16x8192, .f32⟩
  | 105 => ⟨S4x16x8192, .f32⟩
  | 106 => ⟨S4x16x8192, .f32⟩
  | 107 => ⟨S_, .f32⟩
  | 108 => ⟨S_, .f32⟩
  | 109 => ⟨S4x16x8192, .i1⟩
  | 110 => ⟨S4x16x8192, .f32⟩
  | 111 => ⟨S4x16x8192, .f32⟩
  | 112 => ⟨S8192x4x64, .f32⟩
  | 113 => ⟨S4x8192x64, .f32⟩
  | 114 => ⟨S4x1x8192x64, .f32⟩
  | 115 => ⟨S4x16x8192x1, .f32⟩
  | 116 => ⟨S4x16x8192x64, .f32⟩
  | 117 => ⟨S4x16x8192x64, .f32⟩
  | 118 => ⟨S4x16x8192x64, .f32⟩
  | 119 => ⟨S8192x4x64, .f32⟩
  | 120 => ⟨S4x8192x64, .f32⟩
  | 121 => ⟨S4x16x64x64, .f32⟩
  | 122 => ⟨S8192x4x64, .f32⟩
  | 123 => ⟨S4x8192x64, .f32⟩
  | 124 => ⟨S8192x4x64, .f32⟩
  | 125 => ⟨S4x8192x64, .f32⟩
  | 126 => ⟨S4x8192x64, .bf16⟩
  | 127 => ⟨S8192x4x64, .f32⟩
  | _ => ⟨S1x8192x256, .f32⟩

abbrev hbmTy0_1 (i : Nat) : BufTy := match i % 128 with
  | 0 => ⟨S4x8192x64, .f32⟩
  | 1 => ⟨S4x8192x64, .bf16⟩
  | 2 => ⟨S8192x4x64, .f32⟩
  | 3 => ⟨S4x8192x64, .f32⟩
  | 4 => ⟨S4x8192x64, .bf16⟩
  | 5 => ⟨S8192x4x64, .f32⟩
  | 6 => ⟨S4x8192x64, .f32⟩
  | 7 => ⟨S4x1x64, .f32⟩
  | 8 => ⟨S8192x4x64, .f32⟩
  | 9 => ⟨S4x8192x64, .f32⟩
  | 10 => ⟨S4, .f32⟩
  | 11 => ⟨S_, .f32⟩
  | 12 => ⟨S4, .f32⟩
  | 13 => ⟨S4, .f32⟩
  | 14 => ⟨S_, .f32⟩
  | 15 => ⟨S4, .f32⟩
  | 16 => ⟨S4, .f32⟩
  | 17 => ⟨S4, .f32⟩
  | 18 => ⟨S4, .f32⟩
  | 19 => ⟨S4, .f32⟩
  | 20 => ⟨S512, .f32⟩
  | 21 => ⟨S512x1, .f32⟩
  | 22 => ⟨S1x512, .f32⟩
  | 23 => ⟨S512x512, .f32⟩
  | 24 => ⟨S512x512, .f32⟩
  | 25 => ⟨S512x512, .f32⟩
  | 26 => ⟨S512, .i32⟩
  | 27 => ⟨S_, .i32⟩
  | 28 => ⟨S_, .i32⟩
  | 29 => ⟨S512, .i32⟩
  | 30 => ⟨S512, .i32⟩
  | 31 => ⟨S512, .i32⟩
  | 32 => ⟨S_, .i32⟩
  | 33 => ⟨S512, .i32⟩
  | 34 => ⟨S512, .i1⟩
  | 35 => ⟨S512, .i32⟩
  | 36 => ⟨S512, .i32⟩
  | 37 => ⟨S_, .i32⟩
  | 38 => ⟨S512, .i32⟩
  | 39 => ⟨S512, .i1⟩
  | 40 => ⟨S512, .i1⟩
  | 41 => ⟨S_, .i32⟩
  | 42 => ⟨S512, .i32⟩
  | 43 => ⟨S512, .i32⟩
  | 44 => ⟨S512, .i32⟩
  | 45 => ⟨S512x1, .i32⟩
  | 46 => ⟨S1x512, .i32⟩
  | 47 => ⟨S512x512, .i32⟩
  | 48 => ⟨S512x512, .i32⟩
  | 49 => ⟨S512x512, .i1⟩
  | 50 => ⟨S1x512, .i32⟩
  | 51 => ⟨S512x1, .i32⟩
  | 52 => ⟨S512x512, .i32⟩
  | 53 => ⟨S512x512, .i32⟩
  | 54 => ⟨S512x512, .i1⟩
  | 55 => ⟨S512x512, .f32⟩
  | 56 => ⟨S512x512, .f32⟩
  | 57 => ⟨S512x512, .i1⟩
  | 58 => ⟨S4x1x1, .f32⟩
  | 59 => ⟨S1x512x512, .f32⟩
  | 60 => ⟨S4x512x512, .f32⟩
  | 61 => ⟨S4x512x512, .f32⟩
  | 62 => ⟨S4x512x512, .f32⟩
  | 63 => ⟨S4x512x512, .f32⟩
  | 64 => ⟨S_, .f32⟩
  | 65 => ⟨S_, .f32⟩
  | 66 => ⟨S4x512x512, .i1⟩
  | 67 => ⟨S4x512x512, .f32⟩
  | 68 => ⟨S4x512x512, .f32⟩
  | 69 => ⟨S_, .f32⟩
  | 70 => ⟨S1x1x64, .f32⟩
  | 71 => ⟨S4x1, .f32⟩
  | 72 => ⟨S_, .f32⟩
  | 73 => ⟨S512, .f32⟩
  | 74 => ⟨S512, .f32⟩
  | 75 => ⟨S1x512, .f32⟩
  | 76 => ⟨S4x512, .f32⟩
  | 77 => ⟨S4x512, .f32⟩
  | 78 => ⟨S4x512, .f32⟩
  | 79 => ⟨S4x512, .f32⟩
  | 80 => ⟨S4x512x1, .f32⟩
  | 81 => ⟨S4x512x64, .f32⟩
  | 82 => ⟨S4x512x64, .f32⟩
  | 83 => ⟨S4x512x64, .f32⟩
  | 84 => ⟨S4x1, .f32⟩
  | 85 => ⟨S_, .f32⟩
  | 86 => ⟨S512, .f32⟩
  | 87 => ⟨S512, .f32⟩
  | 88 => ⟨S1x512, .f32⟩
  | 89 => ⟨S4x512, .f32⟩
  | 90 => ⟨S4x512, .f32⟩
  | 91 => ⟨S4x512, .f32⟩
  | 92 => ⟨S4x512, .f32⟩
  | 93 => ⟨S4x512x1, .f32⟩
  | 94 => ⟨S4x512x64, .f32⟩
  | 95 => ⟨S4x512x64, .f32⟩
  | 96 => ⟨S4x512x64, .f32⟩
  | 97 => ⟨S_, .f32⟩
  | 98 => ⟨S4, .f32⟩
  | 99 => ⟨S4, .f32⟩
  | 100 => ⟨S4, .f32⟩
  | 101 => ⟨S4x1x1, .f32⟩
  | 102 => ⟨S_, .f32⟩
  | 103 => ⟨S1x64x64, .f32⟩
  | 104 => ⟨S4x64x64, .f32⟩
  | 105 => ⟨S4x64x64, .f32⟩
  | 106 => ⟨S4x64x64, .f32⟩
  | 107 => ⟨S4x8192x64, .f32⟩
  | 108 => ⟨S4x8192x64, .f32⟩
  | 109 => ⟨S4x8192x64, .f32⟩
  | 110 => ⟨S4x8192x64, .f32⟩
  | 111 => ⟨S4x1x64, .f32⟩
  | _ => ⟨S1x8192x256, .f32⟩

abbrev hbmTy (i : Nat) : BufTy := match i / 128 with
  | 0 => hbmTy0_0 i
  | 1 => hbmTy0_1 i
  | _ => ⟨S1x8192x256, .f32⟩

abbrev bufTy : (tb : Table) → Fin (tcTables nBuf tb) → BufTy
  | .hbm, ⟨i, _⟩ => hbmTy i
  | .local _ .vmem, ⟨0, _⟩ => ⟨S1x512x64, .f32⟩
  | .local _ .vmem, ⟨1, _⟩ => ⟨S1x512x64, .f32⟩
  | .local _ .vmem, ⟨2, _⟩ => ⟨S1x512x64, .bf16⟩
  | .local _ .vmem, ⟨3, _⟩ => ⟨S1x512x64, .bf16⟩
  | .local _ .vmem, ⟨4, _⟩ => ⟨S1x512x64, .bf16⟩
  | .local _ .vmem, ⟨5, _⟩ => ⟨S1x512x64, .bf16⟩
  | .local _ .vmem, ⟨6, _⟩ => ⟨S1x512x64, .bf16⟩
  | .local _ .vmem, ⟨7, _⟩ => ⟨S1x512x64, .bf16⟩
  | .local _ .vmem, ⟨8, _⟩ => ⟨S1x512x64, .f32⟩
  | .local _ .vmem, ⟨9, _⟩ => ⟨S1x512x64, .f32⟩
  | .local _ .vmem, ⟨10, _⟩ => ⟨S1x1x64, .f32⟩
  | .local _ .vmem, ⟨11, _⟩ => ⟨S1x1x64, .f32⟩
  | .local _ .vmem, ⟨12, _⟩ => ⟨S1x512x64, .f32⟩
  | .local _ .vmem, ⟨13, _⟩ => ⟨S1x512x64, .f32⟩
  | .local _ .vmem, ⟨14, _⟩ => ⟨S1x1x64x64, .f32⟩
  | .local _ .vmem, ⟨15, _⟩ => ⟨S1x1x64x64, .f32⟩
  | .local _ .vmem, ⟨16, _⟩ => ⟨S1x512x512, .f32⟩
  | .local _ .vmem, ⟨17, _⟩ => ⟨S1x512x512, .f32⟩
  | .local _ .vmem, ⟨18, _⟩ => ⟨S1x512x64, .f32⟩
  | .local _ .vmem, ⟨19, _⟩ => ⟨S1x512x64, .f32⟩
  | .local _ .vmem, ⟨20, _⟩ => ⟨S1x512x64, .f32⟩
  | .local _ .vmem, ⟨21, _⟩ => ⟨S1x512x64, .f32⟩
  | .local _ .vmem, ⟨22, _⟩ => ⟨S1x64x64, .f32⟩
  | .local _ .vmem, ⟨23, _⟩ => ⟨S1x64x64, .f32⟩
  | .local _ .vmem, ⟨24, _⟩ => ⟨S1x512x64, .f32⟩
  | .local _ .vmem, ⟨25, _⟩ => ⟨S1x512x64, .f32⟩
  | .local _ .vmem, ⟨26, _⟩ => ⟨S1x512x64, .f32⟩
  | .local _ .vmem, ⟨27, _⟩ => ⟨S1x512x64, .f32⟩
  | .local _ .vmem, ⟨28, _⟩ => ⟨S1x512x64, .f32⟩
  | .local _ .vmem, ⟨29, _⟩ => ⟨S1x512x64, .f32⟩
  | .local _ .vmem, ⟨30, _⟩ => ⟨S1x512x64, .f32⟩
  | .local _ .vmem, ⟨31, _⟩ => ⟨S1x512x64, .f32⟩
  | .local _ .vmem, ⟨32, _⟩ => ⟨S1x1x64, .f32⟩
  | .local _ .vmem, ⟨33, _⟩ => ⟨S1x1x64, .f32⟩
  | .local _ .vmem, ⟨34, _⟩ => ⟨S64x64, .f32⟩
  | _, _ => ⟨S1x8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst : Ref sig .tc := ⟨.hbm, 46, rfl⟩
abbrev main_v23 : Ref sig .tc := ⟨.hbm, 47, rfl⟩
abbrev main_v24 : Ref sig .tc := ⟨.hbm, 48, rfl⟩
abbrev main_cst_0 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_1 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_c_2 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_3 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_4 : Ref sig .tc := ⟨.hbm, 92, rfl⟩
abbrev main_v61 : Ref sig .tc := ⟨.hbm, 93, rfl⟩
abbrev main_v62 : Ref sig .tc := ⟨.hbm, 94, rfl⟩
abbrev main_cst_5 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_6 : Ref sig .tc := ⟨.hbm, 107, rfl⟩
abbrev main_call3_v0 : Ref sig .tc := ⟨.hbm, 108, rfl⟩
abbrev main_call3_v1 : Ref sig .tc := ⟨.hbm, 109, rfl⟩
abbrev main_call3_v2 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_cst_7 : Ref sig .tc := ⟨.hbm, 139, rfl⟩
abbrev main_v102 : Ref sig .tc := ⟨.hbm, 140, rfl⟩
abbrev main_v103 : Ref sig .tc := ⟨.hbm, 141, rfl⟩
abbrev main_cst_8 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_c_9 : Ref sig .tc := ⟨.hbm, 155, rfl⟩
abbrev main_call4_v0 : Ref sig .tc := ⟨.hbm, 156, rfl⟩
abbrev main_call4_v1 : Ref sig .tc := ⟨.hbm, 157, rfl⟩
abbrev main_call4_v2 : Ref sig .tc := ⟨.hbm, 158, rfl⟩
abbrev main_call4_v3 : Ref sig .tc := ⟨.hbm, 159, rfl⟩
abbrev main_call4_v4 : Ref sig .tc := ⟨.hbm, 160, rfl⟩
abbrev main_call4_v5 : Ref sig .tc := ⟨.hbm, 161, rfl⟩
abbrev main_call4_v6 : Ref sig .tc := ⟨.hbm, 162, rfl⟩
abbrev main_call4_v7 : Ref sig .tc := ⟨.hbm, 163, rfl⟩
abbrev main_call4_v8 : Ref sig .tc := ⟨.hbm, 164, rfl⟩
abbrev main_call4_c : Ref sig .tc := ⟨.hbm, 165, rfl⟩
abbrev main_call4_v9 : Ref sig .tc := ⟨.hbm, 166, rfl⟩
abbrev main_call4_v10 : Ref sig .tc := ⟨.hbm, 167, rfl⟩
abbrev main_call4_v11 : Ref sig .tc := ⟨.hbm, 168, rfl⟩
abbrev main_call4_c_0 : Ref sig .tc := ⟨.hbm, 169, rfl⟩
abbrev main_call4_v12 : Ref sig .tc := ⟨.hbm, 170, rfl⟩
abbrev main_call4_v13 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_cst_10 : Ref sig .tc := ⟨.hbm, 192, rfl⟩
abbrev main_call6_v0 : Ref sig .tc := ⟨.hbm, 193, rfl⟩
abbrev main_call6_v1 : Ref sig .tc := ⟨.hbm, 194, rfl⟩
abbrev main_call6_v2 : Ref sig .tc := ⟨.hbm, 195, rfl⟩
abbrev main_v136 : Ref sig .tc := ⟨.hbm, 196, rfl⟩
abbrev main_cst_11 : Ref sig .tc := ⟨.hbm, 197, rfl⟩
abbrev main_v137 : Ref sig .tc := ⟨.hbm, 198, rfl⟩
abbrev main_v138 : Ref sig .tc := ⟨.hbm, 199, rfl⟩
abbrev main_cst_12 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_cst_13 : Ref sig .tc := ⟨.hbm, 213, rfl⟩
abbrev main_v151 : Ref sig .tc := ⟨.hbm, 214, rfl⟩
abbrev main_v152 : Ref sig .tc := ⟨.hbm, 215, rfl⟩
abbrev main_v153 : Ref sig .tc := ⟨.hbm, 216, rfl⟩
abbrev main_v154 : Ref sig .tc := ⟨.hbm, 217, rfl⟩
abbrev main_v155 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_v160 : Ref sig .tc := ⟨.hbm, 223, rfl⟩
abbrev main_v161 : Ref sig .tc := ⟨.hbm, 224, rfl⟩
abbrev main_cst_14 : Ref sig .tc := ⟨.hbm, 225, rfl⟩
abbrev main_v162 : Ref sig .tc := ⟨.hbm, 226, rfl⟩
abbrev main_v163 : Ref sig .tc := ⟨.hbm, 227, rfl⟩
abbrev main_v164 : Ref sig .tc := ⟨.hbm, 228, rfl⟩
abbrev main_v165 : Ref sig .tc := ⟨.hbm, 229, rfl⟩
abbrev main_cst_15 : Ref sig .tc := ⟨.hbm, 230, rfl⟩
abbrev main_v166 : Ref sig .tc := ⟨.hbm, 231, rfl⟩
abbrev main_v167 : Ref sig .tc := ⟨.hbm, 232, rfl⟩
abbrev main_v168 : Ref sig .tc := ⟨.hbm, 233, rfl⟩
abbrev main_v169 : Ref sig .tc := ⟨.hbm, 234, rfl⟩
abbrev main_v170_0 : Ref sig .tc := ⟨.hbm, 235, rfl⟩
abbrev main_v170_1 : Ref sig .tc := ⟨.hbm, 236, rfl⟩
abbrev main_v170_2 : Ref sig .tc := ⟨.hbm, 237, rfl⟩
abbrev main_v170_3 : Ref sig .tc := ⟨.hbm, 238, rfl⟩
abbrev main_v170_4 : Ref sig .tc := ⟨.hbm, 239, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_scratch0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_7 (i : grid0.Coords) : Fin 4 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_13 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_14 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_15 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x64x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x512x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x512x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x64x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x512x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x64 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1x64 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]
-- ==== ReferenceIdeal.lean ====
abbrev S1x8192x256 : Shape := ⟨3, ![1, 8192, 256]⟩
abbrev S1x8192x4x64 : Shape := ⟨4, ![1, 8192, 4, 64]⟩
abbrev S256 : Shape := ⟨1, ![256]⟩
abbrev S_ : Shape := ⟨0, ![]⟩
abbrev S1x4x8192x8192 : Shape := ⟨4, ![1, 4, 8192, 8192]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S1x8192x8192 : Shape := ⟨3, ![1, 8192, 8192]⟩
abbrev S4 : Shape := ⟨1, ![4]⟩
abbrev S4x1x1 : Shape := ⟨3, ![4, 1, 1]⟩
abbrev S4x8192x8192 : Shape := ⟨3, ![4, 8192, 8192]⟩
abbrev S1x4x64x8192 : Shape := ⟨4, ![1, 4, 64, 8192]⟩
abbrev S1x8192x4 : Shape := ⟨3, ![1, 8192, 4]⟩
abbrev S1x8192x4x1 : Shape := ⟨4, ![1, 8192, 4, 1]⟩
abbrev S1x1x256 : Shape := ⟨3, ![1, 1, 256]⟩
abbrev S1x256 : Shape := ⟨2, ![1, 256]⟩
abbrev S8192x4 : Shape := ⟨2, ![8192, 4]⟩
abbrev S1x4x8192x64 : Shape := ⟨4, ![1, 4, 8192, 64]⟩
abbrev S8192x4x64 : Shape := ⟨3, ![8192, 4, 64]⟩
abbrev S4x8192x64 : Shape := ⟨3, ![4, 8192, 64]⟩
abbrev S4x1x64 : Shape := ⟨3, ![4, 1, 64]⟩

abbrev nBuf : Space → Nat
  | .hbm => 178
  | .vmem => 0
  | .smem => 0
  | _ => 0

abbrev hbmTy0_0 (i : Nat) : BufTy := match i % 128 with
  | 0 => ⟨S1x8192x256, .f32⟩
  | 1 => ⟨S1x8192x4x64, .f32⟩
  | 2 => ⟨S1x8192x4x64, .f32⟩
  | 3 => ⟨S1x8192x4x64, .f32⟩
  | 4 => ⟨S1x8192x4x64, .f32⟩
  | 5 => ⟨S256, .f32⟩
  | 6 => ⟨S1x8192x256, .f32⟩
  | 7 => ⟨S1x8192x256, .f32⟩
  | 8 => ⟨S1x8192x256, .f32⟩
  | 9 => ⟨S_, .f32⟩
  | 10 => ⟨S1x8192x256, .f32⟩
  | 11 => ⟨S1x8192x256, .f32⟩
  | 12 => ⟨S_, .f32⟩
  | 13 => ⟨S1x8192x256, .f32⟩
  | 14 => ⟨S1x8192x256, .f32⟩
  | 15 => ⟨S_, .f32⟩
  | 16 => ⟨S1x8192x256, .f32⟩
  | 17 => ⟨S1x8192x256, .f32⟩
  | 18 => ⟨S1x8192x256, .f32⟩
  | 19 => ⟨S1x8192x256, .f32⟩
  | 20 => ⟨S1x4x8192x8192, .f32⟩
  | 21 => ⟨S8192, .i32⟩
  | 22 => ⟨S_, .i32⟩
  | 23 => ⟨S_, .i32⟩
  | 24 => ⟨S8192, .i32⟩
  | 25 => ⟨S8192, .i32⟩
  | 26 => ⟨S8192, .i32⟩
  | 27 => ⟨S_, .i32⟩
  | 28 => ⟨S8192, .i32⟩
  | 29 => ⟨S8192, .i1⟩
  | 30 => ⟨S8192, .i32⟩
  | 31 => ⟨S8192, .i32⟩
  | 32 => ⟨S_, .i32⟩
  | 33 => ⟨S8192, .i32⟩
  | 34 => ⟨S8192, .i1⟩
  | 35 => ⟨S8192, .i1⟩
  | 36 => ⟨S_, .i32⟩
  | 37 => ⟨S8192, .i32⟩
  | 38 => ⟨S8192, .i32⟩
  | 39 => ⟨S8192, .i32⟩
  | 40 => ⟨S8192, .f32⟩
  | 41 => ⟨S8192x1, .f32⟩
  | 42 => ⟨S1x8192, .f32⟩
  | 43 => ⟨S8192x8192, .f32⟩
  | 44 => ⟨S8192x8192, .f32⟩
  | 45 => ⟨S8192x8192, .f32⟩
  | 46 => ⟨S8192x1, .i32⟩
  | 47 => ⟨S1x8192, .i32⟩
  | 48 => ⟨S8192x8192, .i32⟩
  | 49 => ⟨S8192x8192, .i32⟩
  | 50 => ⟨S8192x8192, .i1⟩
  | 51 => ⟨S8192x8192, .f32⟩
  | 52 => ⟨S8192x8192, .f32⟩
  | 53 => ⟨S1x8192, .i32⟩
  | 54 => ⟨S8192x1, .i32⟩
  | 55 => ⟨S8192x8192, .i32⟩
  | 56 => ⟨S8192x8192, .i32⟩
  | 57 => ⟨S8192x8192, .i1⟩
  | 58 => ⟨S1x8192x8192, .i1⟩
  | 59 => ⟨S4, .f32⟩
  | 60 => ⟨S_, .f32⟩
  | 61 => ⟨S4, .f32⟩
  | 62 => ⟨S4, .f32⟩
  | 63 => ⟨S_, .f32⟩
  | 64 => ⟨S4, .f32⟩
  | 65 => ⟨S4, .f32⟩
  | 66 => ⟨S4, .f32⟩
  | 67 => ⟨S4, .f32⟩
  | 68 => ⟨S4, .f32⟩
  | 69 => ⟨S4x1x1, .f32⟩
  | 70 => ⟨S1x8192x8192, .f32⟩
  | 71 => ⟨S4x8192x8192, .f32⟩
  | 72 => ⟨S4x8192x8192, .f32⟩
  | 73 => ⟨S4x8192x8192, .f32⟩
  | 74 => ⟨S4x8192x8192, .f32⟩
  | 75 => ⟨S_, .f32⟩
  | 76 => ⟨S_, .f32⟩
  | 77 => ⟨S4x8192x8192, .i1⟩
  | 78 => ⟨S4x8192x8192, .f32⟩
  | 79 => ⟨S4x8192x8192, .f32⟩
  | 80 => ⟨S1x4x8192x8192, .f32⟩
  | 81 => ⟨S1x4x8192x8192, .f32⟩
  | 82 => ⟨S1x4x64x8192, .f32⟩
  | 83 => ⟨S1x8192x4x64, .f32⟩
  | 84 => ⟨S_, .f32⟩
  | 85 => ⟨S1x8192x4, .f32⟩
  | 86 => ⟨S1x8192x4x1, .f32⟩
  | 87 => ⟨S_, .f32⟩
  | 88 => ⟨S1x8192x4x1, .f32⟩
  | 89 => ⟨S1x8192x4x1, .f32⟩
  | 90 => ⟨S1x8192x4x64, .f32⟩
  | 91 => ⟨S1x8192x4x64, .f32⟩
  | 92 => ⟨S1x8192x4x64, .f32⟩
  | 93 => ⟨S_, .f32⟩
  | 94 => ⟨S1x8192x4, .f32⟩
  | 95 => ⟨S1x8192x4x1, .f32⟩
  | 96 => ⟨S_, .f32⟩
  | 97 => ⟨S1x8192x4x1, .f32⟩
  | 98 => ⟨S1x8192x4x1, .f32⟩
  | 99 => ⟨S_, .f32⟩
  | 100 => ⟨S1x8192x4x1, .f32⟩
  | 101 => ⟨S1x8192x4x1, .f32⟩
  | 102 => ⟨S1x8192x4x1, .f32⟩
  | 103 => ⟨S1x8192x4x1, .f32⟩
  | 104 => ⟨S_, .f32⟩
  | 105 => ⟨S1x8192x4x1, .f32⟩
  | 106 => ⟨S1x8192x4x1, .f32⟩
  | 107 => ⟨S1x8192x4x64, .f32⟩
  | 108 => ⟨S1x8192x4x64, .f32⟩
  | 109 => ⟨S1x8192x256, .f32⟩
  | 110 => ⟨S1x1x256, .f32⟩
  | 111 => ⟨S1x8192x256, .f32⟩
  | 112 => ⟨S1x8192x256, .f32⟩
  | 113 => ⟨S1x8192x256, .f32⟩
  | 114 => ⟨S1x8192x256, .f32⟩
  | 115 => ⟨S1x8192x256, .f32⟩
  | 116 => ⟨S1x8192x256, .f32⟩
  | 117 => ⟨S_, .f32⟩
  | 118 => ⟨S1x256, .f32⟩
  | 119 => ⟨S1x1x256, .f32⟩
  | 120 => ⟨S1x8192x256, .f32⟩
  | 121 => ⟨S1x8192x256, .f32⟩
  | 122 => ⟨S_, .f32⟩
  | 123 => ⟨S256, .f32⟩
  | 124 => ⟨S1x8192x4x64, .f32⟩
  | 125 => ⟨S1x8192x4x64, .f32⟩
  | 126 => ⟨S_, .f32⟩
  | 127 => ⟨S1x8192x4, .f32⟩
  | _ => ⟨S1x8192x256, .f32⟩

abbrev hbmTy0_1 (i : Nat) : BufTy := match i % 128 with
  | 0 => ⟨S1x8192x4x1, .f32⟩
  | 1 => ⟨S1x8192x4x64, .f32⟩
  | 2 => ⟨S1x8192x4x64, .f32⟩
  | 3 => ⟨S1x8192x4x1, .f32⟩
  | 4 => ⟨S_, .f32⟩
  | 5 => ⟨S1x8192x4x1, .f32⟩
  | 6 => ⟨S1x8192x4x1, .f32⟩
  | 7 => ⟨S_, .f32⟩
  | 8 => ⟨S8192x4, .f32⟩
  | 9 => ⟨S1x8192x4, .f32⟩
  | 10 => ⟨S1x8192x4x64, .f32⟩
  | 11 => ⟨S1x8192x4x64, .f32⟩
  | 12 => ⟨S1x8192x4x64, .f32⟩
  | 13 => ⟨S1x8192x4x64, .f32⟩
  | 14 => ⟨S1x8192x4x64, .f32⟩
  | 15 => ⟨S1x8192x4x64, .f32⟩
  | 16 => ⟨S_, .f32⟩
  | 17 => ⟨S1x8192x4, .f32⟩
  | 18 => ⟨S1x8192x4x1, .f32⟩
  | 19 => ⟨S_, .f32⟩
  | 20 => ⟨S1x8192x4x1, .f32⟩
  | 21 => ⟨S1x8192x4x1, .f32⟩
  | 22 => ⟨S_, .f32⟩
  | 23 => ⟨S8192x4, .f32⟩
  | 24 => ⟨S1x8192x4, .f32⟩
  | 25 => ⟨S1x8192x4x64, .f32⟩
  | 26 => ⟨S1x8192x4x64, .f32⟩
  | 27 => ⟨S1x4x64x8192, .f32⟩
  | 28 => ⟨S1x4x8192x8192, .f32⟩
  | 29 => ⟨S1x4x64x8192, .f32⟩
  | 30 => ⟨S1x8192x4x64, .f32⟩
  | 31 => ⟨S1x4x8192x8192, .f32⟩
  | 32 => ⟨S1x4x8192x64, .f32⟩
  | 33 => ⟨S1x8192x4x64, .f32⟩
  | 34 => ⟨S1x4x8192x64, .f32⟩
  | 35 => ⟨S1x8192x4x64, .f32⟩
  | 36 => ⟨S1x8192x256, .f32⟩
  | 37 => ⟨S1x8192x256, .f32⟩
  | 38 => ⟨S1x8192x256, .f32⟩
  | 39 => ⟨S1x8192x256, .f32⟩
  | 40 => ⟨S1x8192x4x64, .f32⟩
  | 41 => ⟨S8192x4x64, .f32⟩
  | 42 => ⟨S4x8192x64, .f32⟩
  | 43 => ⟨S8192x4x64, .f32⟩
  | 44 => ⟨S4x8192x64, .f32⟩
  | 45 => ⟨S8192x4x64, .f32⟩
  | 46 => ⟨S4x8192x64, .f32⟩
  | 47 => ⟨S8192x4x64, .f32⟩
  | 48 => ⟨S4x8192x64, .f32⟩
  | 49 => ⟨S4x1x64, .f32⟩
  | _ => ⟨S1x8192x256, .f32⟩

abbrev hbmTy (i : Nat) : BufTy := match i / 128 with
  | 0 => hbmTy0_0 i
  | 1 => hbmTy0_1 i
  | _ => ⟨S1x8192x256, .f32⟩

abbrev bufTy : (tb : Table) → Fin (tcTables nBuf tb) → BufTy
  | .hbm, ⟨i, _⟩ => hbmTy i
  | _, _ => ⟨S1x8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v1_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v1_1 : Ref sig .tc := ⟨.hbm, 18, rfl⟩
abbrev main_v1_0 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_call1_v5 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_c : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_call1_c_0 : Ref sig .tc := ⟨.hbm, 36, rfl⟩
abbrev main_call1_v12 : Ref sig .tc := ⟨.hbm, 37, rfl⟩
abbrev main_call1_v13 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_cst : Ref sig .tc := ⟨.hbm, 60, rfl⟩
abbrev main_v25 : Ref sig .tc := ⟨.hbm, 61, rfl⟩
abbrev main_v26 : Ref sig .tc := ⟨.hbm, 62, rfl⟩
abbrev main_cst_0 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_cst_1 : Ref sig .tc := ⟨.hbm, 75, rfl⟩
abbrev main_call3_v0 : Ref sig .tc := ⟨.hbm, 76, rfl⟩
abbrev main_call3_v1 : Ref sig .tc := ⟨.hbm, 77, rfl⟩
abbrev main_call3_v2 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_cst_2 : Ref sig .tc := ⟨.hbm, 84, rfl⟩
abbrev main_v43 : Ref sig .tc := ⟨.hbm, 85, rfl⟩
abbrev main_v44 : Ref sig .tc := ⟨.hbm, 86, rfl⟩
abbrev main_cst_3 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_cst_4 : Ref sig .tc := ⟨.hbm, 93, rfl⟩
abbrev main_v50 : Ref sig .tc := ⟨.hbm, 94, rfl⟩
abbrev main_v51 : Ref sig .tc := ⟨.hbm, 95, rfl⟩
abbrev main_cst_5 : Ref sig .tc := ⟨.hbm, 96, rfl⟩
abbrev main_v52 : Ref sig .tc := ⟨.hbm, 97, rfl⟩
abbrev main_v53 : Ref sig .tc := ⟨.hbm, 98, rfl⟩
abbrev main_cst_6 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_cst_7 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_cst_8 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_cst_9 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_cst_10 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_cst_11 : Ref sig .tc := ⟨.hbm, 132, rfl⟩
abbrev main_v82 : Ref sig .tc := ⟨.hbm, 133, rfl⟩
abbrev main_v83 : Ref sig .tc := ⟨.hbm, 134, rfl⟩
abbrev main_cst_12 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_cst_13 : Ref sig .tc := ⟨.hbm, 144, rfl⟩
abbrev main_v92 : Ref sig .tc := ⟨.hbm, 145, rfl⟩
abbrev main_v93 : Ref sig .tc := ⟨.hbm, 146, rfl⟩
abbrev main_cst_14 : Ref sig .tc := ⟨.hbm, 147, rfl⟩
abbrev main_v94 : Ref sig .tc := ⟨.hbm, 148, rfl⟩
abbrev main_v95 : Ref sig .tc := ⟨.hbm, 149, rfl⟩
abbrev main_cst_15 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_call4_v0 : Ref sig .tc := ⟨.hbm, 164, rfl⟩
abbrev main_call4_v1 : Ref sig .tc := ⟨.hbm, 165, rfl⟩
abbrev main_call4_v2 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩

abbrev nD : Nat := 1
abbrev τ : Topo := Topo.v7x

variable {F : FTy → Type} [FloatOps F]
-- ==== Kernel2.lean ====
abbrev S1x8192x1024 : Shape := ⟨3, ![1, 8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S8192x1024 : Shape := ⟨2, ![8192, 1024]⟩
abbrev S8192x5632 : Shape := ⟨2, ![8192, 5632]⟩
abbrev S8192x2816 : Shape := ⟨2, ![8192, 2816]⟩
abbrev S1x1024 : Shape := ⟨2, ![1, 1024]⟩
abbrev S5632x1024 : Shape := ⟨2, ![5632, 1024]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩

abbrev nBuf : Space → Nat
  | .hbm => 40
  | .vmem => 24
  | .smem => 0
  | _ => 0

abbrev bufTy : (tb : Table) → Fin (tcTables nBuf tb) → BufTy
  | .hbm, ⟨0, _⟩ => ⟨S1x8192x1024, .f32⟩
  | .hbm, ⟨1, _⟩ => ⟨S1x8192x1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1x8192x1024, .f32⟩
  | .hbm, ⟨6, _⟩ => ⟨S_, .f32⟩
  | .hbm, ⟨7, _⟩ => ⟨S1x8192, .f32⟩
  | .hbm, ⟨8, _⟩ => ⟨S1x8192x1, .f32⟩
  | .hbm, ⟨9, _⟩ => ⟨S_, .f32⟩
  | .hbm, ⟨10, _⟩ => ⟨S1x8192x1, .f32⟩
  | .hbm, ⟨11, _⟩ => ⟨S1x8192x1, .f32⟩
  | .hbm, ⟨12, _⟩ => ⟨S_, .f32⟩
  | .hbm, ⟨13, _⟩ => ⟨S1x8192x1, .f32⟩
  | .hbm, ⟨14, _⟩ => ⟨S1x8192x1, .f32⟩
  | .hbm, ⟨15, _⟩ => ⟨S1x8192x1, .f32⟩
  | .hbm, ⟨16, _⟩ => ⟨S1x8192x1024, .f32⟩
  | .hbm, ⟨17, _⟩ => ⟨S1x8192x1024, .f32⟩
  | .hbm, ⟨18, _⟩ => ⟨S1x1x1024, .f32⟩
  | .hbm, ⟨19, _⟩ => ⟨S1x8192x1024, .f32⟩
  | .hbm, ⟨20, _⟩ => ⟨S1x8192x1024, .f32⟩
  | .hbm, ⟨21, _⟩ => ⟨S8192x1024, .f32⟩
  | .hbm, ⟨22, _⟩ => ⟨S8192x5632, .f32⟩
  | .hbm, ⟨23, _⟩ => ⟨S8192x2816, .f32⟩
  | .hbm, ⟨24, _⟩ => ⟨S8192x2816, .f32⟩
  | .hbm, ⟨25, _⟩ => ⟨S8192x1024, .f32⟩
  | .hbm, ⟨26, _⟩ => ⟨S8192x1024, .f32⟩
  | .hbm, ⟨27, _⟩ => ⟨S1x1024, .f32⟩
  | .hbm, ⟨28, _⟩ => ⟨S8192x2816, .bf16⟩
  | .hbm, ⟨29, _⟩ => ⟨S8192x2816, .bf16⟩
  | .hbm, ⟨30, _⟩ => ⟨S5632x1024, .f32⟩
  | .hbm, ⟨31, _⟩ => ⟨S5632x1024, .bf16⟩
  | .hbm, ⟨32, _⟩ => ⟨S2816x1024, .bf16⟩
  | .hbm, ⟨33, _⟩ => ⟨S8192x1024, .f32⟩
  | .hbm, ⟨34, _⟩ => ⟨S8192x1024, .bf16⟩
  | .hbm, ⟨35, _⟩ => ⟨S8192x1024, .bf16⟩
  | .hbm, ⟨36, _⟩ => ⟨S8192x2816, .bf16⟩
  | .hbm, ⟨37, _⟩ => ⟨S8192x2816, .bf16⟩
  | .hbm, ⟨38, _⟩ => ⟨S8192x2816, .bf16⟩
  | .hbm, ⟨39, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S5632x1024, .bf16⟩
  | .local _ .vmem, ⟨10, _⟩ => ⟨S2816x1024, .bf16⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x2816, .bf16⟩
  | .local _ .vmem, ⟨18, _⟩ => ⟨S256x2816, .bf16⟩
  | .local _ .vmem, ⟨19, _⟩ => ⟨S256x2816, .bf16⟩
  | .local _ .vmem, ⟨20, _⟩ => ⟨S256x2816, .bf16⟩
  | .local _ .vmem, ⟨21, _⟩ => ⟨S256x2816, .bf16⟩
  | .local _ .vmem, ⟨22, _⟩ => ⟨S256x2816, .bf16⟩
  | .local _ .vmem, ⟨23, _⟩ => ⟨S1x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25_0 : Ref sig .tc := ⟨.hbm, 33, rfl⟩
abbrev main_v25_1 : Ref sig .tc := ⟨.hbm, 34, rfl⟩
abbrev main_v25_2 : Ref sig .tc := ⟨.hbm, 35, rfl⟩
abbrev main_v25_3 : Ref sig .tc := ⟨.hbm, 36, rfl⟩
abbrev main_v25_4 : Ref sig .tc := ⟨.hbm, 37, rfl⟩
abbrev main_v25_5 : Ref sig .tc := ⟨.hbm, 38, rfl⟩
abbrev main_v25_6 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v83 : BitVec 1 := Scalar.cmpi .eq arg0 c0_i32
  let v84 : BitVec 32 := Scalar.extui v83
  let c0_i32_42 : BitVec 32 := 0#32
  let v85 : BitVec 1 := Scalar.cmpi .ne v84 c0_i32_42
  v85

def k0_cond2 (i : grid0.Coords) : BitVec 1 :=
  let arg0 : BitVec 32 := BitVec.ofNat 32 (i 0).val
  let c0_i32_43 : BitVec 32 := 0#32
  let v86 : BitVec 1 := Scalar.cmpi .sgt arg0 c0_i32_43
  let v87 : BitVec 32 := Scalar.extui v86
  let c0_i32_44 : BitVec 32 := 0#32
  let v88 : BitVec 1 := Scalar.cmpi .ne v87 c0_i32_44
  v88

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S5632x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference2Ideal.lean ====
abbrev S1x8192x1024 : Shape := ⟨3, ![1, 8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1x8192x5632 : Shape := ⟨3, ![1, 8192, 5632]⟩
abbrev S1x8192x2816 : Shape := ⟨3, ![1, 8192, 2816]⟩
abbrev S1x1024 : Shape := ⟨2, ![1, 1024]⟩
abbrev S8192 : Shape := ⟨1, ![8192]⟩
abbrev S8192x1024 : Shape := ⟨2, ![8192, 1024]⟩
abbrev S8192x2816 : Shape := ⟨2, ![8192, 2816]⟩

abbrev nBuf : Space → Nat
  | .hbm => 159
  | .vmem => 0
  | .smem => 0
  | _ => 0

abbrev hbmTy0_0 (i : Nat) : BufTy := match i % 128 with
  | 0 => ⟨S1x8192x1024, .f32⟩
  | 1 => ⟨S1x8192x1024, .f32⟩
  | 2 => ⟨S1024, .f32⟩
  | 3 => ⟨S1024x5632, .f32⟩
  | 4 => ⟨S2816x1024, .f32⟩
  | 5 => ⟨S1x8192x1024, .f32⟩
  | 6 => ⟨S_, .f32⟩
  | 7 => ⟨S1x8192, .f32⟩
  | 8 => ⟨S1x8192x1, .f32⟩
  | 9 => ⟨S_, .f32⟩
  | 10 => ⟨S1x8192x1, .f32⟩
  | 11 => ⟨S1x8192x1, .f32⟩
  | 12 => ⟨S_, .f32⟩
  | 13 => ⟨S1x8192x1, .f32⟩
  | 14 => ⟨S1x8192x1, .f32⟩
  | 15 => ⟨S1x8192x1, .f32⟩
  | 16 => ⟨S1x8192x1, .f32⟩
  | 17 => ⟨S_, .f32⟩
  | 18 => ⟨S1x8192x1, .f32⟩
  | 19 => ⟨S1x8192x1, .f32⟩
  | 20 => ⟨S1x8192x1024, .f32⟩
  | 21 => ⟨S1x8192x1024, .f32⟩
  | 22 => ⟨S1x1x1024, .f32⟩
  | 23 => ⟨S1x8192x1024, .f32⟩
  | 24 => ⟨S1x8192x1024, .f32⟩
  | 25 => ⟨S1x8192x5632, .f32⟩
  | 26 => ⟨S1x8192x2816, .f32⟩
  | 27 => ⟨S1x8192x2816, .f32⟩
  | 28 => ⟨S1x8192x2816, .f32⟩
  | 29 => ⟨S1x8192x2816, .f32⟩
  | 30 => ⟨S_, .f32⟩
  | 31 => ⟨S1x8192x2816, .f32⟩
  | 32 => ⟨S1x8192x2816, .f32⟩
  | 33 => ⟨S_, .f32⟩
  | 34 => ⟨S1x8192x2816, .f32⟩
  | 35 => ⟨S1x8192x2816, .f32⟩
  | 36 => ⟨S_, .f32⟩
  | 37 => ⟨S1x8192x2816, .f32⟩
  | 38 => ⟨S1x8192x2816, .f32⟩
  | 39 => ⟨S1x8192x2816, .f32⟩
  | 40 => ⟨S1x8192x2816, .f32⟩
  | 41 => ⟨S1x8192x2816, .f32⟩
  | 42 => ⟨S1x8192x1024, .f32⟩
  | 43 => ⟨S_, .f32⟩
  | 44 => ⟨S1x8192x1024, .f32⟩
  | 45 => ⟨S1x8192x1024, .f32⟩
  | 46 => ⟨S1x8192x1024, .f32⟩
  | 47 => ⟨S1x8192x1024, .f32⟩
  | 48 => ⟨S_, .f32⟩
  | 49 => ⟨S1x8192x1024, .f32⟩
  | 50 => ⟨S1x8192x1024, .f32⟩
  | 51 => ⟨S1x8192x2816, .f32⟩
  | 52 => ⟨S1x8192x2816, .f32⟩
  | 53 => ⟨S1x8192x2816, .f32⟩
  | 54 => ⟨S1x8192x2816, .f32⟩
  | 55 => ⟨S1x8192x2816, .f32⟩
  | 56 => ⟨S1x8192x2816, .f32⟩
  | 57 => ⟨S1x8192x2816, .f32⟩
  | 58 => ⟨S1x8192x5632, .f32⟩
  | 59 => ⟨S1x8192x1024, .f32⟩
  | 60 => ⟨S1x8192x1024, .f32⟩
  | 61 => ⟨S_, .f32⟩
  | 62 => ⟨S1x1024, .f32⟩
  | 63 => ⟨S1x1x1024, .f32⟩
  | 64 => ⟨S1x8192x1024, .f32⟩
  | 65 => ⟨S1x8192x1024, .f32⟩
  | 66 => ⟨S_, .f32⟩
  | 67 => ⟨S1024, .f32⟩
  | 68 => ⟨S1x8192x1024, .f32⟩
  | 69 => ⟨S_, .f32⟩
  | 70 => ⟨S1x8192, .f32⟩
  | 71 => ⟨S1x8192x1, .f32⟩
  | 72 => ⟨S1x8192x1024, .f32⟩
  | 73 => ⟨S1x8192x1024, .f32⟩
  | 74 => ⟨S1x8192x1024, .f32⟩
  | 75 => ⟨S1x8192x1, .f32⟩
  | 76 => ⟨S_, .f32⟩
  | 77 => ⟨S1x8192x1, .f32⟩
  | 78 => ⟨S1x8192x1, .f32⟩
  | 79 => ⟨S_, .f32⟩
  | 80 => ⟨S8192, .f32⟩
  | 81 => ⟨S1x8192, .f32⟩
  | 82 => ⟨S1x8192x1024, .f32⟩
  | 83 => ⟨S1x8192x1024, .f32⟩
  | 84 => ⟨S1x8192x1024, .f32⟩
  | 85 => ⟨S1x8192x1024, .f32⟩
  | 86 => ⟨S1x8192x1024, .f32⟩
  | 87 => ⟨S1x8192x1024, .f32⟩
  | 88 => ⟨S_, .f32⟩
  | 89 => ⟨S1x8192, .f32⟩
  | 90 => ⟨S1x8192x1, .f32⟩
  | 91 => ⟨S_, .f32⟩
  | 92 => ⟨S1x8192x1, .f32⟩
  | 93 => ⟨S1x8192x1, .f32⟩
  | 94 => ⟨S_, .f32⟩
  | 95 => ⟨S1x8192x1, .f32⟩
  | 96 => ⟨S1x8192x1, .f32⟩
  | 97 => ⟨S1x8192x1, .f32⟩
  | 98 => ⟨S1x8192x1024, .f32⟩
  | 99 => ⟨S1x8192x1024, .f32⟩
  | 100 => ⟨S1x1x1024, .f32⟩
  | 101 => ⟨S1x8192x1024, .f32⟩
  | 102 => ⟨S1x8192x1024, .f32⟩
  | 103 => ⟨S1x8192x5632, .f32⟩
  | 104 => ⟨S1x8192x2816, .f32⟩
  | 105 => ⟨S1x8192x2816, .f32⟩
  | 106 => ⟨S1x8192x2816, .f32⟩
  | 107 => ⟨S1x8192x2816, .f32⟩
  | 108 => ⟨S_, .f32⟩
  | 109 => ⟨S1x8192x2816, .f32⟩
  | 110 => ⟨S1x8192x2816, .f32⟩
  | 111 => ⟨S_, .f32⟩
  | 112 => ⟨S1x8192x2816, .f32⟩
  | 113 => ⟨S1x8192x2816, .f32⟩
  | 114 => ⟨S1x8192x2816, .f32⟩
  | 115 => ⟨S1x8192x2816, .f32⟩
  | 116 => ⟨S1x8192x2816, .f32⟩
  | 117 => ⟨S1x8192x2816, .f32⟩
  | 118 => ⟨S_, .f32⟩
  | 119 => ⟨S1x8192x2816, .f32⟩
  | 120 => ⟨S1x8192x2816, .f32⟩
  | 121 => ⟨S_, .f32⟩
  | 122 => ⟨S1x8192x2816, .f32⟩
  | 123 => ⟨S1x8192x2816, .f32⟩
  | 124 => ⟨S_, .f32⟩
  | 125 => ⟨S1x8192x2816, .f32⟩
  | 126 => ⟨S1x8192x2816, .f32⟩
  | 127 => ⟨S1x8192x2816, .f32⟩
  | _ => ⟨S1x8192x1024, .f32⟩

abbrev hbmTy0_1 (i : Nat) : BufTy := match i % 128 with
  | 0 => ⟨S1x8192x2816, .f32⟩
  | 1 => ⟨S1x8192x2816, .f32⟩
  | 2 => ⟨S1x8192x1024, .f32⟩
  | 3 => ⟨S_, .f32⟩
  | 4 => ⟨S1x8192x1024, .f32⟩
  | 5 => ⟨S1x8192x1024, .f32⟩
  | 6 => ⟨S_, .f32⟩
  | 7 => ⟨S1x8192x1024, .f32⟩
  | 8 => ⟨S1x8192x1024, .f32⟩
  | 9 => ⟨S1x8192x2816, .f32⟩
  | 10 => ⟨S1x8192x2816, .f32⟩
  | 11 => ⟨S1x8192x2816, .f32⟩
  | 12 => ⟨S1x8192x2816, .f32⟩
  | 13 => ⟨S1x8192x2816, .f32⟩
  | 14 => ⟨S1x8192x2816, .f32⟩
  | 15 => ⟨S1x8192x2816, .f32⟩
  | 16 => ⟨S_, .f32⟩
  | 17 => ⟨S1x8192x1024, .f32⟩
  | 18 => ⟨S1x8192x1024, .f32⟩
  | 19 => ⟨S8192x1024, .f32⟩
  | 20 => ⟨S8192x1024, .f32⟩
  | 21 => ⟨S8192x1024, .bf16⟩
  | 22 => ⟨S8192x1024, .f32⟩
  | 23 => ⟨S8192x1024, .bf16⟩
  | 24 => ⟨S8192x2816, .f32⟩
  | 25 => ⟨S8192x2816, .bf16⟩
  | 26 => ⟨S8192x2816, .f32⟩
  | 27 => ⟨S8192x2816, .bf16⟩
  | 28 => ⟨S8192x2816, .f32⟩
  | 29 => ⟨S8192x2816, .bf16⟩
  | 30 => ⟨S1x1024, .f32⟩
  | _ => ⟨S1x8192x1024, .f32⟩

abbrev hbmTy (i : Nat) : BufTy := match i / 128 with
  | 0 => hbmTy0_0 i
  | 1 => hbmTy0_1 i
  | _ => ⟨S1x8192x1024, .f32⟩

abbrev bufTy : (tb : Table) → Fin (tcTables nBuf tb) → BufTy
  | .hbm, ⟨i, _⟩ => hbmTy i
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v19_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v19_1 : Ref sig .tc := ⟨.hbm, 39, rfl⟩
abbrev main_v19_0 : Ref sig .tc := ⟨.hbm, 40, rfl⟩
abbrev main_v20 : Ref sig .tc := ⟨.hbm, 41, rfl⟩
abbrev main_v21 : Ref sig .tc := ⟨.hbm, 42, rfl⟩
abbrev main_cst_3 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_4 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_5 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_6 : Ref sig .tc := ⟨.hbm, 66, rfl⟩
abbrev main_v39 : Ref sig .tc := ⟨.hbm, 67, rfl⟩
abbrev main_v40 : Ref sig .tc := ⟨.hbm, 68, rfl⟩
abbrev main_cst_7 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_8 : Ref sig .tc := ⟨.hbm, 76, rfl⟩
abbrev main_v47 : Ref sig .tc := ⟨.hbm, 77, rfl⟩
abbrev main_v48 : Ref sig .tc := ⟨.hbm, 78, rfl⟩
abbrev main_cst_9 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_10 : Ref sig .tc := ⟨.hbm, 88, rfl⟩
abbrev main_v57 : Ref sig .tc := ⟨.hbm, 89, rfl⟩
abbrev main_v58 : Ref sig .tc := ⟨.hbm, 90, rfl⟩
abbrev main_cst_11 : Ref sig .tc := ⟨.hbm, 91, rfl⟩
abbrev main_v59 : Ref sig .tc := ⟨.hbm, 92, rfl⟩
abbrev main_v60 : Ref sig .tc := ⟨.hbm, 93, rfl⟩
abbrev main_cst_12 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_call2_v0 : Ref sig .tc := ⟨.hbm, 106, rfl⟩
abbrev main_call2_v1 : Ref sig .tc := ⟨.hbm, 107, rfl⟩
abbrev main_call2_cst : Ref sig .tc := ⟨.hbm, 108, rfl⟩
abbrev main_call2_v2 : Ref sig .tc := ⟨.hbm, 109, rfl⟩
abbrev main_call2_v3 : Ref sig .tc := ⟨.hbm, 110, rfl⟩
abbrev main_call2_cst_0 : Ref sig .tc := ⟨.hbm, 111, rfl⟩
abbrev main_call2_v4 : Ref sig .tc := ⟨.hbm, 112, rfl⟩
abbrev main_call2_v5 : Ref sig .tc := ⟨.hbm, 113, rfl⟩
abbrev main_v72 : Ref sig .tc := ⟨.hbm, 114, rfl⟩
abbrev main_v73 : Ref sig .tc := ⟨.hbm, 115, rfl⟩
abbrev main_call3_v0 : Ref sig .tc := ⟨.hbm, 116, rfl⟩
abbrev main_call3_v1 : Ref sig .tc := ⟨.hbm, 117, rfl⟩
abbrev main_call3_cst : Ref sig .tc := ⟨.hbm, 118, rfl⟩
abbrev main_call3_v2 : Ref sig .tc := ⟨.hbm, 119, rfl⟩
abbrev main_call3_v3 : Ref sig .tc := ⟨.hbm, 120, rfl⟩
abbrev main_call3_cst_0 : Ref sig .tc := ⟨.hbm, 121, rfl⟩
abbrev main_call3_v4 : Ref sig .tc := ⟨.hbm, 122, rfl⟩
abbrev main_v74_2 : Ref sig .tc := ⟨.hbm, 123, rfl⟩
abbrev main_call3_cst_1 : Ref sig .tc := ⟨.hbm, 124, rfl⟩
abbrev main_call3_v6 : Ref sig .tc := ⟨.hbm, 125, rfl⟩
abbrev main_call3_v7 : Ref sig .tc := ⟨.hbm, 126, rfl⟩
abbrev main_v74_1 : Ref sig .tc := ⟨.hbm, 127, rfl⟩
abbrev main_v74_0 : Ref sig .tc := ⟨.hbm, 128, rfl⟩
abbrev main_v75 : Ref sig .tc := ⟨.hbm, 129, rfl⟩
abbrev main_v76 : Ref sig .tc := ⟨.hbm, 130, rfl⟩
abbrev main_cst_13 : Ref sig .tc := ⟨.hbm, 131, rfl⟩
abbrev main_v77 : Ref sig .tc := ⟨.hbm, 132, rfl⟩
abbrev main_v78 : Ref sig .tc := ⟨.hbm, 133, rfl⟩
abbrev main_cst_14 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_call4_v0 : Ref sig .tc := ⟨.hbm, 140, rfl⟩
abbrev main_call4_v1 : Ref sig .tc := ⟨.hbm, 141, rfl⟩
abbrev main_call4_v2 : Ref sig .tc := ⟨.hbm, 142, rfl⟩
abbrev main_v84 : Ref sig .tc := ⟨.hbm, 143, rfl⟩
abbrev main_cst_15 : Ref sig .tc := ⟨.hbm, 144, rfl⟩
abbrev main_v85 : Ref sig .tc := ⟨.hbm, 145, rfl⟩
abbrev main_v86 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩

abbrev nD : Nat := 1
abbrev τ : Topo := Topo.v7x

variable {F : FTy → Type} [FloatOps F]
-- ==== Kernel3.lean ====
abbrev S1x8192x1024 : Shape := ⟨3, ![1, 8192, 1024]⟩
abbrev S1x8192x2816 : Shape := ⟨3, ![1, 8192, 2816]⟩
abbrev S8192x2816 : Shape := ⟨2, ![8192, 2816]⟩
abbrev S8192x1024 : Shape := ⟨2, ![8192, 1024]⟩
abbrev S5632x1024 : Shape := ⟨2, ![5632, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 10
  | .vmem => 8
  | .smem => 0
  | _ => 0

abbrev bufTy : (tb : Table) → Fin (tcTables nBuf tb) → BufTy
  | .hbm, ⟨0, _⟩ => ⟨S1x8192x1024, .f32⟩
  | .hbm, ⟨1, _⟩ => ⟨S1x8192x2816, .f32⟩
  | .hbm, ⟨2, _⟩ => ⟨S1x8192x2816, .f32⟩
  | .hbm, ⟨3, _⟩ => ⟨S8192x2816, .f32⟩
  | .hbm, ⟨4, _⟩ => ⟨S8192x2816, .bf16⟩
  | .hbm, ⟨5, _⟩ => ⟨S8192x2816, .f32⟩
  | .hbm, ⟨6, _⟩ => ⟨S8192x2816, .bf16⟩
  | .hbm, ⟨7, _⟩ => ⟨S8192x1024, .f32⟩
  | .hbm, ⟨8, _⟩ => ⟨S8192x1024, .bf16⟩
  | .hbm, ⟨9, _⟩ => ⟨S5632x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1408, .bf16⟩
  | .local _ .vmem, ⟨3, _⟩ => ⟨S2048x1408, .bf16⟩
  | .local _ .vmem, ⟨4, _⟩ => ⟨S2048x1024, .bf16⟩
  | .local _ .vmem, ⟨5, _⟩ => ⟨S2048x1024, .bf16⟩
  | .local _ .vmem, ⟨6, _⟩ => ⟨S1408x1024, .f32⟩
  | .local _ .vmem, ⟨7, _⟩ => ⟨S1408x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c2_i32 : BitVec 32 := 2#32
  let v3 : BitVec 32 := Scalar.divsi arg0 c2_i32
  let c0_i32_1 : BitVec 32 := 0#32
  let v4 : BitVec 1 := Scalar.cmpi .eq v3 c0_i32_1
  let v5 : BitVec 32 := Scalar.extui v4
  let c0_i32_2 : BitVec 32 := 0#32
  let v6 : BitVec 1 := Scalar.cmpi .ne v5 c0_i32_2
  v6

def k0_cond3 (i : grid0.Coords) : BitVec 1 :=
  let arg0 : BitVec 32 := BitVec.ofNat 32 (i 0).val
  let c2_i32_3 : BitVec 32 := 2#32
  let v7 : BitVec 32 := Scalar.divsi arg0 c2_i32_3
  let c1_i32 : BitVec 32 := 1#32
  let v8 : BitVec 1 := Scalar.cmpi .eq v7 c1_i32
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .eq v0 c0_i32
  let c0_i32_0 : BitVec 32 := 0#32
  let v2 : BitVec 32 := Scalar.select v1 arg2 c0_i32_0
  let c0_i32_1 : BitVec 32 := 0#32
  let v3 : BitVec 32 := Scalar.subi arg0 c0_i32_1
  let c0_i32_2 : BitVec 32 := 0#32
  let v4 : BitVec 32 := Scalar.select v1 v3 c0_i32_2
  let c0_i32_3 : BitVec 32 := 0#32
  ![v2.toNat, v4.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c1_i32 : BitVec 32 := 1#32
  let v1 : BitVec 1 := Scalar.cmpi .eq v0 c1_i32
  let c0_i32 : BitVec 32 := 0#32
  let v2 : BitVec 32 := Scalar.select v1 arg2 c0_i32
  let c2_i32_0 : BitVec 32 := 2#32
  let v3 : BitVec 32 := Scalar.subi arg0 c2_i32_0
  let c0_i32_1 : BitVec 32 := 0#32
  let v4 : BitVec 32 := Scalar.select v1 v3 c0_i32_1
  let c0_i32_2 : BitVec 32 := 0#32
  ![v2.toNat, v4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1408x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S1x8192x1024 : Shape := ⟨3, ![1, 8192, 1024]⟩
abbrev S1x8192x2816 : Shape := ⟨3, ![1, 8192, 2816]⟩
abbrev S_ : Shape := ⟨0, ![]⟩
abbrev S1024x5632 : Shape := ⟨2, ![1024, 5632]⟩
abbrev S1x8192x5632 : Shape := ⟨3, ![1, 8192, 5632]⟩
abbrev S5632x1024 : Shape := ⟨2, ![5632, 1024]⟩

abbrev nBuf : Space → Nat
  | .hbm => 12
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x8192x2816, .f32⟩
  | .hbm, ⟨2, _⟩ => ⟨S1x8192x2816, .f32⟩
  | .hbm, ⟨3, _⟩ => ⟨S_, .f32⟩
  | .hbm, ⟨4, _⟩ => ⟨S1024x5632, .f32⟩
  | .hbm, ⟨5, _⟩ => ⟨S1x8192x5632, .f32⟩
  | .hbm, ⟨6, _⟩ => ⟨S1x8192x2816, .f32⟩
  | .hbm, ⟨7, _⟩ => ⟨S1x8192x2816, .f32⟩
  | .hbm, ⟨8, _⟩ => ⟨S1x8192x5632, .f32⟩
  | .hbm, ⟨9, _⟩ => ⟨S5632x1024, .f32⟩
  | .hbm, ⟨10, _⟩ => ⟨S1024x5632, .f32⟩
  | .hbm, ⟨11, _⟩ => ⟨S5632x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel4.lean ====
abbrev S1x8192x2816 : Shape := ⟨3, ![1, 8192, 2816]⟩
abbrev S1x8192x1024 : Shape := ⟨3, ![1, 8192, 1024]⟩
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 7
  | .vmem => 6
  | .smem => 0
  | _ => 0

abbrev bufTy : (tb : Table) → Fin (tcTables nBuf tb) → BufTy
  | .hbm, ⟨0, _⟩ => ⟨S1x8192x2816, .f32⟩
  | .hbm, ⟨1, _⟩ => ⟨S1x8192x1024, .f32⟩
  | .hbm, ⟨2, _⟩ => ⟨S8192x2816, .f32⟩
  | .hbm, ⟨3, _⟩ => ⟨S8192x2816, .bf16⟩
  | .hbm, ⟨4, _⟩ => ⟨S8192x1024, .f32⟩
  | .hbm, ⟨5, _⟩ => ⟨S8192x1024, .bf16⟩
  | .hbm, ⟨6, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | _, _ => ⟨S1x8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c2_i32 : BitVec 32 := 2#32
  let v3 : BitVec 32 := Scalar.divsi arg0 c2_i32
  let c0_i32_1 : BitVec 32 := 0#32
  let v4 : BitVec 1 := Scalar.cmpi .eq v3 c0_i32_1
  let v5 : BitVec 32 := Scalar.extui v4
  let c0_i32_2 : BitVec 32 := 0#32
  let v6 : BitVec 1 := Scalar.cmpi .ne v5 c0_i32_2
  v6

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .eq v0 c0_i32
  let c0_i32_0 : BitVec 32 := 0#32
  let v2 : BitVec 32 := Scalar.select v1 arg2 c0_i32_0
  let c0_i32_1 : BitVec 32 := 0#32
  let v3 : BitVec 32 := Scalar.subi arg0 c0_i32_1
  let c0_i32_2 : BitVec 32 := 0#32
  let v4 : BitVec 32 := Scalar.select v1 v3 c0_i32_2
  let c0_i32_3 : BitVec 32 := 0#32
  ![v2.toNat, v4.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S1x8192x2816 : Shape := ⟨3, ![1, 8192, 2816]⟩
abbrev S1x8192x1024 : Shape := ⟨3, ![1, 8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S1x8192x2816, .f32⟩
  | .hbm, ⟨1, _⟩ => ⟨S1x8192x1024, .f32⟩
  | .hbm, ⟨2, _⟩ => ⟨S_, .f32⟩
  | .hbm, ⟨3, _⟩ => ⟨S2816x1024, .f32⟩
  | .hbm, ⟨4, _⟩ => ⟨S1x8192x1024, .f32⟩
  | .hbm, ⟨5, _⟩ => ⟨S1024x2816, .f32⟩
  | .hbm, ⟨6, _⟩ => ⟨S2816x1024, .f32⟩
  | _, _ => ⟨S1x8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel5.lean ====
abbrev S1x8192x1024 : Shape := ⟨3, ![1, 8192, 1024]⟩
abbrev S1024 : Shape := ⟨1, ![1024]⟩
abbrev S1024x5632 : Shape := ⟨2, ![1024, 5632]⟩
abbrev S2816x1024 : Shape := ⟨2, ![2816, 1024]⟩
abbrev S8192x1024 : Shape := ⟨2, ![8192, 1024]⟩
abbrev S1x1024 : Shape := ⟨2, ![1, 1024]⟩
abbrev S5632x1024 : Shape := ⟨2, ![5632, 1024]⟩
abbrev S8192x2816 : Shape := ⟨2, ![8192, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S256x1024 : Shape := ⟨2, ![256, 1024]⟩
abbrev S512x256 : Shape := ⟨2, ![512, 256]⟩

abbrev nBuf : Space → Nat
  | .hbm => 12
  | .vmem => 11
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S8192x1024, .f32⟩
  | .hbm, ⟨5, _⟩ => ⟨S1x1024, .f32⟩
  | .hbm, ⟨6, _⟩ => ⟨S5632x1024, .f32⟩
  | .hbm, ⟨7, _⟩ => ⟨S5632x1024, .bf16⟩
  | .hbm, ⟨8, _⟩ => ⟨S2816x1024, .bf16⟩
  | .hbm, ⟨9, _⟩ => ⟨S8192x1024, .f32⟩
  | .hbm, ⟨10, _⟩ => ⟨S8192x2816, .bf16⟩
  | .hbm, ⟨11, _⟩ => ⟨S8192x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S5632x1024, .bf16⟩
  | .local _ .vmem, ⟨4, _⟩ => ⟨S2816x1024, .bf16⟩
  | .local _ .vmem, ⟨5, _⟩ => ⟨S512x1024, .f32⟩
  | .local _ .vmem, ⟨6, _⟩ => ⟨S512x1024, .f32⟩
  | .local _ .vmem, ⟨7, _⟩ => ⟨S512x2816, .bf16⟩
  | .local _ .vmem, ⟨8, _⟩ => ⟨S512x2816, .bf16⟩
  | .local _ .vmem, ⟨9, _⟩ => ⟨S512x2816, .bf16⟩
  | .local _ .vmem, ⟨10, _⟩ => ⟨S512x2816, .bf16⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5632x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S1x8192x1024 : Shape := ⟨3, ![1, 8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1x8192x5632 : Shape := ⟨3, ![1, 8192, 5632]⟩
abbrev S1x8192x2816 : Shape := ⟨3, ![1, 8192, 2816]⟩
abbrev S8192x1024 : Shape := ⟨2, ![8192, 1024]⟩
abbrev S8192x2816 : Shape := ⟨2, ![8192, 2816]⟩

abbrev nBuf : Space → Nat
  | .hbm => 62
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1x8192x1024, .f32⟩
  | .hbm, ⟨5, _⟩ => ⟨S_, .f32⟩
  | .hbm, ⟨6, _⟩ => ⟨S1x8192, .f32⟩
  | .hbm, ⟨7, _⟩ => ⟨S1x8192x1, .f32⟩
  | .hbm, ⟨8, _⟩ => ⟨S_, .f32⟩
  | .hbm, ⟨9, _⟩ => ⟨S1x8192x1, .f32⟩
  | .hbm, ⟨10, _⟩ => ⟨S1x8192x1, .f32⟩
  | .hbm, ⟨11, _⟩ => ⟨S_, .f32⟩
  | .hbm, ⟨12, _⟩ => ⟨S1x8192x1, .f32⟩
  | .hbm, ⟨13, _⟩ => ⟨S1x8192x1, .f32⟩
  | .hbm, ⟨14, _⟩ => ⟨S1x8192x1, .f32⟩
  | .hbm, ⟨15, _⟩ => ⟨S1x8192x1024, .f32⟩
  | .hbm, ⟨16, _⟩ => ⟨S1x8192x1024, .f32⟩
  | .hbm, ⟨17, _⟩ => ⟨S1x1x1024, .f32⟩
  | .hbm, ⟨18, _⟩ => ⟨S1x8192x1024, .f32⟩
  | .hbm, ⟨19, _⟩ => ⟨S1x8192x1024, .f32⟩
  | .hbm, ⟨20, _⟩ => ⟨S1x8192x5632, .f32⟩
  | .hbm, ⟨21, _⟩ => ⟨S1x8192x2816, .f32⟩
  | .hbm, ⟨22, _⟩ => ⟨S1x8192x2816, .f32⟩
  | .hbm, ⟨23, _⟩ => ⟨S1x8192x1024, .f32⟩
  | .hbm, ⟨24, _⟩ => ⟨S_, .f32⟩
  | .hbm, ⟨25, _⟩ => ⟨S1x8192, .f32⟩
  | .hbm, ⟨26, _⟩ => ⟨S1x8192x1, .f32⟩
  | .hbm, ⟨27, _⟩ => ⟨S_, .f32⟩
  | .hbm, ⟨28, _⟩ => ⟨S1x8192x1, .f32⟩
  | .hbm, ⟨29, _⟩ => ⟨S1x8192x1, .f32⟩
  | .hbm, ⟨30, _⟩ => ⟨S_, .f32⟩
  | .hbm, ⟨31, _⟩ => ⟨S1x8192x1, .f32⟩
  | .hbm, ⟨32, _⟩ => ⟨S1x8192x1, .f32⟩
  | .hbm, ⟨33, _⟩ => ⟨S1x8192x1, .f32⟩
  | .hbm, ⟨34, _⟩ => ⟨S1x8192x1024, .f32⟩
  | .hbm, ⟨35, _⟩ => ⟨S1x8192x1024, .f32⟩
  | .hbm, ⟨36, _⟩ => ⟨S1x1x1024, .f32⟩
  | .hbm, ⟨37, _⟩ => ⟨S1x8192x1024, .f32⟩
  | .hbm, ⟨38, _⟩ => ⟨S1x8192x1024, .f32⟩
  | .hbm, ⟨39, _⟩ => ⟨S1x8192x5632, .f32⟩
  | .hbm, ⟨40, _⟩ => ⟨S1x8192x2816, .f32⟩
  | .hbm, ⟨41, _⟩ => ⟨S1x8192x2816, .f32⟩
  | .hbm, ⟨42, _⟩ => ⟨S1x8192x2816, .f32⟩
  | .hbm, ⟨43, _⟩ => ⟨S1x8192x2816, .f32⟩
  | .hbm, ⟨44, _⟩ => ⟨S_, .f32⟩
  | .hbm, ⟨45, _⟩ => ⟨S1x8192x2816, .f32⟩
  | .hbm, ⟨46, _⟩ => ⟨S1x8192x2816, .f32⟩
  | .hbm, ⟨47, _⟩ => ⟨S_, .f32⟩
  | .hbm, ⟨48, _⟩ => ⟨S1x8192x2816, .f32⟩
  | .hbm, ⟨49, _⟩ => ⟨S1x8192x2816, .f32⟩
  | .hbm, ⟨50, _⟩ => ⟨S1x8192x2816, .f32⟩
  | .hbm, ⟨51, _⟩ => ⟨S1x8192x2816, .f32⟩
  | .hbm, ⟨52, _⟩ => ⟨S1x8192x1024, .f32⟩
  | .hbm, ⟨53, _⟩ => ⟨S_, .f32⟩
  | .hbm, ⟨54, _⟩ => ⟨S1x8192x1024, .f32⟩
  | .hbm, ⟨55, _⟩ => ⟨S1x8192x1024, .f32⟩
  | .hbm, ⟨56, _⟩ => ⟨S1x8192x1024, .f32⟩
  | .hbm, ⟨57, _⟩ => ⟨S8192x1024, .f32⟩
  | .hbm, ⟨58, _⟩ => ⟨S8192x2816, .f32⟩
  | .hbm, ⟨59, _⟩ => ⟨S8192x2816, .bf16⟩
  | .hbm, ⟨60, _⟩ => ⟨S8192x2816, .f32⟩
  | .hbm, ⟨61, _⟩ => ⟨S8192x2816, .bf16⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_5 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩

abbrev nD : Nat := 1
abbrev τ : Topo := Topo.v7x

variable {F : FTy → Type} [FloatOps F]
-- ==== Kernel6.lean ====
abbrev S1x8192x1024 : Shape := ⟨3, ![1, 8192, 1024]⟩
abbrev S1024x1024 : Shape := ⟨2, ![1024, 1024]⟩
abbrev S8192x1024 : Shape := ⟨2, ![8192, 1024]⟩
abbrev S8192x256 : Shape := ⟨2, ![8192, 256]⟩
abbrev S8x8192x64 : Shape := ⟨3, ![8, 8192, 64]⟩
abbrev S8x64x8192 : Shape := ⟨3, ![8, 64, 8192]⟩
abbrev S4x8192x64 : Shape := ⟨3, ![4, 8192, 64]⟩
abbrev S512x1024 : Shape := ⟨2, ![512, 1024]⟩
abbrev S512x256 : Shape := ⟨2, ![512, 256]⟩
abbrev S8x512x64 : Shape := ⟨3, ![8, 512, 64]⟩
abbrev S8x64x512 : Shape := ⟨3, ![8, 64, 512]⟩
abbrev S4x512x64 : Shape := ⟨3, ![4, 512, 64]⟩
abbrev S512x512 : Shape := ⟨2, ![512, 512]⟩
abbrev S512x64 : Shape := ⟨2, ![512, 64]⟩
abbrev S1x512x64 : Shape := ⟨3, ![1, 512, 64]⟩
abbrev S64x512 : Shape := ⟨2, ![64, 512]⟩
abbrev S1x64x512 : Shape := ⟨3, ![1, 64, 512]⟩

abbrev nBuf : Space → Nat
  | .hbm => 9
  | .vmem => 13
  | .smem => 0
  | _ => 0

abbrev bufTy : (tb : Table) → Fin (tcTables nBuf tb) → BufTy
  | .hbm, ⟨0, _⟩ => ⟨S1x8192x1024, .f32⟩
  | .hbm, ⟨1, _⟩ => ⟨S1024x1024, .f32⟩
  | .hbm, ⟨2, _⟩ => ⟨S8192x1024, .f32⟩
  | .hbm, ⟨3, _⟩ => ⟨S1024x1024, .bf16⟩
  | .hbm, ⟨4, _⟩ => ⟨S8192x1024, .bf16⟩
  | .hbm, ⟨5, _⟩ => ⟨S8192x256, .f32⟩
  | .hbm, ⟨6, _⟩ => ⟨S8x8192x64, .bf16⟩
  | .hbm, ⟨7, _⟩ => ⟨S8x64x8192, .bf16⟩
  | .hbm, ⟨8, _⟩ => ⟨S4x8192x64, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S512x256, .f32⟩
  | .local _ .vmem, ⟨6, _⟩ => ⟨S512x256, .f32⟩
  | .local _ .vmem, ⟨7, _⟩ => ⟨S8x512x64, .bf16⟩
  | .local _ .vmem, ⟨8, _⟩ => ⟨S8x512x64, .bf16⟩
  | .local _ .vmem, ⟨9, _⟩ => ⟨S8x64x512, .bf16⟩
  | .local _ .vmem, ⟨10, _⟩ => ⟨S8x64x512, .bf16⟩
  | .local _ .vmem, ⟨11, _⟩ => ⟨S4x512x64, .f32⟩
  | .local _ .vmem, ⟨12, _⟩ => ⟨S4x512x64, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev main_v2_4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x64x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x512x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S1x8192x1024 : Shape := ⟨3, ![1, 8192, 1024]⟩
abbrev S1024x1024 : Shape := ⟨2, ![1024, 1024]⟩
abbrev S_ : Shape := ⟨0, ![]⟩
abbrev S1x8192x256 : Shape := ⟨3, ![1, 8192, 256]⟩
abbrev S1x8192x8x64 : Shape := ⟨4, ![1, 8192, 8, 64]⟩
abbrev S1x8192x4x64 : Shape := ⟨4, ![1, 8192, 4, 64]⟩
abbrev S1x8192x512 : Shape := ⟨3, ![1, 8192, 512]⟩
abbrev S8192x1024 : Shape := ⟨2, ![8192, 1024]⟩
abbrev S8192x256 : Shape := ⟨2, ![8192, 256]⟩
abbrev S8192x8x64 : Shape := ⟨3, ![8192, 8, 64]⟩
abbrev S8x8192x64 : Shape := ⟨3, ![8, 8192, 64]⟩
abbrev S8x64x8192 : Shape := ⟨3, ![8, 64, 8192]⟩
abbrev S8192x4x64 : Shape := ⟨3, ![8192, 4, 64]⟩
abbrev S4x8192x64 : Shape := ⟨3, ![4, 8192, 64]⟩

abbrev nBuf : Space → Nat
  | .hbm => 29
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024x1024, .f32⟩
  | .hbm, ⟨2, _⟩ => ⟨S_, .f32⟩
  | .hbm, ⟨3, _⟩ => ⟨S1x8192x256, .f32⟩
  | .hbm, ⟨4, _⟩ => ⟨S_, .f32⟩
  | .hbm, ⟨5, _⟩ => ⟨S1x8192x8x64, .f32⟩
  | .hbm, ⟨6, _⟩ => ⟨S_, .f32⟩
  | .hbm, ⟨7, _⟩ => ⟨S1x8192x4x64, .f32⟩
  | .hbm, ⟨8, _⟩ => ⟨S1x8192x512, .f32⟩
  | .hbm, ⟨9, _⟩ => ⟨S1x8192x256, .f32⟩
  | .hbm, ⟨10, _⟩ => ⟨S1x8192x1024, .f32⟩
  | .hbm, ⟨11, _⟩ => ⟨S1x8192x1024, .f32⟩
  | .hbm, ⟨12, _⟩ => ⟨S1x8192x1024, .f32⟩
  | .hbm, ⟨13, _⟩ => ⟨S1x8192x256, .f32⟩
  | .hbm, ⟨14, _⟩ => ⟨S1x8192x512, .f32⟩
  | .hbm, ⟨15, _⟩ => ⟨S1x8192x256, .f32⟩
  | .hbm, ⟨16, _⟩ => ⟨S1x8192x4x64, .f32⟩
  | .hbm, ⟨17, _⟩ => ⟨S1x8192x8x64, .f32⟩
  | .hbm, ⟨18, _⟩ => ⟨S8192x1024, .f32⟩
  | .hbm, ⟨19, _⟩ => ⟨S8192x1024, .bf16⟩
  | .hbm, ⟨20, _⟩ => ⟨S8192x256, .f32⟩
  | .hbm, ⟨21, _⟩ => ⟨S8192x8x64, .f32⟩
  | .hbm, ⟨22, _⟩ => ⟨S8x8192x64, .f32⟩
  | .hbm, ⟨23, _⟩ => ⟨S8x8192x64, .bf16⟩
  | .hbm, ⟨24, _⟩ => ⟨S8192x8x64, .f32⟩
  | .hbm, ⟨25, _⟩ => ⟨S8x64x8192, .f32⟩
  | .hbm, ⟨26, _⟩ => ⟨S8x64x8192, .bf16⟩
  | .hbm, ⟨27, _⟩ => ⟨S8192x4x64, .f32⟩
  | .hbm, ⟨28, _⟩ => ⟨S4x8192x64, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_cst_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩

abbrev nD : Nat := 1
abbrev τ : Topo := Topo.v7x

variable {F : FTy → Type} [FloatOps F]
-- ==== Kernel7.lean ====
abbrev S1x8192x1024 : Shape := ⟨3, ![1, 8192, 1024]⟩
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 7
  | .vmem => 5
  | .smem => 0
  | _ => 0

abbrev bufTy : (tb : Table) → Fin (tcTables nBuf tb) → BufTy
  | .hbm, ⟨0, _⟩ => ⟨S1x8192x1024, .f32⟩
  | .hbm, ⟨1, _⟩ => ⟨S1x8192x1024, .f32⟩
  | .hbm, ⟨2, _⟩ => ⟨S8192x1024, .f32⟩
  | .hbm, ⟨3, _⟩ => ⟨S8192x1024, .bf16⟩
  | .hbm, ⟨4, _⟩ => ⟨S8192x1024, .f32⟩
  | .hbm, ⟨5, _⟩ => ⟨S8192x1024, .bf16⟩
  | .hbm, ⟨6, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 32 := Scalar.divsi arg0 c1_i32
  let c0_i32_1 : BitVec 32 := 0#32
  let v4 : BitVec 1 := Scalar.cmpi .eq v3 c0_i32_1
  let v5 : BitVec 32 := Scalar.extui v4
  let c0_i32_2 : BitVec 32 := 0#32
  let v6 : BitVec 1 := Scalar.cmpi .ne v5 c0_i32_2
  v6

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .eq v0 c0_i32
  let c0_i32_0 : BitVec 32 := 0#32
  let v2 : BitVec 32 := Scalar.select v1 arg2 c0_i32_0
  let c0_i32_1 : BitVec 32 := 0#32
  let v3 : BitVec 32 := Scalar.subi arg0 c0_i32_1
  let c0_i32_2 : BitVec 32 := 0#32
  let v4 : BitVec 32 := Scalar.select v1 v3 c0_i32_2
  let c0_i32_3 : BitVec 32 := 0#32
  ![v2.toNat, v4.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference7Ideal.lean ====
abbrev S1x8192x1024 : Shape := ⟨3, ![1, 8192, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x8192x1024, .f32⟩
  | .hbm, ⟨2, _⟩ => ⟨S_, .f32⟩
  | .hbm, ⟨3, _⟩ => ⟨S1024x1024, .f32⟩
  | .hbm, ⟨4, _⟩ => ⟨S1x8192x1024, .f32⟩
  | .hbm, ⟨5, _⟩ => ⟨S1024x1024, .f32⟩
  | .hbm, ⟨6, _⟩ => ⟨S1024x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S1x8192x1024 : Shape := ⟨3, ![1, 8192, 1024]⟩
abbrev S1x8192x3072 : Shape := ⟨3, ![1, 8192, 3072]⟩
abbrev S8192x3072 : Shape := ⟨2, ![8192, 3072]⟩
abbrev S8192x1024 : Shape := ⟨2, ![8192, 1024]⟩
abbrev S3072x1024 : Shape := ⟨2, ![3072, 1024]⟩
abbrev S2048x1024 : Shape := ⟨2, ![2048, 1024]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S1x8192x1024, .f32⟩
  | .hbm, ⟨1, _⟩ => ⟨S1x8192x3072, .f32⟩
  | .hbm, ⟨2, _⟩ => ⟨S8192x3072, .f32⟩
  | .hbm, ⟨3, _⟩ => ⟨S8192x3072, .bf16⟩
  | .hbm, ⟨4, _⟩ => ⟨S8192x1024, .f32⟩
  | .hbm, ⟨5, _⟩ => ⟨S8192x1024, .bf16⟩
  | .hbm, ⟨6, _⟩ => ⟨S3072x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c3_i32 : BitVec 32 := 3#32
  let v3 : BitVec 32 := Scalar.divsi arg0 c3_i32
  let c0_i32_1 : BitVec 32 := 0#32
  let v4 : BitVec 1 := Scalar.cmpi .eq v3 c0_i32_1
  let v5 : BitVec 32 := Scalar.extui v4
  let c0_i32_2 : BitVec 32 := 0#32
  let v6 : BitVec 1 := Scalar.cmpi .ne v5 c0_i32_2
  v6

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.divsi arg0 c3_i32
  let c0_i32 : BitVec 32 := 0#32
  let v1 : BitVec 1 := Scalar.cmpi .eq v0 c0_i32
  let c0_i32_0 : BitVec 32 := 0#32
  let v2 : BitVec 32 := Scalar.select v1 arg2 c0_i32_0
  let c0_i32_1 : BitVec 32 := 0#32
  let v3 : BitVec 32 := Scalar.subi arg0 c0_i32_1
  let c0_i32_2 : BitVec 32 := 0#32
  let v4 : BitVec 32 := Scalar.select v1 v3 c0_i32_2
  let c0_i32_3 : BitVec 32 := 0#32
  ![v2.toNat, v4.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S1x8192x1024 : Shape := ⟨3, ![1, 8192, 1024]⟩
abbrev S1x8192x3072 : Shape := ⟨3, ![1, 8192, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 8
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x8192x3072, .f32⟩
  | .hbm, ⟨2, _⟩ => ⟨S_, .f32⟩
  | .hbm, ⟨3, _⟩ => ⟨S1024x3072, .f32⟩
  | .hbm, ⟨4, _⟩ => ⟨S1x8192x3072, .f32⟩
  | .hbm, ⟨5, _⟩ => ⟨S3072x1024, .f32⟩
  | .hbm, ⟨6, _⟩ => ⟨S1024x3072, .f32⟩
  | .hbm, ⟨7, _⟩ => ⟨S3072x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S1x8192x256 : Shape := ⟨3, ![1, 8192, 256]⟩
abbrev S1x8192x8x64 : Shape := ⟨4, ![1, 8192, 8, 64]⟩
abbrev S1x8192x4x64 : Shape := ⟨4, ![1, 8192, 4, 64]⟩
abbrev S1024x1024 : Shape := ⟨2, ![1024, 1024]⟩
abbrev S1x8192x1024 : Shape := ⟨3, ![1, 8192, 1024]⟩
abbrev S8192x256 : Shape := ⟨2, ![8192, 256]⟩
abbrev S8192x8x64 : Shape := ⟨3, ![8192, 8, 64]⟩
abbrev S8x8192x64 : Shape := ⟨3, ![8, 8192, 64]⟩
abbrev S8192x4x64 : Shape := ⟨3, ![8192, 4, 64]⟩
abbrev S4x8192x64 : Shape := ⟨3, ![4, 8192, 64]⟩
abbrev S8192x1024 : Shape := ⟨2, ![8192, 1024]⟩
abbrev S512x256 : Shape := ⟨2, ![512, 256]⟩
abbrev S8x512x64 : Shape := ⟨3, ![8, 512, 64]⟩
abbrev S4x512x64 : Shape := ⟨3, ![4, 512, 64]⟩
abbrev S512x1024 : Shape := ⟨2, ![512, 1024]⟩
abbrev S1x512x64 : Shape := ⟨3, ![1, 512, 64]⟩
abbrev S512x64 : Shape := ⟨2, ![512, 64]⟩

abbrev nBuf : Space → Nat
  | .hbm => 15
  | .vmem => 13
  | .smem => 0
  | _ => 0

abbrev bufTy : (tb : Table) → Fin (tcTables nBuf tb) → BufTy
  | .hbm, ⟨0, _⟩ => ⟨S1x8192x256, .f32⟩
  | .hbm, ⟨1, _⟩ => ⟨S1x8192x8x64, .f32⟩
  | .hbm, ⟨2, _⟩ => ⟨S1x8192x4x64, .f32⟩
  | .hbm, ⟨3, _⟩ => ⟨S1024x1024, .f32⟩
  | .hbm, ⟨4, _⟩ => ⟨S1x8192x1024, .f32⟩
  | .hbm, ⟨5, _⟩ => ⟨S8192x256, .f32⟩
  | .hbm, ⟨6, _⟩ => ⟨S8192x256, .bf16⟩
  | .hbm, ⟨7, _⟩ => ⟨S8192x8x64, .f32⟩
  | .hbm, ⟨8, _⟩ => ⟨S8x8192x64, .f32⟩
  | .hbm, ⟨9, _⟩ => ⟨S8192x4x64, .f32⟩
  | .hbm, ⟨10, _⟩ => ⟨S4x8192x64, .f32⟩
  | .hbm, ⟨11, _⟩ => ⟨S1024x1024, .bf16⟩
  | .hbm, ⟨12, _⟩ => ⟨S8192x1024, .f32⟩
  | .hbm, ⟨13, _⟩ => ⟨S8192x1024, .f32⟩
  | .hbm, ⟨14, _⟩ => ⟨S8192x1024, .bf16⟩
  | .local _ .vmem, ⟨0, _⟩ => ⟨S512x256, .bf16⟩
  | .local _ .vmem, ⟨1, _⟩ => ⟨S512x256, .bf16⟩
  | .local _ .vmem, ⟨2, _⟩ => ⟨S8x512x64, .f32⟩
  | .local _ .vmem, ⟨3, _⟩ => ⟨S8x512x64, .f32⟩
  | .local _ .vmem, ⟨4, _⟩ => ⟨S4x512x64, .f32⟩
  | .local _ .vmem, ⟨5, _⟩ => ⟨S4x512x64, .f32⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S1x8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference9Ideal.lean ====
abbrev S1x8192x256 : Shape := ⟨3, ![1, 8192, 256]⟩
abbrev S1x8192x8x64 : Shape := ⟨4, ![1, 8192, 8, 64]⟩
abbrev S1x8192x4x64 : Shape := ⟨4, ![1, 8192, 4, 64]⟩
abbrev S1024x1024 : Shape := ⟨2, ![1024, 1024]⟩
abbrev S1x8192x1024 : Shape := ⟨3, ![1, 8192, 1024]⟩
abbrev S1x8192x512 : Shape := ⟨3, ![1, 8192, 512]⟩
abbrev S8192x1024 : Shape := ⟨2, ![8192, 1024]⟩

abbrev nBuf : Space → Nat
  | .hbm => 16
  | .vmem => 0
  | .smem => 0
  | _ => 0

abbrev bufTy : (tb : Table) → Fin (tcTables nBuf tb) → BufTy
  | .hbm, ⟨0, _⟩ => ⟨S1x8192x256, .f32⟩
  | .hbm, ⟨1, _⟩ => ⟨S1x8192x8x64, .f32⟩
  | .hbm, ⟨2, _⟩ => ⟨S1x8192x4x64, .f32⟩
  | .hbm, ⟨3, _⟩ => ⟨S1024x1024, .f32⟩
  | .hbm, ⟨4, _⟩ => ⟨S1x8192x1024, .f32⟩
  | .hbm, ⟨5, _⟩ => ⟨S1x8192x512, .f32⟩
  | .hbm, ⟨6, _⟩ => ⟨S1x8192x256, .f32⟩
  | .hbm, ⟨7, _⟩ => ⟨S1x8192x512, .f32⟩
  | .hbm, ⟨8, _⟩ => ⟨S1x8192x256, .f32⟩
  | .hbm, ⟨9, _⟩ => ⟨S1x8192x1024, .f32⟩
  | .hbm, ⟨10, _⟩ => ⟨S1x8192x1024, .f32⟩
  | .hbm, ⟨11, _⟩ => ⟨S1x8192x1024, .f32⟩
  | .hbm, ⟨12, _⟩ => ⟨S8192x1024, .f32⟩
  | .hbm, ⟨13, _⟩ => ⟨S1x8192x1024, .f32⟩
  | .hbm, ⟨14, _⟩ => ⟨S8192x1024, .f32⟩
  | .hbm, ⟨15, _⟩ => ⟨S8192x1024, .bf16⟩
  | _, _ => ⟨S1x8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Proof.RetMath.lean ====
/-
  The real arithmetic of the retention gradient, apart from any program.

  One head is fixed.  `q`, `k`, `v` are its queries, keys and values, `lg` the logarithm of its decay, and `wt lg t s` the weight that
  query `t` gives to key `s`.  The kernel walks over blocks of 512 rows: inside a block it uses the weights themselves, for the blocks
  before it a state, for those after it a running sum from the end.  The lemmas here say that the sums over all 8192 rows split that way.
-/
module

public import Idealize.ShloMosaic.Lib.Pipeline.ValueKit
public import Idealize.ShloMosaic.Lib.Pointwise
public import Idealize.ShloMosaic.Lib.Claim

@[expose] public section

noncomputable section

namespace Cert.Proof.RetMath

open Finset

/-- The inclusion of the reals commutes with finite sums. -/
theorem coe_sum {ι : Type*} (s : Finset ι) (f : ι → ℝ) : ((∑ i ∈ s, f i : ℝ) : EReal) = ∑ i ∈ s, (f i : EReal) :=
  map_sum (⟨⟨fun x : ℝ => (x : EReal), EReal.coe_zero⟩, EReal.coe_add⟩ : ℝ →+ EReal) f s

/-! ### The weights -/

/-- The distance of key `s` from query `t`: without sign inside the own chunk of 64. -/
def dist (t s : ℕ) : ℝ := if t / 64 = s / 64 then |(t : ℝ) - s| else (t : ℝ) - s

/-- The weight of key `s` for query `t`. -/
def wt (lg : ℝ) (t s : ℕ) : ℝ := if s / 64 ≤ t / 64 then Real.exp (lg * dist t s) else 0

theorem wt_block (lg : ℝ) (b i j : ℕ) : wt lg (512 * b + i) (512 * b + j) = wt lg i j := by
  have hi : (512 * b + i) / 64 = 8 * b + i / 64 := by omega
  have hj : (512 * b + j) / 64 = 8 * b + j / 64 := by omega
  have hd : (((512 * b + i : ℕ) : ℝ) - ((512 * b + j : ℕ) : ℝ)) = (i : ℝ) - j := by push_cast; ring
  unfold wt dist
  rw [hi, hj, hd]
  simp only [Nat.add_le_add_iff_left, Nat.add_left_cancel_iff]

theorem wt_below (lg : ℝ) (b i s : ℕ) (hs : s < 512 * b) :
    wt lg (512 * b + i) s = Real.exp (lg * (i + 1)) * Real.exp (lg * (512 * b - 1 - s)) := by
  have h1 : s / 64 ≤ (512 * b + i) / 64 := by omega
  have h2 : ¬ (512 * b + i) / 64 = s / 64 := by omega
  unfold wt dist
  rw [if_pos h1, if_neg h2, ← Real.exp_add]
  congr 1
  push_cast
  ring

theorem wt_above (lg : ℝ) (b i s : ℕ) (hi : i < 512) (hs : 512 * (b + 1) ≤ s) : wt lg (512 * b + i) s = 0 := by
  unfold wt
  rw [if_neg (by omega)]

theorem wt_after (lg : ℝ) (b j t : ℕ) (hj : j < 512) (ht : 512 * (b + 1) ≤ t) :
    wt lg t (512 * b + j) = Real.exp (lg * (511 - j)) * Real.exp (lg * (t - 512 * (b + 1) + 1)) := by
  have h1 : (512 * b + j) / 64 ≤ t / 64 := by omega
  have h2 : ¬ t / 64 = (512 * b + j) / 64 := by omega
  unfold wt dist
  rw [if_pos h1, if_neg h2, ← Real.exp_add]
  congr 1
  push_cast
  ring

theorem wt_before (lg : ℝ) (b j t : ℕ) (ht : t < 512 * b) : wt lg t (512 * b + j) = 0 := by
  unfold wt
  rw [if_neg (by omega)]

/-! ### Sums over the rows, split at a block -/

/-- Row `i` of block `b`. -/
def row (b : Fin 16) (i : Fin 512) : Fin 8192 := ⟨512 * b.val + i.val, by omega⟩

theorem sum_rows (f : Fin 8192 → ℝ) : ∑ s, f s = ∑ a : Fin 16, ∑ i : Fin 512, f (row a i) := by
  rw [← Fintype.sum_prod_type', ← (finProdFinEquiv : Fin 16 × Fin 512 ≃ Fin (16 * 512)).sum_comp]
  refine sum_congr rfl fun p _ => congrArg f (Fin.ext ?_)
  simp only [finProdFinEquiv_apply_val, row]
  omega

/-- A sum over all rows is the sum over one block, over the rows before it and over the rows after it. -/
theorem sum_split (f : Fin 8192 → ℝ) (b : Fin 16) :
    ∑ s, f s = ∑ i : Fin 512, f (row b i) + ∑ s : Fin 8192, (if s.val < 512 * b.val then f s else 0)
      + ∑ s : Fin 8192, (if 512 * (b.val + 1) ≤ s.val then f s else 0) := by
  have h : ∑ s : Fin 8192, (if s.val / 512 = b.val then f s else 0) = ∑ i : Fin 512, f (row b i) := by
    rw [sum_rows]
    have : ∀ a : Fin 16, ∑ i : Fin 512, (if (row a i).val / 512 = b.val then f (row a i) else 0)
        = if a = b then ∑ i : Fin 512, f (row a i) else 0 := fun a => by
      by_cases hab : a = b
      · rw [if_pos hab]
        exact sum_congr rfl fun i _ => if_pos (by subst hab; simp only [row]; omega)
      · rw [if_neg hab]
        exact sum_eq_zero fun i _ => if_neg (by simp only [row]; intro h; exact hab (Fin.ext (by omega)))
    rw [sum_congr rfl fun a _ => this a, sum_ite_eq' univ b, if_pos (mem_univ b)]
  rw [← h, ← sum_add_distrib, ← sum_add_distrib]
  refine sum_congr rfl fun s _ => ?_
  rcases lt_trichotomy (s.val / 512) b.val with h | h | h
  · rw [if_neg (by omega), if_pos (by omega), if_neg (by omega)]; ring
  · rw [if_pos h, if_neg (by omega), if_neg (by omega)]; ring
  · rw [if_neg (by omega), if_neg (by omega), if_pos (by omega)]; ring

variable (lg : ℝ) (q k v dy : Fin 8192 → Fin 64 → ℝ)

/-- The state before block `b`: what the earlier rows add up to. -/
def st (b : ℕ) (d e : Fin 64) : ℝ :=
  ∑ s : Fin 8192, k s d * (if s.val < 512 * b then Real.exp (lg * (512 * b - 1 - s.val)) else 0) * v s e

/-- The running sum from the end: what the rows from block `b` on add up to. -/
def uu (b : ℕ) (d e : Fin 64) : ℝ :=
  ∑ t : Fin 8192, (if 512 * b ≤ t.val then Real.exp (lg * (t.val - 512 * b + 1)) * q t d * dy t e else 0)

theorem uu_end (d e : Fin 64) : uu lg q dy 16 d e = 0 :=
  sum_eq_zero fun t _ => if_neg (by have := t.isLt; omega)

theorem uu_step (b : Fin 16) (d e : Fin 64) : uu lg q dy b.val d e
    = Real.exp (lg * 512) * uu lg q dy (b.val + 1) d e
      + ∑ i : Fin 512, q (row b i) d * Real.exp (lg * (i.val + 1)) * dy (row b i) e := by
  unfold uu
  rw [sum_split _ b, mul_sum]
  have h2 : ∑ s : Fin 8192, (if s.val < 512 * b.val then
      (if 512 * b.val ≤ s.val then Real.exp (lg * (s.val - 512 * b.val + 1)) * q s d * dy s e else 0) else 0) = 0 :=
    sum_eq_zero fun s _ => by
      by_cases h : s.val < 512 * b.val
      · rw [if_pos h, if_neg (by omega)]
      · rw [if_neg h]
  rw [h2, add_zero, add_comm]
  refine congrArg₂ (· + ·) ?_ ?_
  · refine sum_congr rfl fun s _ => ?_
    by_cases h : 512 * (b.val + 1) ≤ s.val
    · rw [if_pos h, if_pos (by omega), if_pos h]
      have e : lg * ((s.val : ℝ) - 512 * b.val + 1) = lg * 512 + lg * ((s.val : ℝ) - 512 * ((b.val + 1 : ℕ) : ℝ) + 1) := by
        push_cast; ring
      rw [e, Real.exp_add]
      ring
    · rw [if_neg h, if_neg h, mul_zero]
  · refine sum_congr rfl fun i _ => ?_
    rw [if_pos (by simp only [row]; omega)]
    have : ((row b i).val : ℝ) - 512 * b.val + 1 = i.val + 1 := by simp only [row]; push_cast; ring
    rw [this]
    ring

/-- The gradient of the queries: inside the block by the weights, before it by the state. -/
theorem dq_split (b : Fin 16) (i : Fin 512) (d : Fin 64) :
    ∑ s : Fin 8192, (∑ e, dy (row b i) e * v s e) * wt lg (row b i).val s.val * k s d
      = ∑ j : Fin 512, (∑ e, dy (row b i) e * v (row b j) e) * wt lg i.val j.val * k (row b j) d
        + Real.exp (lg * (i.val + 1)) * ∑ e, dy (row b i) e * st lg k v b.val d e := by
  rw [sum_split _ b]
  have h3 : ∑ s : Fin 8192, (if 512 * (b.val + 1) ≤ s.val then
      (∑ e, dy (row b i) e * v s e) * wt lg (row b i).val s.val * k s d else 0) = 0 :=
    sum_eq_zero fun s _ => by
      by_cases h : 512 * (b.val + 1) ≤ s.val
      · rw [if_pos h]; simp only [row]; rw [wt_above lg b.val i.val s.val i.isLt h]; ring
      · rw [if_neg h]
  rw [h3, add_zero]
  refine congrArg₂ (· + ·) ?_ ?_
  · refine sum_congr rfl fun j _ => ?_
    rw [show wt lg (row b i).val (row b j).val = wt lg i.val j.val from wt_block lg b.val i.val j.val]
  · unfold st
    simp only [mul_sum]
    rw [sum_comm]
    refine sum_congr rfl fun s _ => ?_
    by_cases h : s.val < 512 * b.val
    · rw [if_pos h, show wt lg (row b i).val s.val = _ from wt_below lg b.val i.val s.val h, sum_mul, sum_mul]
      refine sum_congr rfl fun e _ => ?_
      rw [if_pos h]
      ring
    · simp only [if_neg h]
      exact (sum_eq_zero fun e _ => by ring).symm

/-- The gradient of the keys: inside the block by the weights, after it by the running sum. -/
theorem dk_split (b : Fin 16) (j : Fin 512) (d : Fin 64) :
    ∑ t : Fin 8192, (∑ e, dy t e * v (row b j) e) * wt lg t.val (row b j).val * q t d
      = ∑ i : Fin 512, (∑ e, dy (row b i) e * v (row b j) e) * wt lg i.val j.val * q (row b i) d
        + Real.exp (lg * (511 - j.val)) * ∑ e, v (row b j) e * uu lg q dy (b.val + 1) d e := by
  rw [sum_split _ b]
  have h3 : ∑ t : Fin 8192, (if t.val < 512 * b.val then
      (∑ e, dy t e * v (row b j) e) * wt lg t.val (row b j).val * q t d else 0) = 0 :=
    sum_eq_zero fun t _ => by
      by_cases h : t.val < 512 * b.val
      · rw [if_pos h]; simp only [row]; rw [wt_before lg b.val j.val t.val h]; ring
      · rw [if_neg h]
  rw [h3, add_zero]
  refine congrArg₂ (· + ·) ?_ ?_
  · refine sum_congr rfl fun i _ => ?_
    rw [show wt lg (row b i).val (row b j).val = wt lg i.val j.val from wt_block lg b.val i.val j.val]
  · unfold uu
    simp only [mul_sum]
    rw [sum_comm]
    refine sum_congr rfl fun t _ => ?_
    by_cases h : 512 * (b.val + 1) ≤ t.val
    · rw [if_pos h, show wt lg t.val (row b j).val = _ from wt_after lg b.val j.val t.val j.isLt h, sum_mul, sum_mul]
      refine sum_congr rfl fun e _ => ?_
      rw [if_pos h]
      push_cast
      ring
    · simp only [if_neg h]
      exact (sum_eq_zero fun e _ => by ring).symm

/-- The gradient of the values: inside the block by the weights, after it by the running sum. -/
theorem dv_split (b : Fin 16) (j : Fin 512) (e : Fin 64) :
    ∑ t : Fin 8192, (∑ d, q t d * k (row b j) d) * wt lg t.val (row b j).val * dy t e
      = ∑ i : Fin 512, (∑ d, q (row b i) d * k (row b j) d) * wt lg i.val j.val * dy (row b i) e
        + ∑ d, k (row b j) d * Real.exp (lg * (511 - j.val)) * uu lg q dy (b.val + 1) d e := by
  rw [sum_split _ b]
  have h3 : ∑ t : Fin 8192, (if t.val < 512 * b.val then
      (∑ d, q t d * k (row b j) d) * wt lg t.val (row b j).val * dy t e else 0) = 0 :=
    sum_eq_zero fun t _ => by
      by_cases h : t.val < 512 * b.val
      · rw [if_pos h]; simp only [row]; rw [wt_before lg b.val j.val t.val h]; ring
      · rw [if_neg h]
  rw [h3, add_zero]
  refine congrArg₂ (· + ·) ?_ ?_
  · refine sum_congr rfl fun i _ => ?_
    rw [show wt lg (row b i).val (row b j).val = wt lg i.val j.val from wt_block lg b.val i.val j.val]
  · unfold uu
    simp only [mul_sum]
    rw [sum_comm]
    refine sum_congr rfl fun t _ => ?_
    by_cases h : 512 * (b.val + 1) ≤ t.val
    · rw [if_pos h, show wt lg t.val (row b j).val = _ from wt_after lg b.val j.val t.val j.isLt h, sum_mul, sum_mul]
      refine sum_congr rfl fun d _ => ?_
      rw [if_pos h]
      push_cast
      ring
    · simp only [if_neg h]
      exact (sum_eq_zero fun d _ => by ring).symm

/-! ### The head norm and its gradient, one row -/

/-- The small constant under the root. -/
abbrev eps : ℝ := 8796093 * 2 ^ (-43 : ℤ)

variable (y z : Fin 64 → ℝ)

/-- The row less its mean. -/
def cen (e : Fin 64) : ℝ := y e - (∑ e, y e) / 64

/-- The variance and the small constant. -/
def var : ℝ := (∑ e, cen y e * cen y e) / 64 + eps

theorem var_pos : 0 < var y := by
  have : 0 ≤ ∑ e, cen y e * cen y e := sum_nonneg fun e _ => mul_self_nonneg _
  have : (0 : ℝ) < eps := by unfold eps; positivity
  unfold var
  positivity

/-- The reciprocal root. -/
def rst : ℝ := (Real.sqrt (var y))⁻¹

/-- The normed row. -/
def nrm (e : Fin 64) : ℝ := cen y e * rst y

/-- The gradient of the norm at the row `y`, along `z`. -/
def dnorm (e : Fin 64) : ℝ :=
  rst y * (z e - (∑ e, z e) / 64 - nrm y e * ((∑ e, z e * nrm y e) / 64))

theorem rst_sq : rst y * rst y = 1 / var y := by
  unfold rst
  rw [← mul_inv, Real.mul_self_sqrt (var_pos y).le, one_div]

theorem cen_sum : ∑ e, cen y e = 0 := by
  simp only [cen, sum_sub_distrib, sum_const, card_univ, Fintype.card_fin, nsmul_eq_mul]
  push_cast
  ring

/-- Half of what the variance passes on to the centred row, as reverse differentiation writes it. -/
def half : ℝ := (∑ e, cen y e * z e) * (-(1 / 2) * (rst y / var y)) / 64

/-- The gradient of the centred row, as reverse differentiation writes it. -/
def dcen (e : Fin 64) : ℝ := z e * rst y + cen y e * half y z + half y z * cen y e

/-- The closed form of the gradient is what reverse differentiation gives. -/
theorem dnorm_eq (e : Fin 64) : dcen y z e + (∑ e, -dcen y z e) / 64 = dnorm y z e := by
  have hs : ∑ e, dcen y z e = rst y * ∑ e, z e := by
    unfold dcen
    rw [sum_add_distrib, sum_add_distrib, ← sum_mul, ← sum_mul, ← mul_sum, cen_sum]
    ring
  have hn : ∑ e, z e * nrm y e = rst y * ∑ e, cen y e * z e := by
    rw [mul_sum]
    exact sum_congr rfl fun e _ => by unfold nrm; ring
  rw [sum_neg_distrib, hs]
  unfold dnorm
  rw [hn]
  unfold dcen half nrm
  have : rst y / var y = rst y * (rst y * rst y) := by rw [rst_sq]; ring
  rw [this]
  ring

end Cert.Proof.RetMath
-- ==== Proof.RetScalar.lean ====
/-
  Scalar facts that both the retention kernel's host code and its reference need: the chunk of a position, a position as a number, the
  logarithm of a head's decay, and the few constants, each as a real number.
-/
module

public import proofs.«01_k».proof.Proof.RetMath

@[expose] public section

set_option maxRecDepth 16384

noncomputable section

namespace Cert.Proof.RetMath

open Idealize.ShloMosaic

/-- The chunk of a position, as the programs compute it: division rounded down. -/
def chunkOf (x : BitVec 32) : BitVec 32 :=
  Scalar.select
    (IntOp.andi
      (IntOp.cmpi CmpIPredicate.ne (if x = 0 then (0 : BitVec 32) else if x.msb = true then -1 else 1)
        (if 64#32 = 0 then (0 : BitVec 32) else if BitVec.msb 64#32 = true then -1 else 1))
      (IntOp.cmpi CmpIPredicate.ne (IntOp.remsi ArithUnit.host x 64#32) 0#32))
    (IntOp.subi (IntOp.divsi ArithUnit.host x 64#32) 1#32)
    (IntOp.divsi ArithUnit.host x 64#32)

theorem chunkOf_eq : ∀ i : Fin 8192, chunkOf (BitVec.ofNat 32 i.val) = BitVec.ofNat 32 (i.val / 64) := by
  decide +kernel

theorem toInt_pos (n : ℕ) (hn : n < 8192) : (BitVec.ofNat 32 n).toInt = (n : ℤ) := by
  rw [BitVec.toInt_eq_toNat_of_lt (by simp only [BitVec.toNat_ofNat]; omega), BitVec.toNat_ofNat]
  omega

theorem select_sle {α : Type} (a b : Fin 8192) (x y : α) :
    Scalar.select (IntOp.cmpi CmpIPredicate.sle (BitVec.ofNat 32 a.val) (BitVec.ofNat 32 b.val)) x y
      = if a.val ≤ b.val then x else y := by
  have ha := a.isLt
  have hb := b.isLt
  have h : (BitVec.ofNat 32 a.val).sle (BitVec.ofNat 32 b.val) = decide (a.val ≤ b.val) := by
    rw [BitVec.sle, toInt_pos _ ha, toInt_pos _ hb]
    simp
  simp only [Scalar.select, IntOp.cmpi, h]
  by_cases hab : a.val ≤ b.val <;> simp [hab]

theorem select_slt {α : Type} (a b : Fin 8192) (x y : α) :
    Scalar.select (IntOp.cmpi CmpIPredicate.slt (BitVec.ofNat 32 a.val) (BitVec.ofNat 32 b.val)) x y
      = if a.val < b.val then x else y := by
  have ha := a.isLt
  have hb := b.isLt
  have h : (BitVec.ofNat 32 a.val).slt (BitVec.ofNat 32 b.val) = decide (a.val < b.val) := by
    rw [BitVec.slt, toInt_pos _ ha, toInt_pos _ hb]
    simp
  simp only [Scalar.select, IntOp.cmpi, h]
  by_cases hab : a.val < b.val <;> simp [hab]

theorem select_eq {α : Type} (a b : Fin 8192) (x y : α) :
    Scalar.select (IntOp.cmpi CmpIPredicate.eq (BitVec.ofNat 32 a.val) (BitVec.ofNat 32 b.val)) x y
      = if a.val = b.val then x else y := by
  have ha := a.isLt
  have hb := b.isLt
  have h : (BitVec.ofNat 32 a.val == BitVec.ofNat 32 b.val) = decide (a.val = b.val) := by
    rw [beq_eq_decide]
    congr 1
    rw [BitVec.toNat_eq.eq]
    simp only [BitVec.toNat_ofNat]
    rw [Nat.mod_eq_of_lt (by omega), Nat.mod_eq_of_lt (by omega)]
  simp only [Scalar.select, IntOp.cmpi, h]
  by_cases hab : a.val = b.val <;> simp [hab]

/-- A position as a number. -/
theorem pos_real (n : ℕ) (hn : n < 8192) : FloatOps.sitofp (F := Ideal) FTy.f32 (BitVec.ofNat 32 n) = ((n : ℝ) : EReal) := by
  show (((BitVec.ofNat 32 n).toInt : ℝ) : EReal) = _
  rw [toInt_pos n hn]
  norm_cast

theorem c_zero : Ideal.ofBits FTy.f32 0x00000000#32 = ((0 : ℝ) : EReal) := by
  rw [Ideal.ofBits_zero_f32]; rfl
theorem c_one : Ideal.ofBits FTy.f32 0x3F800000#32 = ((1 : ℝ) : EReal) := by
  rw [Ideal.ofBits_one_f32]; rfl
theorem c_64 : Ideal.ofBits FTy.f32 0x42800000#32 = ((64 : ℝ) : EReal) := by
  simp [Ideal.ofBits, Ideal.ieee, -EReal.coe_mul]; norm_num
theorem c_512 : Ideal.ofBits FTy.f32 0x44000000#32 = ((512 : ℝ) : EReal) := by
  simp [Ideal.ofBits, Ideal.ieee, -EReal.coe_mul]; norm_num
theorem c_511 : Ideal.ofBits FTy.f32 0x43FF8000#32 = ((511 : ℝ) : EReal) := by
  simp [Ideal.ofBits, Ideal.ieee, -EReal.coe_mul]; norm_num
theorem c_eps : Ideal.ofBits FTy.f32 0x358637BD#32 = (eps : EReal) := by
  simp [Ideal.ofBits, Ideal.ieee, eps, -EReal.coe_mul]
theorem c_mhalf : Ideal.ofBits FTy.f32 0xBF000000#32 = ((-(1 / 2) : ℝ) : EReal) := by
  simp [Ideal.ofBits, Ideal.ieee, -EReal.coe_mul]; norm_num
theorem c_m5 : Ideal.ofBits FTy.f32 0xC0A00000#32 = ((-5 : ℝ) : EReal) := by
  simp [Ideal.ofBits, Ideal.ieee, -EReal.coe_mul]; norm_num

/-- The constant that stands for the natural logarithm of two. -/
abbrev ln2 : ℝ := 11629080 * 2 ^ (-24 : ℤ)

theorem c_ln2 : Ideal.ofBits FTy.f32 0x3F317218#32 = (ln2 : EReal) := by
  simp [Ideal.ofBits, Ideal.ieee, ln2, -EReal.coe_mul]

/-- The logarithm of the decay of head `h`. -/
def lg (h : Fin 4) : ℝ := Real.log (1 + -Real.exp (ln2 * (-5 - (h.val : ℝ))))

theorem lg_real (h : Fin 4) :
    Ideal.log1p (-Ideal.exp (Ideal.ofBits FTy.f32 0x3F317218#32
      * (Ideal.ofBits FTy.f32 0xC0A00000#32 - FloatOps.sitofp (F := Ideal) FTy.f32 (BitVec.ofNat 32 h.val)))) = (lg h : EReal) := by
  have hp : 0 < 1 + -Real.exp (ln2 * (-5 - (h.val : ℝ))) := by
    have : Real.exp (ln2 * (-5 - (h.val : ℝ))) < 1 := by
      rw [Real.exp_lt_one_iff]
      have : (0 : ℝ) < ln2 := by unfold ln2; positivity
      have : (0 : ℝ) ≤ h.val := by positivity
      nlinarith
    linarith
  rw [c_ln2, c_m5, pos_real _ (by omega), ← EReal.coe_sub, ← EReal.coe_mul, Ideal.exp_coe, ← EReal.coe_neg]
  unfold lg
  show Ideal.log (1 + _) = _
  rw [show (1 : EReal) = ((1 : ℝ) : EReal) from rfl, ← EReal.coe_add, Ideal.log_coe, if_neg (not_le.mpr hp)]

end Cert.Proof.RetMath
-- ==== Proof.RetSpec.lean ====
/-
  What the gradient of the retention is, over the reals: for every head the output, its normalisation, the gate, and the five gradients,
  each as a plain sum over all positions. Both the reference and the kernel are shown equal to these.
-/
module

public import proofs.«01_k».proof.Proof.RetScalar

@[expose] public section

set_option maxRecDepth 16384

noncomputable section

namespace Cert.Proof.RetMath

open Idealize.ShloMosaic Finset

/-- Column `e` of head `h` in a row that holds all heads. -/
def col (h : Fin 4) (e : Fin 64) : Fin 256 := ⟨h.val * 64 + e.val, by omega⟩

theorem col_div (h : Fin 4) (e : Fin 64) : (col h e).val / 64 = h.val := by simp only [col]; omega
theorem col_mod (h : Fin 4) (e : Fin 64) : (col h e).val % 64 = e.val := by simp only [col]; omega

/-- The logistic function. -/
def sg (x : ℝ) : ℝ := 1 / (1 + Real.exp (-x))

variable (C : Fin 8192 → Fin 256 → ℝ) (Q K V G : Fin 8192 → Fin 4 → Fin 64 → ℝ) (N : Fin 256 → ℝ)

/-- The output of the retention of head `h` at position `t`. -/
def yR (h : Fin 4) (t : Fin 8192) (e : Fin 64) : ℝ :=
  ∑ s : Fin 8192, V s h e * ((∑ d, Q t h d * K s h d) * wt (lg h) t.val s.val)

/-- The gradient that reaches the scaled normalised output, after the gate. -/
def dnR (h : Fin 4) (t : Fin 8192) (e : Fin 64) : ℝ := G t h e * sg (G t h e) * C t (col h e)

/-- The gradient that reaches the normalised output. -/
def zR (h : Fin 4) (t : Fin 8192) (e : Fin 64) : ℝ := dnR C G h t e * N (col h e)

/-- The gradient of the output of the retention. -/
def dyR (h : Fin 4) (t : Fin 8192) (e : Fin 64) : ℝ := dnorm (yR Q K V h t) (zR C G N h t) e

/-- The gradient of the queries. -/
def dqR (h : Fin 4) (t : Fin 8192) (d : Fin 64) : ℝ :=
  ∑ s : Fin 8192, (∑ e, dyR C Q K V G N h t e * V s h e) * wt (lg h) t.val s.val * K s h d

/-- The gradient of the keys. -/
def dkR (h : Fin 4) (s : Fin 8192) (d : Fin 64) : ℝ :=
  ∑ t : Fin 8192, (∑ e, dyR C Q K V G N h t e * V s h e) * wt (lg h) t.val s.val * Q t h d

/-- The gradient of the values. -/
def dvR (h : Fin 4) (s : Fin 8192) (e : Fin 64) : ℝ :=
  ∑ t : Fin 8192, (∑ d, Q t h d * K s h d) * wt (lg h) t.val s.val * dyR C Q K V G N h t e

/-- The gradient of the gate. -/
def dgateR (h : Fin 4) (t : Fin 8192) (e : Fin 64) : ℝ :=
  C t (col h e) * (nrm (yR Q K V h t) e * N (col h e)) * sg (G t h e)
    + G t h e * (C t (col h e) * (nrm (yR Q K V h t) e * N (col h e))) * (sg (G t h e) * (1 - sg (G t h e)))

/-- The gradient of the norm's scale. -/
def dgR (h : Fin 4) (e : Fin 64) : ℝ := ∑ t : Fin 8192, nrm (yR Q K V h t) e * dnR C G h t e

/-! ### Quotients of real numbers -/

theorem div_real (a b : ℝ) (hb : b ≠ 0) : Ideal.div (a : EReal) (b : EReal) = ((a / b : ℝ) : EReal) := by
  rw [Ideal.div_coe hb, ← EReal.coe_mul, mul_one_div]

theorem div_64 (a : ℝ) : Ideal.div (a : EReal) ((64 : ℝ) : EReal) = ((a / 64 : ℝ) : EReal) := div_real a 64 (by norm_num)

theorem div_sg (x : ℝ) : Ideal.div ((1 : ℝ) : EReal) ((1 + Real.exp (-x) : ℝ) : EReal) = (sg x : EReal) :=
  div_real _ _ (by have := Real.exp_pos (-x); positivity)

theorem div_var (a : ℝ) (y : Fin 64 → ℝ) : Ideal.div (a : EReal) (var y : EReal) = ((a / var y : ℝ) : EReal) :=
  div_real _ _ (var_pos y).ne'

theorem rsqrt_var (y : Fin 64 → ℝ) : Ideal.rsqrt (var y : EReal) = (rst y : EReal) := by
  rw [Ideal.rsqrt_coe, if_neg (not_lt.mpr (var_pos y).le), if_neg (var_pos y).ne']
  rfl

theorem one_real : (1 : EReal) = ((1 : ℝ) : EReal) := rfl
theorem zero_real : (0 : EReal) = ((0 : ℝ) : EReal) := rfl

/-- The distance of two positions as the programs choose it. -/
theorem dist_real (t s : Fin 8192) :
    Scalar.select (IntOp.cmpi CmpIPredicate.eq (BitVec.ofNat 32 (t.val / 64)) (BitVec.ofNat 32 (s.val / 64)))
      (FloatOps.absf (F := Ideal) (φ := FTy.f32) (((t.val : ℝ) : EReal) - ((s.val : ℝ) : EReal))) (((t.val : ℝ) : EReal) - ((s.val : ℝ) : EReal))
      = (dist t.val s.val : EReal) := by
  rw [select_eq ⟨t.val / 64, by omega⟩ ⟨s.val / 64, by omega⟩, ← EReal.coe_sub]
  unfold dist
  by_cases h : t.val / 64 = s.val / 64
  · rw [if_pos h, if_pos h, Ideal.absf_def]
    show max ((_ : ℝ) : EReal) (-((_ : ℝ) : EReal)) = _
    rw [← EReal.coe_neg, ← EReal.coe_strictMono.monotone.map_max]
    rfl
  · rw [if_neg h, if_neg h]

/-- The weight of position `s` at position `t` as the programs choose it. -/
theorem wt_real (l : ℝ) (t s : Fin 8192) :
    Scalar.select (IntOp.cmpi CmpIPredicate.sle (BitVec.ofNat 32 (s.val / 64)) (BitVec.ofNat 32 (t.val / 64)))
      ((Real.exp (l * dist t.val s.val) : ℝ) : EReal) ((0 : ℝ) : EReal) = (wt l t.val s.val : EReal) := by
  rw [select_sle ⟨s.val / 64, by omega⟩ ⟨t.val / 64, by omega⟩]
  unfold wt
  by_cases h : s.val / 64 ≤ t.val / 64
  · rw [if_pos h, if_pos h]
  · rw [if_neg h, if_neg h]

end Cert.Proof.RetMath
-- ==== Proof.RetHost.lean ====
/-
  What the host code hands to the retention's backward kernel, at real arguments: the incoming gradient, the queries, keys, values, the
  gate and the scale by heads, the output and the states before every block, and the tables of weights.
-/
module

public import proofs.«01_k».proof.Proof.Gen.KernelIdeal.Value
public import proofs.«01_k».proof.Proof.RetSpec
public import Idealize.ShloMosaic.Lib.Pipeline.ValueKit
public import Idealize.ShloMosaic.Lib.Pointwise
public import Idealize.ShloMosaic.Lib.Claim

@[expose] public section

set_option maxRecDepth 16384

noncomputable section

namespace Cert.KernelIdeal.Ret

open Cert.KernelIdeal Cert.KernelIdeal.Gen Idealize.ShloMosaic Idealize.ShloMosaic.TcCoe Idealize.SL.Sem
open Cert.Proof.RetMath

variable (m : (ℓ : Loc nD τ sig) → Buf (Elt Ideal) ℓ) (c : Dev nD)

/-- The arguments, as arrays. -/
abbrev a0 : FVec Ideal S1x8192x256 .f32 := m ((c : Thread nD τ).loc main_arg0)
abbrev a1 : FVec Ideal S1x8192x4x64 .f32 := m ((c : Thread nD τ).loc main_arg1)
abbrev a2 : FVec Ideal S1x8192x4x64 .f32 := m ((c : Thread nD τ).loc main_arg2)
abbrev a3 : FVec Ideal S1x8192x4x64 .f32 := m ((c : Thread nD τ).loc main_arg3)
abbrev a4 : FVec Ideal S1x8192x4x64 .f32 := m ((c : Thread nD τ).loc main_arg4)
abbrev a5 : FVec Ideal S256 .f32 := m ((c : Thread nD τ).loc main_arg5)

variable (C : Fin 8192 → Fin 256 → ℝ) (Q K V' G : Fin 8192 → Fin 4 → Fin 64 → ℝ) (N : Fin 256 → ℝ)

/-- The arguments are real numbers. -/
structure Args : Prop where
  h0 : ∀ t j, a0 m c (ix3 0 t j) = (C t j : EReal)
  h1 : ∀ t h d, a1 m c (ix4 0 t h d) = (Q t h d : EReal)
  h2 : ∀ t h d, a2 m c (ix4 0 t h d) = (K t h d : EReal)
  h3 : ∀ t h d, a3 m c (ix4 0 t h d) = (V' t h d : EReal)
  h4 : ∀ t h d, a4 m c (ix4 0 t h d) = (G t h d : EReal)
  h5 : ∀ j, a5 m c (ix1 j) = (N j : EReal)

variable (A : Args m c C Q K V' G N)

theorem chunk_nat (n : ℕ) (hn : n < 8192) : chunkOf (BitVec.ofNat 32 n) = BitVec.ofNat 32 (n / 64) := chunkOf_eq ⟨n, hn⟩

/-- A position before another one is in an earlier chunk or in the same one. -/
theorem or_real (l : ℝ) (t s : Fin 8192) :
    Scalar.select (IntOp.ori
        (IntOp.cmpi CmpIPredicate.eq (BitVec.ofNat 32 (t.val / 64)) (BitVec.ofNat 32 (s.val / 64)))
        (IntOp.cmpi CmpIPredicate.slt (BitVec.ofNat 32 (s.val / 64)) (BitVec.ofNat 32 (t.val / 64))))
      ((Real.exp (l * Cert.Proof.RetMath.dist t.val s.val) : ℝ) : EReal) ((0 : ℝ) : EReal) = (wt l t.val s.val : EReal) := by
  rw [← wt_real]
  refine congrArg (fun b => Scalar.select b _ _) ?_
  have ht : t.val / 64 < 8192 := by omega
  have hs : s.val / 64 < 8192 := by omega
  generalize t.val / 64 = a at ht ⊢
  generalize s.val / 64 = b at hs ⊢
  have e1 : (BitVec.ofNat 32 a == BitVec.ofNat 32 b) = decide (a = b) := by
    rw [beq_eq_decide]
    refine decide_eq_decide.mpr ?_
    rw [BitVec.toNat_eq.eq]
    simp only [BitVec.toNat_ofNat]
    rw [Nat.mod_eq_of_lt (by omega), Nat.mod_eq_of_lt (by omega)]
  have e2 : (BitVec.ofNat 32 b).slt (BitVec.ofNat 32 a) = decide (b < a) := by
    rw [BitVec.slt, toInt_pos _ ht, toInt_pos _ hs]
    simp
  have e3 : (BitVec.ofNat 32 b).sle (BitVec.ofNat 32 a) = decide (b ≤ a) := by
    rw [BitVec.sle, toInt_pos _ ht, toInt_pos _ hs]
    simp
  simp only [IntOp.ori, IntOp.cmpi, e1, e2, e3]
  rcases lt_trichotomy a b with h | h | h
  · rw [decide_eq_false (by omega), decide_eq_false (by omega), decide_eq_false (by omega)]; rfl
  · rw [decide_eq_true h, decide_eq_false (by omega), decide_eq_true (by omega)]; rfl
  · rw [decide_eq_false (by omega), decide_eq_true h, decide_eq_true (by omega)]; rfl

/-- The weight of position `s` at position `t` as the host code writes it, `b` saying whether it counts. -/
def posWt (h : Fin 4) (t s : ℕ) (b : BitVec 1) : EReal :=
  Scalar.select b
    (Ideal.exp
      (Ideal.log1p (-Ideal.exp (Ideal.ofBits FTy.f32 0x3F317218#32
          * (Ideal.ofBits FTy.f32 0xC0A00000#32 - FloatOps.sitofp (F := Ideal) FTy.f32 (BitVec.ofNat 32 h.val))))
        * Scalar.select (IntOp.cmpi CmpIPredicate.eq (chunkOf (BitVec.ofNat 32 t)) (chunkOf (BitVec.ofNat 32 s)))
            (FloatOps.absf (F := Ideal) (φ := FTy.f32)
              (FloatOps.sitofp (F := Ideal) FTy.f32 (BitVec.ofNat 32 t) - FloatOps.sitofp (F := Ideal) FTy.f32 (BitVec.ofNat 32 s)))
            (FloatOps.sitofp (F := Ideal) FTy.f32 (BitVec.ofNat 32 t) - FloatOps.sitofp (F := Ideal) FTy.f32 (BitVec.ofNat 32 s))))
    (Ideal.ofBits FTy.f32 0x00000000#32)

include A

set_option maxHeartbeats 1600000 in
theorem ct_host (h : Fin 4) (t : Fin 8192) (e : Fin 64) : V m c main_v86 (ix3 h t e) = (C t (col h e) : EReal) := by
  simp only [V, List.flatten_cons, List.flatten_nil, List.append_nil, StableHlo.after_append]
  set_option maxHeartbeats 1600000 in after_results_simp
  pointwise
  exact A.h0 t (col h e)

set_option maxHeartbeats 1600000 in
theorem q_host (h : Fin 4) (t : Fin 8192) (e : Fin 64) : V m c main_v89 (ix3 h t e) = (Q t h e : EReal) := by
  simp only [V, List.flatten_cons, List.flatten_nil, List.append_nil, StableHlo.after_append]
  set_option maxHeartbeats 1600000 in after_results_simp
  pointwise
  exact A.h1 t h e

set_option maxHeartbeats 1600000 in
theorem k_host (h : Fin 4) (t : Fin 8192) (e : Fin 64) : V m c main_v92 (ix3 h t e) = (K t h e : EReal) := by
  simp only [V, List.flatten_cons, List.flatten_nil, List.append_nil, StableHlo.after_append]
  set_option maxHeartbeats 1600000 in after_results_simp
  pointwise
  exact A.h2 t h e

set_option maxHeartbeats 1600000 in
theorem v_host (h : Fin 4) (t : Fin 8192) (e : Fin 64) : V m c main_v95 (ix3 h t e) = (V' t h e : EReal) := by
  simp only [V, List.flatten_cons, List.flatten_nil, List.append_nil, StableHlo.after_append]
  set_option maxHeartbeats 1600000 in after_results_simp
  pointwise
  exact A.h3 t h e

set_option maxHeartbeats 1600000 in
theorem gate_host (h : Fin 4) (t : Fin 8192) (e : Fin 64) : V m c main_v97 (ix3 h t e) = (G t h e : EReal) := by
  simp only [V, List.flatten_cons, List.flatten_nil, List.append_nil, StableHlo.after_append]
  set_option maxHeartbeats 1600000 in after_results_simp
  pointwise
  exact A.h4 t h e

set_option maxHeartbeats 1600000 in
theorem scale_host (h : Fin 4) (e : Fin 64) : V m c main_v98 (ix3 h 0 e) = (N (col h e) : EReal) := by
  simp only [V, List.flatten_cons, List.flatten_nil, List.append_nil, StableHlo.after_append]
  set_option maxHeartbeats 1600000 in after_results_simp
  pointwise
  exact A.h5 (col h e)

set_option maxHeartbeats 1600000 in
theorem y_host (h : Fin 4) (t : Fin 8192) (e : Fin 64) : V m c main_v100 (ix3 h t e) = (yR Q K V' h t e : EReal) := by
  simp only [V, List.flatten_cons, List.flatten_nil, List.append_nil, StableHlo.after_append]
  set_option maxHeartbeats 1600000 in after_results_simp
  simp -implicitDefEqProofs only [StableHlo.TRef.toBuf, StableHlo.TRef.ofBuf, cast_cast, cast_eq]
  pointwise
  change ∑ s : Fin 8192, a3 m c (ix4 0 s h e) * ((∑ d, a1 m c (ix4 0 t h d) * a2 m c (ix4 0 s h d))
    * posWt h t.val s.val (IntOp.cmpi CmpIPredicate.sle (chunkOf (BitVec.ofNat 32 s.val)) (chunkOf (BitVec.ofNat 32 t.val)))) = _
  simp only [posWt, c_zero, chunkOf_eq, lg_real, pos_real _ (Fin.isLt _), dist_real, ← EReal.coe_mul, Ideal.exp_coe, wt_real,
    A.h1, A.h2, A.h3]
  simp only [← EReal.coe_mul, ← coe_sum]
  rfl

set_option maxHeartbeats 1600000 in
theorem st_host (h : Fin 4) (b : Fin 16) (d e : Fin 64) :
    V m c main_v84 (ix4 h b d e) = (st (lg h) (fun t d => K t h d) (fun t d => V' t h d) b.val d e : EReal) := by
  simp only [V, List.flatten_cons, List.flatten_nil, List.append_nil, StableHlo.after_append]
  set_option maxHeartbeats 1600000 in after_results_simp
  simp -implicitDefEqProofs only [StableHlo.TRef.toBuf, StableHlo.TRef.ofBuf, cast_cast, cast_eq]
  pointwise
  have hb : IntOp.muli (BitVec.ofNat 32 b.val) 512#32 = BitVec.ofNat 32 (512 * b.val) := by
    rw [mul_comm, BitVec.ofNat_mul]; rfl
  have hlt : 512 * b.val < 8192 := by omega
  simp only [hb, lg_real, pos_real _ (Fin.isLt _), pos_real _ hlt, one_real, ← EReal.coe_mul, ← EReal.coe_sub, Ideal.exp_coe]
  change (∑ s : Fin 8192, a2 m c (ix4 0 s h d)
    * Scalar.select (IntOp.cmpi CmpIPredicate.slt (BitVec.ofNat 32 s.val) (BitVec.ofNat 32 (512 * b.val)))
        ((Real.exp (lg h * (((512 * b.val : ℕ) : ℝ) - 1 - (s.val : ℝ))) : ℝ) : EReal) (Ideal.ofBits FTy.f32 0x00000000#32)
    * a3 m c (ix4 0 s h e) : EReal) = _
  unfold st
  rw [coe_sum]
  refine Finset.sum_congr rfl fun s _ => ?_
  rw [c_zero, select_slt s ⟨512 * b.val, hlt⟩, A.h2, A.h3, EReal.coe_mul, EReal.coe_mul]
  refine congrArg (· * _) (congrArg (_ * ·) ?_)
  simp only [Nat.cast_mul, Nat.cast_ofNat]
  split <;> rfl

omit A

set_option maxHeartbeats 1600000 in
theorem wt_host (h : Fin 4) (i j : Fin 512) : V m c main_v136 (ix3 h i j) = (wt (lg h) i.val j.val : EReal) := by
  simp only [V, List.flatten_cons, List.flatten_nil, List.append_nil, StableHlo.after_append]
  set_option maxHeartbeats 1600000 in after_results_simp
  simp -implicitDefEqProofs only [StableHlo.TRef.toBuf, StableHlo.TRef.ofBuf, cast_cast, cast_eq]
  pointwise
  have hi : i.val < 8192 := by omega
  have hj : j.val < 8192 := by omega
  change posWt h i.val j.val (IntOp.ori
    (IntOp.cmpi CmpIPredicate.eq (chunkOf (BitVec.ofNat 32 i.val)) (chunkOf (BitVec.ofNat 32 j.val)))
    (IntOp.cmpi CmpIPredicate.slt (chunkOf (BitVec.ofNat 32 j.val)) (chunkOf (BitVec.ofNat 32 i.val)))) = _
  simp only [posWt, c_zero, chunk_nat _ hi, chunk_nat _ hj, lg_real, pos_real _ hi, pos_real _ hj]
  have hd := dist_real ⟨i.val, hi⟩ ⟨j.val, hj⟩
  dsimp only at hd
  rw [hd, ← EReal.coe_mul, Ideal.exp_coe]
  exact or_real (lg h) ⟨i.val, hi⟩ ⟨j.val, hj⟩

set_option maxHeartbeats 1600000 in
theorem qdec_host (h : Fin 4) (i : Fin 512) (e : Fin 64) :
    V m c main_v149 (ix3 h i e) = (Real.exp (lg h * (i.val + 1)) : EReal) := by
  simp only [V, List.flatten_cons, List.flatten_nil, List.append_nil, StableHlo.after_append]
  set_option maxHeartbeats 1600000 in after_results_simp
  pointwise
  have hi : i.val < 8192 := by omega
  rw [lg_real, pos_real _ hi, one_real, ← EReal.coe_add, ← EReal.coe_mul, Ideal.exp_coe]

set_option maxHeartbeats 1600000 in
theorem kdec_host (h : Fin 4) (i : Fin 512) (e : Fin 64) :
    V m c main_v161 (ix3 h i e) = (Real.exp (lg h * (511 - i.val)) : EReal) := by
  simp only [V, List.flatten_cons, List.flatten_nil, List.append_nil, StableHlo.after_append]
  set_option maxHeartbeats 1600000 in after_results_simp
  pointwise
  have hi : i.val < 8192 := by omega
  rw [lg_real, pos_real _ hi, c_511, ← EReal.coe_sub, ← EReal.coe_mul, Ideal.exp_coe]

set_option maxHeartbeats 1600000 in
theorem bdec_host (h : Fin 4) (i e : Fin 64) :
    V m c main_v169 (ix3 h i e) = (Real.exp (lg h * 512) : EReal) := by
  simp only [V, List.flatten_cons, List.flatten_nil, List.append_nil, StableHlo.after_append]
  set_option maxHeartbeats 1600000 in after_results_simp
  pointwise
  rw [lg_real, c_512, ← EReal.coe_mul, Ideal.exp_coe]

end Cert.KernelIdeal.Ret
-- ==== Proof.RetBlocks.lean ====
/-
  Which head and which block of rows a grid point of the retention's backward kernel works on, and what its input blocks are of the
  arrays that the host code prepared.
-/
module

public import proofs.«01_k».proof.Proof.RetHost

@[expose] public section

set_option maxRecDepth 16384

noncomputable section

namespace Cert.KernelIdeal.Ret

open Cert.KernelIdeal Cert.KernelIdeal.Gen Idealize.ShloMosaic Idealize.ShloMosaic.TcCoe Idealize.SL.Sem
open Idealize.ShloMosaic.Pipeline (Dat)
open Cert.Proof.RetMath

variable (m : (ℓ : Loc nD τ sig) → Buf (Elt Ideal) ℓ) (c : Dev nD)
variable (C : Fin 8192 → Fin 256 → ℝ) (Q K V' G : Fin 8192 → Fin 4 → Fin 64 → ℝ) (N : Fin 256 → ℝ)
variable (A : Args m c C Q K V' G N)

theorem lt64 (t : Fin cfg0.N) : t.val < 64 := lt_of_lt_of_eq t.isLt (show cfg0.N = 64 from N_0)

/-- The head of a grid point. -/
def hd (t : Fin cfg0.N) : Fin 4 := ⟨t.val / 16, by have := lt64 t; omega⟩

/-- The block of a grid point. -/
def bk (t : Fin cfg0.N) : Fin 16 := ⟨15 - t.val % 16, by omega⟩

theorem idx : ∀ t : Fin cfg0.N,
    win0_0.index t = ![t.val / 16, 15 - t.val % 16, 0] ∧ win0_1.index t = ![t.val / 16, 15 - t.val % 16, 0]
    ∧ win0_2.index t = ![t.val / 16, 15 - t.val % 16, 0] ∧ win0_3.index t = ![t.val / 16, 15 - t.val % 16, 0]
    ∧ win0_4.index t = ![t.val / 16, 15 - t.val % 16, 0] ∧ win0_5.index t = ![t.val / 16, 0, 0]
    ∧ win0_6.index t = ![t.val / 16, 15 - t.val % 16, 0] ∧ win0_7.index t = ![t.val / 16, 15 - t.val % 16, 0, 0]
    ∧ win0_8.index t = ![t.val / 16, 0, 0] ∧ win0_9.index t = ![t.val / 16, 0, 0]
    ∧ win0_10.index t = ![t.val / 16, 0, 0] ∧ win0_11.index t = ![t.val / 16, 0, 0]
    ∧ win0_12.index t = ![t.val / 16, 15 - t.val % 16, 0] ∧ win0_13.index t = ![t.val / 16, 15 - t.val % 16, 0]
    ∧ win0_14.index t = ![t.val / 16, 15 - t.val % 16, 0] ∧ win0_15.index t = ![t.val / 16, 15 - t.val % 16, 0]
    ∧ win0_16.index t = ![t.val / 16, 0, 0] :=
  (by decide +kernel : ∀ t : Fin grid0.N, _)

section blocks

variable (t : Fin cfg0.N)

theorem blk0 (i : Fin 512) (e : Fin 64) : (iblk m c 0 t : FVec Ideal S1x512x64 .f32) (ix3 0 i e) = V m c main_v86 (ix3 (hd t) (row (bk t) i) e) := by
  have := lt64 t
  blk_ext [iblk, idx t, hd, bk, row]
theorem blk1 (i : Fin 512) (e : Fin 64) : (iblk m c 1 t : FVec Ideal S1x512x64 .bf16) (ix3 0 i e) = V m c main_v89 (ix3 (hd t) (row (bk t) i) e) := by
  have := lt64 t
  blk_ext [iblk, idx t, hd, bk, row]
theorem blk2 (i : Fin 512) (e : Fin 64) : (iblk m c 2 t : FVec Ideal S1x512x64 .bf16) (ix3 0 i e) = V m c main_v92 (ix3 (hd t) (row (bk t) i) e) := by
  have := lt64 t
  blk_ext [iblk, idx t, hd, bk, row]
theorem blk3 (i : Fin 512) (e : Fin 64) : (iblk m c 3 t : FVec Ideal S1x512x64 .bf16) (ix3 0 i e) = V m c main_v95 (ix3 (hd t) (row (bk t) i) e) := by
  have := lt64 t
  blk_ext [iblk, idx t, hd, bk, row]
theorem blk4 (i : Fin 512) (e : Fin 64) : (iblk m c 4 t : FVec Ideal S1x512x64 .f32) (ix3 0 i e) = V m c main_v97 (ix3 (hd t) (row (bk t) i) e) := by
  have := lt64 t
  blk_ext [iblk, idx t, hd, bk, row]
theorem blk5 (e : Fin 64) : (iblk m c 5 t : FVec Ideal S1x1x64 .f32) (ix3 0 0 e) = V m c main_v98 (ix3 (hd t) 0 e) := by
  have := lt64 t
  blk_ext [iblk, idx t, hd]
theorem blk6 (i : Fin 512) (e : Fin 64) : (iblk m c 6 t : FVec Ideal S1x512x64 .f32) (ix3 0 i e) = V m c main_v100 (ix3 (hd t) (row (bk t) i) e) := by
  have := lt64 t
  blk_ext [iblk, idx t, hd, bk, row]
theorem blk7 (d e : Fin 64) : (iblk m c 7 t : FVec Ideal S1x1x64x64 .f32) (ix4 0 0 d e) = V m c main_v84 (ix4 (hd t) (bk t) d e) := by
  have := lt64 t
  blk_ext [iblk, idx t, hd, bk]
theorem blk8 (i j : Fin 512) : (iblk m c 8 t : FVec Ideal S1x512x512 .f32) (ix3 0 i j) = V m c main_v136 (ix3 (hd t) i j) := by
  have := lt64 t
  blk_ext [iblk, idx t, hd]
theorem blk9 (i : Fin 512) (e : Fin 64) : (iblk m c 9 t : FVec Ideal S1x512x64 .f32) (ix3 0 i e) = V m c main_v149 (ix3 (hd t) i e) := by
  have := lt64 t
  blk_ext [iblk, idx t, hd]
theorem blk10 (i : Fin 512) (e : Fin 64) : (iblk m c 10 t : FVec Ideal S1x512x64 .f32) (ix3 0 i e) = V m c main_v161 (ix3 (hd t) i e) := by
  have := lt64 t
  blk_ext [iblk, idx t, hd]
theorem blk11 (i e : Fin 64) : (iblk m c 11 t : FVec Ideal S1x64x64 .f32) (ix3 0 i e) = V m c main_v169 (ix3 (hd t) i e) := by
  have := lt64 t
  blk_ext [iblk, idx t, hd]

end blocks

end Cert.KernelIdeal.Ret
-- ==== Proof.RetBody.lean ====
/-
  What one grid point of the retention's backward kernel computes from its blocks, when the blocks hold real numbers.
-/
module

public import proofs.«01_k».proof.Proof.Gen.KernelIdeal.Skeleton
public import proofs.«01_k».proof.Proof.RetSpec
public import Idealize.ShloMosaic.Lib.Pipeline.ValueKit
public import Idealize.ShloMosaic.Lib.Pointwise
public import Idealize.ShloMosaic.Lib.Claim

@[expose] public section

set_option maxRecDepth 16384

noncomputable section

namespace Cert.KernelIdeal.Ret

open Cert.KernelIdeal Cert.KernelIdeal.Gen Idealize.ShloMosaic Idealize.ShloMosaic.TcCoe Idealize.SL.Sem
open Cert.Proof.RetMath

/-! ### The norm and the gate -/

section norm

variable (b6 : FVec Ideal S1x512x64 .f32) (y : Fin 512 → Fin 64 → ℝ) (hy : ∀ i e, b6 (ix3 0 i e) = (y i e : EReal))

include hy

theorem cen_body (i : Fin 512) (e : Fin 64) : k0_pay7 (F := Ideal) b6 (ix2 i e) = (cen (y i) e : EReal) := by
  pointwise [k0_pay7]
  simp only [hy, c_64, ← coe_sum, div_64, ← EReal.coe_sub]
  rfl

theorem rst_body (i : Fin 512) : k0_pay8 (F := Ideal) b6 (ix2 i 0) = (rst (y i) : EReal) := by
  pointwise [k0_pay8]
  simp only [cen_body b6 y hy, c_64, c_eps, ← EReal.coe_mul, ← coe_sum, div_64, ← EReal.coe_add]
  exact rsqrt_var (y i)

theorem nrm_body (i : Fin 512) (e : Fin 64) : k0_pay9 (F := Ideal) b6 (ix2 i e) = (nrm (y i) e : EReal) := by
  pointwise [k0_pay9]
  simp only [cen_body b6 y hy, rst_body b6 y hy, ← EReal.coe_mul]
  rfl

omit hy

variable (b4 : FVec Ideal S1x512x64 .f32) (g : Fin 512 → Fin 64 → ℝ) (hg : ∀ i e, b4 (ix3 0 i e) = (g i e : EReal))

include hg

theorem gate_body (i : Fin 512) (e : Fin 64) : k0_pay10 (F := Ideal) b4 (ix2 i e) = (g i e : EReal) := by
  pointwise [k0_pay10]
  rw [hg]

theorem sg_body (i : Fin 512) (e : Fin 64) : k0_pay11 (F := Ideal) b4 (ix2 i e) = (sg (g i e) : EReal) := by
  pointwise [k0_pay11]
  simp only [gate_body b4 g hg, one_real, ← EReal.coe_neg, ← EReal.coe_sub, Ideal.exp_coe, ← EReal.coe_add, div_sg, zero_sub]

omit hg

variable (b0 : FVec Ideal S1x512x64 .f32) (ct : Fin 512 → Fin 64 → ℝ) (hct : ∀ i e, b0 (ix3 0 i e) = (ct i e : EReal))
variable (b5 : FVec Ideal S1x1x64 .f32) (n : Fin 64 → ℝ) (hn : ∀ e, b5 (ix3 0 0 e) = (n e : EReal))

include hct in
theorem ct_body (i : Fin 512) (e : Fin 64) : k0_pay13 (F := Ideal) b0 (ix2 i e) = (ct i e : EReal) := by
  pointwise [k0_pay13]
  rw [hct]

include hn in
theorem scale_body (e : Fin 64) : k0_pay12 (F := Ideal) b5 (ix2 0 e) = (n e : EReal) := by
  pointwise [k0_pay12]
  rw [hn]

/-- The gradient of the retention's output that a grid point computes. -/
abbrev DY (b6 b4 b0 : FVec Ideal S1x512x64 .f32) (b5 : FVec Ideal S1x1x64 .f32) : FVec Ideal S512x64 .bf16 :=
  k0_pay18 (k0_pay8 b6) (k0_pay9 b6) (k0_pay10 b4) (k0_pay11 b4) (k0_pay12 b5) (k0_pay13 b0)

include hg hct in
theorem dn_body (i : Fin 512) (e : Fin 64) :
    k0_pay16 (F := Ideal) (k0_pay10 b4) (k0_pay11 b4) (k0_pay13 b0) (ix2 i e) = ((g i e * sg (g i e) * ct i e : ℝ) : EReal) := by
  pointwise [k0_pay16]
  rw [gate_body b4 g hg, sg_body b4 g hg, ct_body b0 ct hct, ← EReal.coe_mul, ← EReal.coe_mul, mul_comm]

include hy hg hct hn

theorem dy_body (i : Fin 512) (e : Fin 64) :
    DY b6 b4 b0 b5 (ix2 i e) = (dnorm (y i) (fun e => g i e * sg (g i e) * ct i e * n e) e : EReal) := by
  pointwise [k0_pay18]
  simp only [dn_body b4 g hg b0 ct hct, scale_body b5 n hn, nrm_body b6 y hy, rst_body b6 y hy, c_64, ← EReal.coe_mul, ← coe_sum,
    div_64, ← EReal.coe_sub]
  rfl

theorem dgate_body (i : Fin 512) (e : Fin 64) :
    k0_pay15 (F := Ideal) (k0_pay9 b6) (k0_pay10 b4) (k0_pay11 b4) (k0_pay13 b0) (k0_pay14 b5) (ix3 0 i e)
      = ((ct i e * (nrm (y i) e * n e) * sg (g i e)
          + g i e * (ct i e * (nrm (y i) e * n e)) * (sg (g i e) * (1 - sg (g i e))) : ℝ) : EReal) := by
  pointwise [k0_pay15, k0_pay14]
  simp only [nrm_body b6 y hy, gate_body b4 g hg, sg_body b4 g hg, ct_body b0 ct hct, scale_body b5 n hn, one_real,
    ← EReal.coe_mul, ← EReal.coe_sub, ← EReal.coe_add]
  refine congrArg _ ?_
  ring

omit hn

theorem dg_body (acc : FVec Ideal S1x1x64 .f32) (e : Fin 64) :
    k0_pay17 (F := Ideal) (k0_pay9 b6) (k0_pay10 b4) (k0_pay11 b4) (k0_pay13 b0) acc (ix3 0 0 e)
      = acc (ix3 0 0 e) + ((∑ i : Fin 512, nrm (y i) e * (g i e * sg (g i e) * ct i e) : ℝ) : EReal) := by
  pointwise [k0_pay17]
  refine congrArg (_ + ·) ?_
  simp only [nrm_body b6 y hy, dn_body b4 g hg b0 ct hct, ← EReal.coe_mul, ← coe_sum]
  exact congrArg _ (Finset.sum_congr rfl fun i _ => mul_comm _ _)

end norm

/-! ### The products -/

section products

variable (D : FVec Ideal S512x64 .bf16) (dy : Fin 512 → Fin 64 → ℝ) (hdy : ∀ i e, D (ix2 i e) = (dy i e : EReal))
variable (b1 b2 b3 : FVec Ideal S1x512x64 .bf16) (q k v : Fin 512 → Fin 64 → ℝ)
variable (hq : ∀ i e, b1 (ix3 0 i e) = (q i e : EReal)) (hk : ∀ i e, b2 (ix3 0 i e) = (k i e : EReal))
variable (hv : ∀ i e, b3 (ix3 0 i e) = (v i e : EReal))
variable (b8 : FVec Ideal S1x512x512 .f32) (w : Fin 512 → Fin 512 → ℝ) (hw : ∀ i j, b8 (ix3 0 i j) = (w i j : EReal))
variable (b9 b10 : FVec Ideal S1x512x64 .f32) (qd kd : Fin 512 → ℝ)
variable (hqd : ∀ i e, b9 (ix3 0 i e) = (qd i : EReal)) (hkd : ∀ i e, b10 (ix3 0 i e) = (kd i : EReal))
variable (b7 : FVec Ideal S1x1x64x64 .f32) (s : Fin 64 → Fin 64 → ℝ) (hs : ∀ d e, b7 (ix4 0 0 d e) = (s d e : EReal))
variable (b11 : FVec Ideal S1x64x64 .f32) (bd : ℝ) (hbd : ∀ d e, b11 (ix3 0 d e) = (bd : EReal))
variable (U : FVec Ideal S64x64 .f32) (u : Fin 64 → Fin 64 → ℝ) (hu : ∀ d e, U (ix2 d e) = (u d e : EReal))

include hdy hv hw in
theorem p_body (i j : Fin 512) :
    k0_pay26 (F := Ideal) D b3 b8 (ix2 i j) = (((∑ e, dy i e * v j e) * w i j : ℝ) : EReal) := by
  pointwise [k0_pay26, k0_pay21, k0_pay22]
  simp only [hdy, hv, hw, ← EReal.coe_mul, ← coe_sum]

include hdy hk hv hw hqd hs in
theorem dq_body (i : Fin 512) (d : Fin 64) :
    k0_pay1 (F := Ideal) (k0_pay30 D b2 b3 b8) (k0_pay31 D b9 b7) (ix3 0 i d)
      = ((∑ j, (∑ e, dy i e * v j e) * w i j * k j d + qd i * ∑ e, dy i e * s d e : ℝ) : EReal) := by
  pointwise [k0_pay1, k0_pay30, k0_pay31, k0_pay20, k0_pay23]
  simp only [p_body D dy hdy b3 v hv b8 w hw, hdy, hk, hs, hqd, ← EReal.coe_mul, ← coe_sum, ← EReal.coe_add]

include hdy hq hv hw hkd hu in
theorem dk_body (j : Fin 512) (d : Fin 64) :
    k0_pay2 (F := Ideal) (k0_pay19 b1) (k0_pay21 b3) (k0_pay24 b10) (k0_pay25 U) (k0_pay26 D b3 b8) (ix3 0 j d)
      = ((∑ i, (∑ e, dy i e * v j e) * w i j * q i d + kd j * ∑ e, v j e * u d e : ℝ) : EReal) := by
  pointwise [k0_pay2, k0_pay19, k0_pay21, k0_pay24, k0_pay25]
  simp only [p_body D dy hdy b3 v hv b8 w hw, hq, hv, hu, hkd, ← EReal.coe_mul, ← coe_sum, ← EReal.coe_add]

include hdy hq hk hw hkd hu in
theorem dv_body (j : Fin 512) (e : Fin 64) :
    k0_pay3 (F := Ideal) D (k0_pay25 U) (k0_pay27 b1 b2 b8) (k0_pay29 b2 b10) (ix3 0 j e)
      = ((∑ i, (∑ d, q i d * k j d) * w i j * dy i e + ∑ d, k j d * kd j * u d e : ℝ) : EReal) := by
  pointwise [k0_pay3, k0_pay25, k0_pay27, k0_pay29, k0_pay19, k0_pay20, k0_pay22, k0_pay24]
  simp only [hq, hk, hw, hdy, hu, hkd, ← EReal.coe_mul, ← coe_sum, ← EReal.coe_add]

include hdy hq hqd hbd hu in
theorem u_body (d e : Fin 64) :
    k0_pay4 (F := Ideal) D U (k0_pay28 b1 b9) b11 (ix2 d e)
      = ((bd * u d e + ∑ i, q i d * qd i * dy i e : ℝ) : EReal) := by
  pointwise [k0_pay4, k0_pay28, k0_pay19, k0_pay23]
  simp only [hq, hqd, hdy, hu, hbd, ← EReal.coe_mul, ← coe_sum, ← EReal.coe_add]

end products

theorem zero_u (d e : Fin 64) : k0_pay5 (F := Ideal) (ix2 d e) = ((0 : ℝ) : EReal) := by
  pointwise [k0_pay5]
  rfl

theorem zero_g (e : Fin 64) : k0_pay6 (F := Ideal) (ix3 0 0 e) = ((0 : ℝ) : EReal) := by
  pointwise [k0_pay6]
  rfl

end Cert.KernelIdeal.Ret
-- ==== Proof.RetPoint.lean ====
/-
  What the retention's backward kernel computes at each grid point.  The grid goes over the heads and, within a head, over the blocks of 512 rows from the
  last to the first; a running sum of what the later rows contribute is carried from one block to the next.
-/
module

public import proofs.«01_k».proof.Proof.RetBlocks
public import Idealize.ShloMosaic.Lib.Pipeline.ReadBack
public import proofs.«01_k».proof.Proof.RetBody

@[expose] public section

set_option maxRecDepth 16384

noncomputable section

namespace Cert.KernelIdeal.Ret

open Cert.KernelIdeal Cert.KernelIdeal.Gen Idealize.ShloMosaic Idealize.ShloMosaic.TcCoe Idealize.SL.Sem
open Idealize.ShloMosaic.Pipeline (Dat)
open Cert.Proof.RetMath

variable (m : (ℓ : Loc nD τ sig) → Buf (Elt Ideal) ℓ) (c : Dev nD)
variable (C : Fin 8192 → Fin 256 → ℝ) (Q K V' G : Fin 8192 → Fin 4 → Fin 64 → ℝ) (N : Fin 256 → ℝ)
variable (A : Args m c C Q K V' G N)

/-- The gradient of the retention's output for head `h`, by positions. -/
abbrev DYh (h : Fin 4) : Fin 8192 → Fin 64 → ℝ := fun t e => dyR C Q K V' G N h t e

/-- What the rows from block `b` on add to the gradient of the scale. -/
def gg (h : Fin 4) (b : ℕ) (e : Fin 64) : ℝ :=
  ∑ t : Fin 8192, if 512 * b ≤ t.val then nrm (yR Q K V' h t) e * dnR C G h t e else 0

theorem gg_end (h : Fin 4) (e : Fin 64) : gg C Q K V' G h 16 e = 0 :=
  Finset.sum_eq_zero fun t _ => if_neg (by have := t.isLt; omega)

theorem gg_all (h : Fin 4) (e : Fin 64) : gg C Q K V' G h 0 e = dgR C Q K V' G h e :=
  Finset.sum_congr rfl fun t _ => if_pos (by omega)

theorem gg_step (h : Fin 4) (b : Fin 16) (e : Fin 64) : gg C Q K V' G h b.val e
    = gg C Q K V' G h (b.val + 1) e + ∑ i : Fin 512, nrm (yR Q K V' h (row b i)) e * dnR C G h (row b i) e := by
  unfold gg
  rw [sum_split _ b]
  have h1 : ∑ i : Fin 512, (if 512 * b.val ≤ (row b i).val then nrm (yR Q K V' h (row b i)) e * dnR C G h (row b i) e else 0)
      = ∑ i : Fin 512, nrm (yR Q K V' h (row b i)) e * dnR C G h (row b i) e :=
    Finset.sum_congr rfl fun i _ => if_pos (by simp only [row]; omega)
  have h2 : ∑ s : Fin 8192, (if s.val < 512 * b.val then
      (if 512 * b.val ≤ s.val then nrm (yR Q K V' h s) e * dnR C G h s e else 0) else 0) = 0 :=
    Finset.sum_eq_zero fun s _ => by
      by_cases hs : s.val < 512 * b.val
      · rw [if_pos hs, if_neg (by omega)]
      · rw [if_neg hs]
  have h3 : ∑ s : Fin 8192, (if 512 * (b.val + 1) ≤ s.val then
      (if 512 * b.val ≤ s.val then nrm (yR Q K V' h s) e * dnR C G h s e else 0) else 0)
      = ∑ s : Fin 8192, (if 512 * (b.val + 1) ≤ s.val then nrm (yR Q K V' h s) e * dnR C G h s e else 0) :=
    Finset.sum_congr rfl fun s _ => by
      by_cases hs : 512 * (b.val + 1) ≤ s.val
      · rw [if_pos hs, if_pos hs, if_pos (by omega)]
      · rw [if_neg hs, if_neg hs]
  rw [h1, h2, h3]
  ring

section point

variable (t : Fin cfg0.N)

/-- The gradient of the retention's output at a grid point. -/
abbrev DYt : FVec Ideal S512x64 .bf16 := DY (iblk m c 6 t) (iblk m c 4 t) (iblk m c 0 t) (iblk m c 5 t)

include A

theorem rct (i : Fin 512) (e : Fin 64) :
    (iblk m c 0 t : FVec Ideal S1x512x64 .f32) (ix3 0 i e) = (C (row (bk t) i) (col (hd t) e) : EReal) := by
  rw [blk0, ct_host m c C Q K V' G N A]
theorem rq (i : Fin 512) (e : Fin 64) :
    (iblk m c 1 t : FVec Ideal S1x512x64 .bf16) (ix3 0 i e) = (Q (row (bk t) i) (hd t) e : EReal) := by
  rw [blk1, q_host m c C Q K V' G N A]
theorem rk (i : Fin 512) (e : Fin 64) :
    (iblk m c 2 t : FVec Ideal S1x512x64 .bf16) (ix3 0 i e) = (K (row (bk t) i) (hd t) e : EReal) := by
  rw [blk2, k_host m c C Q K V' G N A]
theorem rv (i : Fin 512) (e : Fin 64) :
    (iblk m c 3 t : FVec Ideal S1x512x64 .bf16) (ix3 0 i e) = (V' (row (bk t) i) (hd t) e : EReal) := by
  rw [blk3, v_host m c C Q K V' G N A]
theorem rgate (i : Fin 512) (e : Fin 64) :
    (iblk m c 4 t : FVec Ideal S1x512x64 .f32) (ix3 0 i e) = (G (row (bk t) i) (hd t) e : EReal) := by
  rw [blk4, gate_host m c C Q K V' G N A]
theorem rscale (e : Fin 64) : (iblk m c 5 t : FVec Ideal S1x1x64 .f32) (ix3 0 0 e) = (N (col (hd t) e) : EReal) := by
  rw [blk5, scale_host m c C Q K V' G N A]
theorem ry (i : Fin 512) (e : Fin 64) :
    (iblk m c 6 t : FVec Ideal S1x512x64 .f32) (ix3 0 i e) = (yR Q K V' (hd t) (row (bk t) i) e : EReal) := by
  rw [blk6, y_host m c C Q K V' G N A]
theorem rst_ (d e : Fin 64) : (iblk m c 7 t : FVec Ideal S1x1x64x64 .f32) (ix4 0 0 d e)
    = (st (lg (hd t)) (fun s d => K s (hd t) d) (fun s d => V' s (hd t) d) (bk t).val d e : EReal) := by
  rw [blk7, st_host m c C Q K V' G N A]

omit A

theorem rwt (i j : Fin 512) :
    (iblk m c 8 t : FVec Ideal S1x512x512 .f32) (ix3 0 i j) = (wt (lg (hd t)) i.val j.val : EReal) := by
  rw [blk8, wt_host]
theorem rqdec (i : Fin 512) (e : Fin 64) :
    (iblk m c 9 t : FVec Ideal S1x512x64 .f32) (ix3 0 i e) = (Real.exp (lg (hd t) * (i.val + 1)) : EReal) := by
  rw [blk9, qdec_host]
theorem rkdec (i : Fin 512) (e : Fin 64) :
    (iblk m c 10 t : FVec Ideal S1x512x64 .f32) (ix3 0 i e) = (Real.exp (lg (hd t) * (511 - i.val)) : EReal) := by
  rw [blk10, kdec_host]
theorem rbdec (d e : Fin 64) :
    (iblk m c 11 t : FVec Ideal S1x64x64 .f32) (ix3 0 d e) = (Real.exp (lg (hd t) * 512) : EReal) := by
  rw [blk11, bdec_host]

include A

theorem rdy (i : Fin 512) (e : Fin 64) : DYt m c t (ix2 i e) = (DYh C Q K V' G N (hd t) (row (bk t) i) e : EReal) :=
  dy_body (iblk m c 6 t) (fun i e => yR Q K V' (hd t) (row (bk t) i) e) (ry m c C Q K V' G N A t)
    (iblk m c 4 t) (fun i e => G (row (bk t) i) (hd t) e) (rgate m c C Q K V' G N A t)
    (iblk m c 0 t) (fun i e => C (row (bk t) i) (col (hd t) e)) (rct m c C Q K V' G N A t)
    (iblk m c 5 t) (fun e => N (col (hd t) e)) (rscale m c C Q K V' G N A t) i e

/-- What the running sum becomes at a grid point. -/
theorem u_point (U : FVec Ideal S64x64 .f32)
    (hu : ∀ d e, U (ix2 d e) = (uu (lg (hd t)) (fun s d => Q s (hd t) d) (DYh C Q K V' G N (hd t)) ((bk t).val + 1) d e : EReal))
    (d e : Fin 64) :
    k0_pay4 (F := Ideal) (DYt m c t) U (k0_pay28 (iblk m c 1 t) (iblk m c 9 t)) (iblk m c 11 t) (ix2 d e)
      = (uu (lg (hd t)) (fun s d => Q s (hd t) d) (DYh C Q K V' G N (hd t)) (bk t).val d e : EReal) := by
  rw [uu_step]
  exact u_body (DYt m c t) _ (rdy m c C Q K V' G N A t) (iblk m c 1 t) (fun i d => Q (row (bk t) i) (hd t) d)
    (rq m c C Q K V' G N A t) (iblk m c 9 t) _ (rqdec m c t) (iblk m c 11 t) _ (rbdec m c t) U _ hu d e

/-- What the gradient of the scale becomes at a grid point. -/
theorem g_point (acc : FVec Ideal S1x1x64 .f32)
    (ha : ∀ e, acc (ix3 0 0 e) = (gg C Q K V' G (hd t) ((bk t).val + 1) e : EReal)) (e : Fin 64) :
    k0_pay17 (F := Ideal) (k0_pay9 (iblk m c 6 t)) (k0_pay10 (iblk m c 4 t)) (k0_pay11 (iblk m c 4 t)) (k0_pay13 (iblk m c 0 t)) acc
      (ix3 0 0 e) = (gg C Q K V' G (hd t) (bk t).val e : EReal) := by
  rw [gg_step, EReal.coe_add, ← ha]
  exact dg_body (iblk m c 6 t) (fun i e => yR Q K V' (hd t) (row (bk t) i) e) (ry m c C Q K V' G N A t)
    (iblk m c 4 t) (fun i e => G (row (bk t) i) (hd t) e) (rgate m c C Q K V' G N A t)
    (iblk m c 0 t) (fun i e => C (row (bk t) i) (col (hd t) e)) (rct m c C Q K V' G N A t) acc e

end point

/-! ### The running sums over the grid -/

/-- At the first point of a head the block after it is past the end. -/
theorem bk_first (t : Fin cfg0.N) (h : t.val % 16 = 0) : (bk t).val + 1 = 16 := by
  simp only [bk]; omega

theorem hd_next (n : ℕ) (hn : n + 1 < cfg0.N) (h : ¬(n + 1) % 16 = 0) :
    hd ⟨n + 1, hn⟩ = hd ⟨n, Nat.lt_of_succ_lt hn⟩ := by
  apply Fin.ext; simp only [hd]; omega

theorem bk_next (n : ℕ) (hn : n + 1 < cfg0.N) (h : ¬(n + 1) % 16 = 0) :
    (bk ⟨n + 1, hn⟩).val + 1 = (bk ⟨n, Nat.lt_of_succ_lt hn⟩).val := by
  simp only [bk]; omega

include A

/-- The carried sum after a grid point. -/
theorem u_after (n : ℕ) (hn : n < cfg0.N) (d e : Fin 64) : (outsAt0 m c n hn).2.2.2.2.2 (ix2 d e)
    = (uu (lg (hd ⟨n, hn⟩)) (fun s d => Q s (hd ⟨n, hn⟩) d) (DYh C Q K V' G N (hd ⟨n, hn⟩)) (bk ⟨n, hn⟩).val d e : EReal) := by
  induction n generalizing d e with
  | zero =>
    have h0 : (⟨0, hn⟩ : Fin cfg0.N).val % 16 = 0 := rfl
    rw [outsAt0_A m c ⟨0, hn⟩ h0]
    frame_out
    refine u_point m c C Q K V' G N A ⟨0, hn⟩ _ (fun d e => ?_) d e
    rw [bk_first _ h0, uu_end]
    exact zero_u d e
  | succ n ih =>
    by_cases h0 : (⟨n + 1, hn⟩ : Fin cfg0.N).val % 16 = 0
    · rw [outsAt0_A m c ⟨n + 1, hn⟩ h0]
      frame_out
      refine u_point m c C Q K V' G N A ⟨n + 1, hn⟩ _ (fun d e => ?_) d e
      rw [bk_first _ h0, uu_end]
      exact zero_u d e
    · rw [outsAt0_B m c ⟨n + 1, hn⟩ h0]
      frame_out
      refine u_point m c C Q K V' G N A ⟨n + 1, hn⟩ _ (fun d e => ?_) d e
      rw [bk_next n hn h0, hd_next n hn h0, read_unread_whole]
      exact ih (Nat.lt_of_succ_lt hn) d e

/-- The gradient of the scale after a grid point. -/
theorem g_after (n : ℕ) (hn : n < cfg0.N) (e : Fin 64) : (outsAt0 m c n hn).2.2.2.2.1 (ix3 0 0 e)
    = (gg C Q K V' G (hd ⟨n, hn⟩) (bk ⟨n, hn⟩).val e : EReal) := by
  induction n generalizing e with
  | zero =>
    have h0 : (⟨0, hn⟩ : Fin cfg0.N).val % 16 = 0 := rfl
    rw [outsAt0_A m c ⟨0, hn⟩ h0]
    frame_out
    refine g_point m c C Q K V' G N A ⟨0, hn⟩ _ (fun e => ?_) e
    rw [bk_first _ h0, gg_end]
    exact zero_g e
  | succ n ih =>
    by_cases h0 : (⟨n + 1, hn⟩ : Fin cfg0.N).val % 16 = 0
    · rw [outsAt0_A m c ⟨n + 1, hn⟩ h0]
      frame_out
      refine g_point m c C Q K V' G N A ⟨n + 1, hn⟩ _ (fun e => ?_) e
      rw [bk_first _ h0, gg_end]
      exact zero_g e
    · rw [outsAt0_B m c ⟨n + 1, hn⟩ h0]
      frame_out
      refine g_point m c C Q K V' G N A ⟨n + 1, hn⟩ _ (fun e => ?_) e
      rw [bk_next n hn h0, hd_next n hn h0]
      exact ih (Nat.lt_of_succ_lt hn) e

/-- What the body finds in the carried sum at a point that is not the first of its head. -/
theorem u_before (t : Fin cfg0.N) (h0 : ¬t.val % 16 = 0) (hlt : t.val - 1 < cfg0.N) (d e : Fin 64) :
    (outsAt0 m c (t.val - 1) hlt).2.2.2.2.2 (ix2 d e)
      = (uu (lg (hd t)) (fun s d => Q s (hd t) d) (DYh C Q K V' G N (hd t)) ((bk t).val + 1) d e : EReal) := by
  have hh : hd ⟨t.val - 1, hlt⟩ = hd t := by apply Fin.ext; simp only [hd]; omega
  have hb : (bk ⟨t.val - 1, hlt⟩).val = (bk t).val + 1 := by simp only [bk]; omega
  rw [u_after m c C Q K V' G N A, hh, hb]

/-! ### The outputs of a grid point -/

theorem dq_point (t : Fin cfg0.N) (i : Fin 512) (d : Fin 64) :
    (outsAt0 m c t.val t.isLt).1 (ix3 0 i d) = (dqR C Q K V' G N (hd t) (row (bk t) i) d : EReal) := by
  have key := dq_body (DYt m c t) _ (rdy m c C Q K V' G N A t) (iblk m c 2 t) (iblk m c 3 t)
    (fun i d => K (row (bk t) i) (hd t) d) (fun i d => V' (row (bk t) i) (hd t) d) (rk m c C Q K V' G N A t) (rv m c C Q K V' G N A t)
    (iblk m c 8 t) _ (rwt m c t) (iblk m c 9 t) _ (rqdec m c t) (iblk m c 7 t) _ (rst_ m c C Q K V' G N A t) i d
  have e := dq_split (lg (hd t)) (fun s d => K s (hd t) d) (fun s d => V' s (hd t) d) (DYh C Q K V' G N (hd t)) (bk t) i d
  rw [← e] at key
  by_cases h0 : t.val % 16 = 0
  · rw [outsAt0_A m c t h0]
    frame_out
    exact key
  · rw [outsAt0_B m c t h0]
    frame_out
    exact key

theorem dk_point (t : Fin cfg0.N) (i : Fin 512) (d : Fin 64) :
    (outsAt0 m c t.val t.isLt).2.1 (ix3 0 i d) = (dkR C Q K V' G N (hd t) (row (bk t) i) d : EReal) := by
  have key := fun U hu => dk_body (DYt m c t) _ (rdy m c C Q K V' G N A t) (iblk m c 1 t) (iblk m c 3 t)
    (fun i d => Q (row (bk t) i) (hd t) d) (fun i d => V' (row (bk t) i) (hd t) d) (rq m c C Q K V' G N A t) (rv m c C Q K V' G N A t)
    (iblk m c 8 t) _ (rwt m c t) (iblk m c 10 t) _ (rkdec m c t) U
    (uu (lg (hd t)) (fun s d => Q s (hd t) d) (DYh C Q K V' G N (hd t)) ((bk t).val + 1)) hu i d
  have e := dk_split (lg (hd t)) (fun s d => Q s (hd t) d) (fun s d => V' s (hd t) d) (DYh C Q K V' G N (hd t)) (bk t) i d
  rw [← e] at key
  by_cases h0 : t.val % 16 = 0
  · rw [outsAt0_A m c t h0]
    frame_out
    refine key _ fun d e => ?_
    rw [bk_first _ h0, uu_end]
    exact zero_u d e
  · rw [outsAt0_B m c t h0]
    frame_out
    refine key _ fun d e => ?_
    rw [read_unread_whole]
    exact u_before m c C Q K V' G N A t h0 (by have := t.isLt; omega) d e

theorem dv_point (t : Fin cfg0.N) (i : Fin 512) (d : Fin 64) :
    (outsAt0 m c t.val t.isLt).2.2.1 (ix3 0 i d) = (dvR C Q K V' G N (hd t) (row (bk t) i) d : EReal) := by
  have key := fun U hu => dv_body (DYt m c t) _ (rdy m c C Q K V' G N A t) (iblk m c 1 t) (iblk m c 2 t)
    (fun i d => Q (row (bk t) i) (hd t) d) (fun i d => K (row (bk t) i) (hd t) d) (rq m c C Q K V' G N A t) (rk m c C Q K V' G N A t)
    (iblk m c 8 t) _ (rwt m c t) (iblk m c 10 t) _ (rkdec m c t) U
    (uu (lg (hd t)) (fun s d => Q s (hd t) d) (DYh C Q K V' G N (hd t)) ((bk t).val + 1)) hu i d
  have e := dv_split (lg (hd t)) (fun s d => Q s (hd t) d) (fun s d => K s (hd t) d) (DYh C Q K V' G N (hd t)) (bk t) i d
  rw [← e] at key
  by_cases h0 : t.val % 16 = 0
  · rw [outsAt0_A m c t h0]
    frame_out
    refine key _ fun d e => ?_
    rw [bk_first _ h0, uu_end]
    exact zero_u d e
  · rw [outsAt0_B m c t h0]
    frame_out
    refine key _ fun d e => ?_
    rw [read_unread_whole]
    exact u_before m c C Q K V' G N A t h0 (by have := t.isLt; omega) d e

theorem dgate_point (t : Fin cfg0.N) (i : Fin 512) (e : Fin 64) :
    (outsAt0 m c t.val t.isLt).2.2.2.1 (ix3 0 i e) = (dgateR C Q K V' G N (hd t) (row (bk t) i) e : EReal) := by
  have key := dgate_body (iblk m c 6 t) (fun i e => yR Q K V' (hd t) (row (bk t) i) e) (ry m c C Q K V' G N A t)
    (iblk m c 4 t) (fun i e => G (row (bk t) i) (hd t) e) (rgate m c C Q K V' G N A t)
    (iblk m c 0 t) (fun i e => C (row (bk t) i) (col (hd t) e)) (rct m c C Q K V' G N A t)
    (iblk m c 5 t) (fun e => N (col (hd t) e)) (rscale m c C Q K V' G N A t) i e
  by_cases h0 : t.val % 16 = 0
  · rw [outsAt0_A m c t h0]
    frame_out
    exact key
  · rw [outsAt0_B m c t h0]
    frame_out
    exact key

end Cert.KernelIdeal.Ret
-- ==== Proof.RetRef.lean ====
/-
  The reference of the retention's gradient, stage by stage, at real arguments: every stage is the real number that the plain formulas
  of `RetSpec` name.
-/
module

public import proofs.«01_k».proof.Proof.Gen.ReferenceIdeal.Read
public import proofs.«01_k».proof.Proof.RetSpec
public import Idealize.ShloMosaic.Lib.Pipeline.ValueKit
public import Idealize.ShloMosaic.Lib.Pointwise
public import Idealize.ShloMosaic.Lib.Claim

@[expose] public section

set_option maxRecDepth 16384

noncomputable section

namespace Cert.ReferenceIdeal.Ret

open Cert.ReferenceIdeal Cert.ReferenceIdeal.Gen Cert.ReferenceIdeal.Read Idealize.ShloMosaic Idealize.ShloMosaic.TcCoe Idealize.SL.Sem
open Cert.Proof.RetMath

/-! ### Sums along axes of one element -/

theorem sum_ends {n1 n2 : ℕ} {t : Shape} (h : (⟨4, ![1, n1, n2, 1]⟩ : Shape).ReducesTo [0, 3] t) (ht : t = ⟨2, ![n1, n2]⟩)
    (v : (⟨4, ![1, n1, n2, 1]⟩ : Shape).Idx → EReal) (a : Fin n1) (b : Fin n2) :
    Ideal.hostReduceAdd h v 0 (ht ▸ ix2 a b) = v (ix4 0 a b 0) := by
  subst ht
  show (0 : EReal) + ∑ i ∈ Finset.univ.filter (fun i => h.drop i = ix2 a b), v i = _
  rw [Finset.sum_eq_single (ix4 0 a b 0), zero_add]
  · intro i hi hne
    exfalso
    apply hne
    have he := (Finset.mem_filter.mp hi).2
    have e0 := congrArg Fin.val (congrFun he 0)
    have e1 := congrArg Fin.val (congrFun he 1)
    funext x
    apply Fin.ext
    match x with
    | ⟨0, _⟩ => exact Nat.lt_one_iff.mp (i 0).isLt
    | ⟨1, _⟩ => exact e0
    | ⟨2, _⟩ => exact e1
    | ⟨3, _⟩ => exact Nat.lt_one_iff.mp (i 3).isLt
  · intro hn
    exfalso
    apply hn
    refine Finset.mem_filter.mpr ⟨Finset.mem_univ _, ?_⟩
    funext x
    apply Fin.ext
    match x with
    | ⟨0, _⟩ => rfl
    | ⟨1, _⟩ => rfl

theorem sum_front {n : ℕ} {t : Shape} (h : (⟨3, ![1, 1, n]⟩ : Shape).ReducesTo [0, 1] t) (ht : t = ⟨1, ![n]⟩)
    (v : (⟨3, ![1, 1, n]⟩ : Shape).Idx → EReal) (a : Fin n) :
    Ideal.hostReduceAdd h v 0 (ht ▸ ix1 a) = v (ix3 0 0 a) := by
  subst ht
  show (0 : EReal) + ∑ i ∈ Finset.univ.filter (fun i => h.drop i = ix1 a), v i = _
  rw [Finset.sum_eq_single (ix3 0 0 a), zero_add]
  · intro i hi hne
    exfalso
    apply hne
    have he := (Finset.mem_filter.mp hi).2
    have e0 := congrArg Fin.val (congrFun he 0)
    funext x
    apply Fin.ext
    match x with
    | ⟨0, _⟩ => exact Nat.lt_one_iff.mp (i 0).isLt
    | ⟨1, _⟩ => exact Nat.lt_one_iff.mp (i 1).isLt
    | ⟨2, _⟩ => exact e0
  · intro hn
    exfalso
    apply hn
    refine Finset.mem_filter.mpr ⟨Finset.mem_univ _, ?_⟩
    funext x
    apply Fin.ext
    match x with
    | ⟨0, _⟩ => rfl

theorem sum_ends_at (v : S1x8192x4x1.Idx → EReal) (t : Fin 8192) (h : Fin 4) :
    Ideal.hostReduceAdd reducesTo_S1x8192x4x1_S8192x4_d0_3 v 0 (ix2 t h) = v (ix4 0 t h 0) :=
  sum_ends reducesTo_S1x8192x4x1_S8192x4_d0_3 rfl v t h

theorem sum_front_at (v : S1x1x256.Idx → EReal) (a : Fin 256) :
    Ideal.hostReduceAdd reducesTo_S1x1x256_S256_d0_1 v 0 (ix1 a) = v (ix3 0 0 a) :=
  sum_front reducesTo_S1x1x256_S256_d0_1 rfl v a

/-! ### The stages -/

variable (x0 : FVec Ideal S1x8192x256 .f32) (x1 x2 x3 x4 : FVec Ideal S1x8192x4x64 .f32) (x5 : FVec Ideal S256 .f32)
variable (C : Fin 8192 → Fin 256 → ℝ) (Q K V G : Fin 8192 → Fin 4 → Fin 64 → ℝ) (N : Fin 256 → ℝ)
variable (h0 : ∀ t c, x0 (ix3 0 t c) = (C t c : EReal)) (h1 : ∀ t h d, x1 (ix4 0 t h d) = (Q t h d : EReal))
variable (h2 : ∀ t h d, x2 (ix4 0 t h d) = (K t h d : EReal)) (h3 : ∀ t h d, x3 (ix4 0 t h d) = (V t h d : EReal))
variable (h4 : ∀ t h d, x4 (ix4 0 t h d) = (G t h d : EReal)) (h5 : ∀ c, x5 (ix1 c) = (N c : EReal))

theorem chunk_at (t : Fin 8192) : val_main_v4 (F := Ideal) (ix1 t) = BitVec.ofNat 32 (t.val / 64) := by
  pointwise [val_main_v4, val_main_call1_v13, val_main_call1_v12, val_main_call1_v11, val_main_call1_v10, val_main_call1_v9, val_main_call1_v8, val_main_call1_v7, val_main_call1_v6, val_main_call1_v5, val_main_call1_v4, val_main_call1_v3, val_main_call1_v2, val_main_call1_v1, val_main_call1_v0, val_main_call1_c, val_main_call1_c_0, val_main_v3, val_main_c]
  exact chunkOf_eq t

theorem lg_at (h : Fin 4) : val_main_v31 (F := Ideal) (ix1 h) = (lg h : EReal) := by
  pointwise [val_main_v31, val_main_v30, val_main_v29, val_main_v28, val_main_v27, val_main_v26, val_main_v25, val_main_v24, val_main_cst_0, val_main_cst]
  exact lg_real h

theorem wt_at (h : Fin 4) (t s : Fin 8192) : val_main_v39 (F := Ideal) (ix4 0 h t s) = (wt (lg h) t.val s.val : EReal) := by
  pointwise [val_main_v39, val_main_v38, val_main_v37, val_main_v36, val_main_v35, val_main_v34, val_main_v33, val_main_v32, val_main_call3_v2, val_main_call3_v1, val_main_call3_v0, val_main_cst_1, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5]
  rw [chunk_at, chunk_at, lg_at, pos_real _ t.isLt, pos_real _ s.isLt]
  refine Eq.trans ?_ (wt_real (lg h) t s)
  rw [← Ideal.exp_coe, EReal.coe_mul, ← dist_real]
  exact congrArg (Scalar.select _ _) c_zero

include h1 h2

theorem scored_at (h : Fin 4) (t s : Fin 8192) :
    val_main_v40 (F := Ideal) x1 x2 (ix4 0 h t s) = (((∑ d, Q t h d * K s h d) * wt (lg h) t.val s.val : ℝ) : EReal) := by
  pointwise [val_main_v40, val_main_v2]
  simp only [h1, h2, wt_at, ← EReal.coe_mul, ← coe_sum]

include h3

theorem y_at (h : Fin 4) (t : Fin 8192) (e : Fin 64) : val_main_v42 (F := Ideal) x1 x2 x3 (ix4 0 t h e) = (yR Q K V h t e : EReal) := by
  pointwise [val_main_v42, val_main_v41]
  simp only [h3, scored_at x1 x2 Q K h1 h2, ← EReal.coe_mul, ← coe_sum]
  rfl

theorem cen_at (h : Fin 4) (t : Fin 8192) (e : Fin 64) :
    val_main_v48 (F := Ideal) x1 x2 x3 (ix4 0 t h e) = (cen (yR Q K V h t) e : EReal) := by
  pointwise [val_main_v48, val_main_v47, val_main_v46, val_main_v45, val_main_v44, val_main_v43, val_main_cst_2, val_main_cst_3]
  simp only [y_at x1 x2 x3 Q K V h1 h2 h3, c_64, ← EReal.coe_mul, ← coe_sum, div_64, ← EReal.coe_sub]
  rfl

theorem var_at (h : Fin 4) (t : Fin 8192) :
    val_main_v55 (F := Ideal) x1 x2 x3 (ix4 0 t h 0) = (var (yR Q K V h t) : EReal) := by
  pointwise [val_main_v55, val_main_v54, val_main_v53, val_main_v52, val_main_v51, val_main_v50, val_main_v49, val_main_cst_4, val_main_cst_5, val_main_cst_6]
  simp only [cen_at x1 x2 x3 Q K V h1 h2 h3, c_64, c_eps, ← EReal.coe_mul, ← coe_sum, div_64, ← EReal.coe_add]
  rfl

theorem rst_at (h : Fin 4) (t : Fin 8192) :
    val_main_v56 (F := Ideal) x1 x2 x3 (ix4 0 t h 0) = (rst (yR Q K V h t) : EReal) := by
  pointwise [val_main_v56]
  rw [var_at x1 x2 x3 Q K V h1 h2 h3]
  exact rsqrt_var _

theorem slope_at (h : Fin 4) (t : Fin 8192) :
    val_main_v59 (F := Ideal) x1 x2 x3 (ix4 0 t h 0)
      = ((-(1 / 2) * (rst (yR Q K V h t) / var (yR Q K V h t)) : ℝ) : EReal) := by
  pointwise [val_main_v59, val_main_v58, val_main_v57, val_main_cst_7]
  simp only [var_at x1 x2 x3 Q K V h1 h2 h3, rst_at x1 x2 x3 Q K V h1 h2 h3, c_mhalf, div_var, ← EReal.coe_mul]

theorem nrm_at (h : Fin 4) (t : Fin 8192) (e : Fin 64) :
    val_main_v62 (F := Ideal) x1 x2 x3 (ix3 0 t (col h e)) = (nrm (yR Q K V h t) e : EReal) := by
  pointwise [val_main_v62, val_main_v61, val_main_v60]
  simp only [col_div, col_mod, Fin.eta, cen_at x1 x2 x3 Q K V h1 h2 h3, rst_at x1 x2 x3 Q K V h1 h2 h3, ← EReal.coe_mul]
  rfl

omit h1 h2 h3
include h4

theorem sg_at (h : Fin 4) (t : Fin 8192) (e : Fin 64) :
    val_main_v1_2 (F := Ideal) x4 (ix3 0 t (col h e)) = (sg (G t h e) : EReal) := by
  pointwise [val_main_v1_2, val_main_call0_v4, val_main_call0_cst_0, val_main_call0_v3, val_main_call0_v2, val_main_call0_cst, val_main_call0_v1, val_main_call0_v0, val_main_v0]
  simp only [col_div, col_mod, Fin.eta, h4, one_real, ← EReal.coe_neg, Ideal.exp_coe, ← EReal.coe_add, div_sg]

theorem sg1_at (h : Fin 4) (t : Fin 8192) (e : Fin 64) :
    val_main_v1_1 (F := Ideal) x4 (ix3 0 t (col h e)) = ((sg (G t h e) * (1 - sg (G t h e)) : ℝ) : EReal) := by
  pointwise [val_main_v1_1, val_main_call0_v7, val_main_call0_v6, val_main_call0_cst_1]
  simp only [sg_at x4 G h4, one_real, ← EReal.coe_sub, ← EReal.coe_mul]

include h0

theorem dn_at (h : Fin 4) (t : Fin 8192) (e : Fin 64) :
    val_main_v67 (F := Ideal) x0 x4 (ix3 0 t (col h e)) = (dnR C G h t e : EReal) := by
  pointwise [val_main_v67, val_main_v1_0, val_main_v0]
  simp only [col_div, col_mod, Fin.eta, sg_at x4 G h4, h0, h4, ← EReal.coe_mul]
  rfl

include h5

theorem z_at (h : Fin 4) (t : Fin 8192) (e : Fin 64) :
    val_main_v75 (F := Ideal) x0 x4 x5 (ix4 0 t h e) = (zR C G N h t e : EReal) := by
  pointwise [val_main_v75, val_main_v73, val_main_v72, val_main_v63]
  refine (congrArg₂ (· * ·) (dn_at x0 x4 C G h0 h4 h t e) (h5 (col h e))).trans ?_
  exact (EReal.coe_mul _ _).symm

include h1 h2 h3

theorem half_at (h : Fin 4) (t : Fin 8192) (e : Fin 64) :
    val_main_v86 (F := Ideal) x0 x1 x2 x3 x4 x5 (ix4 0 t h e) = (half (yR Q K V h t) (zR C G N h t) : EReal) := by
  pointwise [val_main_v86, val_main_v85, val_main_v84, val_main_cst_12]
  rw [sum_ends_at]
  pointwise [val_main_v83, val_main_v82, val_main_cst_11, val_main_v81, val_main_v78, val_main_v77, val_main_cst_10, val_main_v76]
  simp only [cen_at x1 x2 x3 Q K V h1 h2 h3, z_at x0 x4 x5 C G N h0 h4 h5, slope_at x1 x2 x3 Q K V h1 h2 h3, c_64,
    ← EReal.coe_mul, ← coe_sum, div_64]
  rfl

theorem dcen_at (h : Fin 4) (t : Fin 8192) (e : Fin 64) :
    val_main_v90 (F := Ideal) x0 x1 x2 x3 x4 x5 (ix4 0 t h e) = (dcen (yR Q K V h t) (zR C G N h t) e : EReal) := by
  pointwise [val_main_v90, val_main_v89, val_main_v88, val_main_v87, val_main_v80, val_main_v79]
  simp only [cen_at x1 x2 x3 Q K V h1 h2 h3, z_at x0 x4 x5 C G N h0 h4 h5, rst_at x1 x2 x3 Q K V h1 h2 h3,
    half_at x0 x1 x2 x3 x4 x5 C Q K V G N h0 h1 h2 h3 h4 h5, ← EReal.coe_mul, ← EReal.coe_add]
  rfl

theorem dy_at (h : Fin 4) (t : Fin 8192) (e : Fin 64) :
    val_main_v99 (F := Ideal) x0 x1 x2 x3 x4 x5 (ix4 0 t h e) = (dyR C Q K V G N h t e : EReal) := by
  pointwise [val_main_v99, val_main_v98, val_main_v97, val_main_v96, val_main_cst_15]
  rw [sum_ends_at]
  pointwise [val_main_v95, val_main_v94, val_main_cst_14, val_main_v93, val_main_v92, val_main_cst_13, val_main_v91]
  simp only [dcen_at x0 x1 x2 x3 x4 x5 C Q K V G N h0 h1 h2 h3 h4 h5, c_64, ← EReal.coe_neg, ← coe_sum, div_64, ← EReal.coe_add]
  exact congrArg _ (dnorm_eq _ _ e)

theorem p_at (h : Fin 4) (t s : Fin 8192) :
    val_main_v104 (F := Ideal) x0 x1 x2 x3 x4 x5 (ix4 0 h t s)
      = (((∑ e, dyR C Q K V G N h t e * V s h e) * wt (lg h) t.val s.val : ℝ) : EReal) := by
  pointwise [val_main_v104, val_main_v101, val_main_v100]
  simp only [dy_at x0 x1 x2 x3 x4 x5 C Q K V G N h0 h1 h2 h3 h4 h5, h3, wt_at, ← EReal.coe_mul, ← coe_sum]

/-! ### The five gradients -/

theorem dq_at (h : Fin 4) (t : Fin 8192) (d : Fin 64) :
    val_main_v112 (F := Ideal) x0 x1 x2 x3 x4 x5 (ix3 h t d) = (dqR C Q K V G N h t d : EReal) := by
  pointwise [val_main_v112, val_main_v111, val_main_v108, val_main_v107]
  simp only [p_at x0 x1 x2 x3 x4 x5 C Q K V G N h0 h1 h2 h3 h4 h5, h2, ← EReal.coe_mul, ← coe_sum]
  rfl

theorem dk_at (h : Fin 4) (s : Fin 8192) (d : Fin 64) :
    val_main_v114 (F := Ideal) x0 x1 x2 x3 x4 x5 (ix3 h s d) = (dkR C Q K V G N h s d : EReal) := by
  pointwise [val_main_v114, val_main_v113, val_main_v106, val_main_v105]
  simp only [p_at x0 x1 x2 x3 x4 x5 C Q K V G N h0 h1 h2 h3 h4 h5, h1, ← EReal.coe_mul, ← coe_sum]
  rfl

theorem dv_at (h : Fin 4) (s : Fin 8192) (e : Fin 64) :
    val_main_v116 (F := Ideal) x0 x1 x2 x3 x4 x5 (ix3 h s e) = (dvR C Q K V G N h s e : EReal) := by
  pointwise [val_main_v116, val_main_v115, val_main_v103, val_main_v102, val_main_v100]
  simp only [dy_at x0 x1 x2 x3 x4 x5 C Q K V G N h0 h1 h2 h3 h4 h5, scored_at x1 x2 Q K h1 h2, ← EReal.coe_mul, ← coe_sum]
  exact congrArg _ (Finset.sum_congr rfl fun t _ => mul_comm _ _)

theorem dgate_at (h : Fin 4) (t : Fin 8192) (e : Fin 64) :
    val_main_v118 (F := Ideal) x0 x1 x2 x3 x4 x5 (ix3 h t e) = (dgateR C Q K V G N h t e : EReal) := by
  have hd : val_main_v68 (F := Ideal) x0 x1 x2 x3 x5 (ix3 0 t (col h e))
      = ((C t (col h e) * (nrm (yR Q K V h t) e * N (col h e)) : ℝ) : EReal) := by
    pointwise [val_main_v68, val_main_v65, val_main_v64, val_main_v63]
    simp only [nrm_at x1 x2 x3 Q K V h1 h2 h3, h0, h5, ← EReal.coe_mul]
  have hg : val_main_v0 (F := Ideal) x4 (ix3 0 t (col h e)) = (G t h e : EReal) := by
    pointwise [val_main_v0]
    simp only [col_div, col_mod, Fin.eta, h4]
  pointwise [val_main_v118, val_main_v117, val_main_v110, val_main_v109, val_main_call4_v2, val_main_call4_v1, val_main_call4_v0]
  refine (congrArg₂ (· + ·) (congrArg₂ (· * ·) hd (sg_at x4 G h4 h t e))
    (congrArg₂ (· * ·) (congrArg₂ (· * ·) hg hd) (sg1_at x4 G h4 h t e))).trans ?_
  simp only [← EReal.coe_mul, ← EReal.coe_add]
  rfl

omit h5

theorem dg_at (h : Fin 4) (e : Fin 64) :
    val_main_v119 (F := Ideal) x0 x1 x2 x3 x4 (ix3 h 0 e) = (dgR C Q K V G h e : EReal) := by
  pointwise [val_main_v119, val_main_v74, val_main_cst_9]
  rw [sum_front_at]
  pointwise [val_main_v71, val_main_v70, val_main_cst_8, val_main_v69]
  refine (Finset.sum_congr rfl fun t _ => congrArg₂ (· * ·) (nrm_at x1 x2 x3 Q K V h1 h2 h3 h t e)
    (dn_at x0 x4 C G h0 h4 h t e)).trans ?_
  simp only [← EReal.coe_mul, ← coe_sum]
  rfl

end Cert.ReferenceIdeal.Ret
-- ==== Proof.RetFinal.lean ====
/-
  The arrays that the retention's backward kernel leaves are those of the reference.
-/
module

public import proofs.«01_k».proof.Proof.RetPoint
public import proofs.«01_k».proof.Proof.RetRef

@[expose] public section

set_option maxRecDepth 16384

noncomputable section

namespace Cert.KernelIdeal.Ret

open Cert.KernelIdeal Cert.KernelIdeal.Gen Idealize.ShloMosaic Idealize.ShloMosaic.TcCoe Idealize.SL.Sem
open Idealize.ShloMosaic.Pipeline (Dat)
open Cert.Proof.RetMath

variable (m : (ℓ : Loc nD τ sig) → Buf (Elt Ideal) ℓ) (c : Dev nD)
variable (C : Fin 8192 → Fin 256 → ℝ) (Q K V' G : Fin 8192 → Fin 4 → Fin 64 → ℝ) (N : Fin 256 → ℝ)
variable (A : Args m c C Q K V' G N)

include A

/-! ### The result arrays -/

theorem final12 : (dats m 0 c).arrAt 12 (cfgs 0).N
    = Cert.ReferenceIdeal.Read.val_main_v112 (F := Ideal) (a0 m c) (a1 m c) (a2 m c) (a3 m c) (a4 m c) (a5 m c) := by
  refine (dats m 0 c).arrAt_eq_of_covers 12 _ (by decide +kernel) fun t hf y => ?_
  blk_simp
  idx_vars y
  obtain rfl : y0 = 0 := Subsingleton.elim _ _
  rw [after0_12]
  have e : ((View.whole main_v170_0).slice (win0_12.rect t)).emb (ix3 0 y1 y2) = ix3 (hd t) (row (bk t) y1) y2 := by
    have := lt64 t
    blk_ext [idx t, hd, bk, row]
  rw [e, Cert.ReferenceIdeal.Ret.dq_at _ _ _ _ _ _ C Q K V' G N A.h0 A.h1 A.h2 A.h3 A.h4 A.h5]
  exact dq_point m c C Q K V' G N A t y1 y2

theorem final13 : (dats m 0 c).arrAt 13 (cfgs 0).N
    = Cert.ReferenceIdeal.Read.val_main_v114 (F := Ideal) (a0 m c) (a1 m c) (a2 m c) (a3 m c) (a4 m c) (a5 m c) := by
  refine (dats m 0 c).arrAt_eq_of_covers 13 _ (by decide +kernel) fun t hf y => ?_
  blk_simp
  idx_vars y
  obtain rfl : y0 = 0 := Subsingleton.elim _ _
  rw [after0_13]
  have e : ((View.whole main_v170_1).slice (win0_13.rect t)).emb (ix3 0 y1 y2) = ix3 (hd t) (row (bk t) y1) y2 := by
    have := lt64 t
    blk_ext [idx t, hd, bk, row]
  rw [e, Cert.ReferenceIdeal.Ret.dk_at _ _ _ _ _ _ C Q K V' G N A.h0 A.h1 A.h2 A.h3 A.h4 A.h5]
  exact dk_point m c C Q K V' G N A t y1 y2

theorem final14 : (dats m 0 c).arrAt 14 (cfgs 0).N
    = Cert.ReferenceIdeal.Read.val_main_v116 (F := Ideal) (a0 m c) (a1 m c) (a2 m c) (a3 m c) (a4 m c) (a5 m c) := by
  refine (dats m 0 c).arrAt_eq_of_covers 14 _ (by decide +kernel) fun t hf y => ?_
  blk_simp
  idx_vars y
  obtain rfl : y0 = 0 := Subsingleton.elim _ _
  rw [after0_14]
  have e : ((View.whole main_v170_2).slice (win0_14.rect t)).emb (ix3 0 y1 y2) = ix3 (hd t) (row (bk t) y1) y2 := by
    have := lt64 t
    blk_ext [idx t, hd, bk, row]
  rw [e, Cert.ReferenceIdeal.Ret.dv_at _ _ _ _ _ _ C Q K V' G N A.h0 A.h1 A.h2 A.h3 A.h4 A.h5]
  exact dv_point m c C Q K V' G N A t y1 y2

theorem final15 : (dats m 0 c).arrAt 15 (cfgs 0).N
    = Cert.ReferenceIdeal.Read.val_main_v118 (F := Ideal) (a0 m c) (a1 m c) (a2 m c) (a3 m c) (a4 m c) (a5 m c) := by
  refine (dats m 0 c).arrAt_eq_of_covers 15 _ (by decide +kernel) fun t hf y => ?_
  blk_simp
  idx_vars y
  obtain rfl : y0 = 0 := Subsingleton.elim _ _
  rw [after0_15]
  have e : ((View.whole main_v170_3).slice (win0_15.rect t)).emb (ix3 0 y1 y2) = ix3 (hd t) (row (bk t) y1) y2 := by
    have := lt64 t
    blk_ext [idx t, hd, bk, row]
  rw [e, Cert.ReferenceIdeal.Ret.dgate_at _ _ _ _ _ _ C Q K V' G N A.h0 A.h1 A.h2 A.h3 A.h4 A.h5]
  exact dgate_point m c C Q K V' G N A t y1 y2

set_option maxHeartbeats 800000 in
theorem final16 : (dats m 0 c).arrAt 16 (cfgs 0).N
    = Cert.ReferenceIdeal.Read.val_main_v119 (F := Ideal) (a0 m c) (a1 m c) (a2 m c) (a3 m c) (a4 m c) := by
  refine (dats m 0 c).arrAt_eq_of_covers 16 _ (by decide +kernel) fun t hf y => ?_
  blk_simp
  idx_vars y
  obtain rfl : y0 = 0 := Subsingleton.elim _ _
  obtain rfl : y1 = 0 := Subsingleton.elim _ _
  rw [after0_16]
  have e : ((View.whole main_v170_4).slice (win0_16.rect t)).emb (ix3 0 0 y2) = ix3 (hd t) 0 y2 := by
    have := lt64 t
    blk_ext [idx t, hd]
  have hl : t.val % 16 = 15 := (flush0_16 t).mp hf
  have hb : (bk t).val = 0 := by simp only [bk]; omega
  have g : (outsAt0 m c t.val t.isLt).2.2.2.2.1 (ix3 0 0 y2) = (gg C Q K V' G (hd t) (bk t).val y2 : EReal) :=
    g_after m c C Q K V' G N A t.val t.isLt y2
  rw [hb, gg_all] at g
  rw [e, Cert.ReferenceIdeal.Ret.dg_at _ _ _ _ _ C Q K V' G A.h0 A.h1 A.h2 A.h3 A.h4]
  exact g

end Cert.KernelIdeal.Ret
-- ==== Proof.RetRun.lean ====
/-
  What the reference of the retention's gradient leaves, as functions of its arguments.
-/
module

public import proofs.«01_k».proof.Proof.Gen.ReferenceIdeal.Run
public import proofs.«01_k».proof.Proof.Gen.ReferenceIdeal.Read
public import Idealize.ShloMosaic.Lib.Claim

@[expose] public section

set_option maxRecDepth 16384

noncomputable section

namespace Cert.Proof

open Idealize.ShloMosaic Idealize.ShloMosaic.TcCoe Idealize.SL.Sem

section reference

open Cert.ReferenceIdeal Cert.ReferenceIdeal.Read

/-- What the reference leaves, as functions of its arguments. -/
theorem ret_ref_run (m : (ℓ : Loc nD τ sig) → Buf (Elt Ideal) ℓ) (g : Dev nD → PrngReg) :
    θ_run (Cert.ReferenceIdeal.defs (F := Ideal)) (onTc (τ := τ) (main (F := Ideal))) ⟨m, fun _ => 0, g⟩ (fun r => ∀ c : Dev nD,
      r.2.mem ((c.tc : Thread nD τ).loc main_v112) = val_main_v112 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v114) = val_main_v114 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v116) = val_main_v116 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v118) = val_main_v118 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v119) = val_main_v119 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run _ _ _).mono (fun r h c => ⟨(h c).1.trans (val_main_v112_eq (StableHlo.launchContents m c)),
    (h c).2.1.trans (val_main_v114_eq (StableHlo.launchContents m c)), (h c).2.2.1.trans (val_main_v116_eq (StableHlo.launchContents m c)),
    (h c).2.2.2.1.trans (val_main_v118_eq (StableHlo.launchContents m c)),
    (h c).2.2.2.2.1.trans (val_main_v119_eq (StableHlo.launchContents m c)), (h c).2.2.2.2.2⟩) (Cert.ReferenceIdeal.Value.run m g)

end reference

end Cert.Proof

end
-- ==== Proof.Reals.lean ====
/-
  Arrays whose every element is a real number: what the preconditions say, and the real numbers themselves.
-/
module

public import Idealize.ShloMosaic.Lib.Pointwise
public import Idealize.ShloMosaic.Lib.Claim

@[expose] public section

noncomputable section

namespace Cert.Proof.Reals

open Idealize.ShloMosaic

/-- An extended real whose absolute value is less than infinity is a real number. -/
theorem real_of_lt (x : EReal)
    (h : FloatOps.cmpf (F := Ideal) (φ := .f32) .olt (FloatOps.absf (F := Ideal) (φ := .f32) x) (Ideal.ofBits FTy.f32 0x7F800000#32) = 1#1) :
    x = (x.toReal : EReal) := by
  have hi : Ideal.ofBits FTy.f32 0x7F800000#32 = (⊤ : EReal) := by simp [Ideal.ofBits, Ideal.ieee]
  rw [Ideal.cmpf_def, Ideal.absf_def, hi] at h
  have h2 : max x (-x) < (⊤ : EReal) := by
    by_contra hc
    have : Ideal.cmp CmpFPredicate.olt (max x (-x)) (⊤ : EReal) = 0#1 := by
      simp [Ideal.cmp, hc]
    rw [this] at h
    exact absurd h (by decide)
  refine (EReal.coe_toReal (fun e => ?_) (fun e => ?_)).symm
  · rw [e] at h2; exact absurd h2 (by simp)
  · rw [e] at h2; exact absurd h2 (by simp)

/-- What one component of a precondition says of an element of its array. -/
theorem real_of {s z : Shape} (x : FVec Ideal s .f32) (dims : Fin z.rank → Fin s.rank) (hb : z.BroadcastsInDim s dims)
    (h : cmpf .olt (Host.absf x) (broadcastInDim s dims hb (constant z .f32 0x7F800000#32)) = fun _ => 1#1) (i : s.Idx) :
    x i = ((x i).toReal : EReal) :=
  real_of_lt _ (congrFun h i)

end Cert.Proof.Reals
-- ==== Proof.RetAlg.lean ====
/-
  The gradient of the retention: kernel and reference leave the same five arrays.
-/
module

public import proofs.«01_k».proof.Defs
public import proofs.«01_k».proof.Proof.Gen.Pre_finite
public import proofs.«01_k».proof.Proof.RetFinal
public import proofs.«01_k».proof.Proof.RetRun
public import proofs.«01_k».proof.Proof.Reals

@[expose] public section

set_option maxRecDepth 16384

noncomputable section

namespace Cert.Proof

open Idealize.ShloMosaic Idealize.ShloMosaic.TcCoe Idealize.SL.Sem

/-- At arguments that are real numbers, the real numbers that they are. -/
theorem ret_args (m : (ℓ : Loc Cert.KernelIdeal.nD Cert.KernelIdeal.τ Cert.KernelIdeal.sig) → Buf (Elt Ideal) ℓ)
    (hpre : Cert.Pre_KernelIdeal_finite (hPre_finite := Cert.Pre_finite.Gen.facts) m) (c : Dev Cert.KernelIdeal.nD) :
    Cert.KernelIdeal.Ret.Args m c (fun t j => (Cert.KernelIdeal.Ret.a0 m c (ix3 0 t j)).toReal)
      (fun t h d => (Cert.KernelIdeal.Ret.a1 m c (ix4 0 t h d)).toReal) (fun t h d => (Cert.KernelIdeal.Ret.a2 m c (ix4 0 t h d)).toReal)
      (fun t h d => (Cert.KernelIdeal.Ret.a3 m c (ix4 0 t h d)).toReal) (fun t h d => (Cert.KernelIdeal.Ret.a4 m c (ix4 0 t h d)).toReal)
      (fun j => (Cert.KernelIdeal.Ret.a5 m c (ix1 j)).toReal) := by
  obtain ⟨p0, p1, p2, p3, p4, p5⟩ := hpre c
  exact ⟨fun _ _ => Reals.real_of _ _ _ p0 _, fun _ _ _ => Reals.real_of _ _ _ p1 _, fun _ _ _ => Reals.real_of _ _ _ p2 _,
    fun _ _ _ => Reals.real_of _ _ _ p3 _, fun _ _ _ => Reals.real_of _ _ _ p4 _, fun _ => Reals.real_of _ _ _ p5 _⟩

section kernel

open Cert.KernelIdeal Cert.KernelIdeal.Gen

set_option maxHeartbeats 1600000 in
/-- What the kernel leaves at arguments that are real numbers: the reference's functions of its arguments. -/
theorem ret_kernel_run (m : (ℓ : Loc nD τ sig) → Buf (Elt Ideal) ℓ) (g : Dev nD → PrngReg)
    (hpre : Cert.Pre_KernelIdeal_finite (hPre_finite := Cert.Pre_finite.Gen.facts) m) :
    θ_run (Cert.KernelIdeal.defs (F := Ideal)) (onTc (τ := τ) (main (F := Ideal))) ⟨m, fun _ => 0, g⟩ (fun r => ∀ c : Dev nD,
      r.2.mem ((c.tc : Thread nD τ).loc main_v170_0) = Cert.ReferenceIdeal.Read.val_main_v112 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v170_1) = Cert.ReferenceIdeal.Read.val_main_v114 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v170_2) = Cert.ReferenceIdeal.Read.val_main_v116 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v170_3) = Cert.ReferenceIdeal.Read.val_main_v118 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v170_4) = Cert.ReferenceIdeal.Read.val_main_v119 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run _ _ _).mono (fun r h c => ⟨((h.1 c).1 12).trans (Cert.KernelIdeal.Ret.final12 m c _ _ _ _ _ _ (ret_args m hpre c)),
    ((h.1 c).1 13).trans (Cert.KernelIdeal.Ret.final13 m c _ _ _ _ _ _ (ret_args m hpre c)),
    ((h.1 c).1 14).trans (Cert.KernelIdeal.Ret.final14 m c _ _ _ _ _ _ (ret_args m hpre c)),
    ((h.1 c).1 15).trans (Cert.KernelIdeal.Ret.final15 m c _ _ _ _ _ _ (ret_args m hpre c)),
    ((h.1 c).1 16).trans (Cert.KernelIdeal.Ret.final16 m c _ _ _ _ _ _ (ret_args m hpre c)), h.2 c⟩)
    (θ_run_and (run_main m g) (unchanged m g))

end kernel

/-- The gradient of the retention: kernel and reference leave the same five arrays. -/
theorem alg1 : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hagree
  refine ⟨_, _, _, _, _, ret_kernel_run m g hpre, (θ_run _ _ _).mono (fun r h c => ?_) (ret_ref_run m' g')⟩
  obtain ⟨e0, e1, e2, e3, e4, e5⟩ := hagree c
  obtain ⟨r0, r1, r2, r3, r4, ru⟩ := h c
  rw [e0, e1, e2, e3, e4, e5] at r0 r1 r2 r3
  rw [e0, e1, e2, e3, e4] at r4
  exact ⟨r0, r1, r2, r3, r4, ru⟩

end Cert.Proof

end
-- ==== Proof.FfnSpec.lean ====
/-
  What the gradient of the SwiGLU half-step is, over the reals: the norm, the gate, the hidden units and the gradients of each, as plain
  sums. Both the reference and the kernel are shown equal to these.
-/
module

public import proofs.«01_k».proof.Proof.RetSpec

@[expose] public section

set_option maxRecDepth 16384

noncomputable section

namespace Cert.Proof.FfnMath

open Idealize.ShloMosaic Finset
open Cert.Proof.RetMath (eps sg div_real coe_sum)

/-! ### The norm of a row -/

section norm

variable (x z : Fin 1024 → ℝ)

/-- The mean square of a row, and the small number that keeps it from zero. -/
def ms : ℝ := (∑ e, x e * x e) / 1024 + eps

theorem ms_pos : 0 < ms x := by
  have h : 0 ≤ ∑ e, x e * x e := Finset.sum_nonneg fun e _ => mul_self_nonneg _
  have : (0 : ℝ) < eps := by unfold eps; positivity
  unfold ms
  positivity

/-- The factor that the norm multiplies a row with. -/
def rr : ℝ := (Real.sqrt (ms x))⁻¹

/-- The normalised row. -/
def xh (e : Fin 1024) : ℝ := x e * rr x

/-- The gradient of a row, `z` being the gradient of the normalised row. -/
def dx (e : Fin 1024) : ℝ := rr x * (z e - xh x e * ((∑ e, z e * xh x e) / 1024))

theorem rr_sq : rr x * rr x = 1 / ms x := by
  unfold rr
  rw [← mul_inv, Real.mul_self_sqrt (ms_pos x).le, one_div]

/-- What reaches a row through the mean square. -/
def slope : ℝ := (∑ e, x e * z e) * (-(1 / 2) * (rr x / ms x)) / 1024

theorem dx_eq (e : Fin 1024) : z e * rr x + x e * slope x z + slope x z * x e = dx x z e := by
  have hs : ∑ e, z e * xh x e = (∑ e, x e * z e) * rr x := by
    rw [Finset.sum_mul]
    exact Finset.sum_congr rfl fun e _ => by unfold xh; ring
  have h3 : rr x / ms x = rr x * (rr x * rr x) := by rw [rr_sq]; ring
  unfold dx slope
  rw [hs, h3]
  unfold xh
  ring

end norm

theorem div_1024 (a : ℝ) : Ideal.div (a : EReal) ((1024 : ℝ) : EReal) = ((a / 1024 : ℝ) : EReal) := div_real a 1024 (by norm_num)

theorem div_ms (a : ℝ) (x : Fin 1024 → ℝ) : Ideal.div (a : EReal) (ms x : EReal) = ((a / ms x : ℝ) : EReal) :=
  div_real _ _ (ms_pos x).ne'

theorem rsqrt_ms (x : Fin 1024 → ℝ) : Ideal.rsqrt (ms x : EReal) = (rr x : EReal) := by
  rw [Ideal.rsqrt_coe, if_neg (not_lt.mpr (ms_pos x).le), if_neg (ms_pos x).ne']
  rfl

theorem c_1024 : Ideal.ofBits FTy.f32 0x44800000#32 = ((1024 : ℝ) : EReal) := by
  simp [Ideal.ofBits, Ideal.ieee, -EReal.coe_mul]; norm_num
theorem c_half : Ideal.ofBits FTy.f32 0x3F000000#32 = ((1 / 2 : ℝ) : EReal) := by
  simp [Ideal.ofBits, Ideal.ieee, -EReal.coe_mul]; norm_num

/-! ### The half-step -/

/-- The place of gate unit `f` among the columns of the input weight. -/
def lo (f : Fin 2816) : Fin 5632 := ⟨f.val, by omega⟩

/-- The place of up unit `f` among the columns of the input weight. -/
def hi (f : Fin 2816) : Fin 5632 := ⟨2816 + f.val, by omega⟩

theorem sum_units {M : Type*} [AddCommMonoid M] (f : Fin 5632 → M) : ∑ j, f j = ∑ j, f (lo j) + ∑ j, f (hi j) :=
  Fin.sum_univ_add (a := 2816) (b := 2816) f

variable (D X : Fin 8192 → Fin 1024 → ℝ) (G : Fin 1024 → ℝ) (WI : Fin 1024 → Fin 5632 → ℝ) (WO : Fin 2816 → Fin 1024 → ℝ)

/-- The scaled normalised row. -/
def hR (t : Fin 8192) (e : Fin 1024) : ℝ := xh (X t) e * G e

/-- The gate. -/
def gateR (t : Fin 8192) (f : Fin 2816) : ℝ := ∑ e, hR X G t e * WI e (lo f)

/-- The value that the gate multiplies. -/
def upR (t : Fin 8192) (f : Fin 2816) : ℝ := ∑ e, hR X G t e * WI e (hi f)

/-- The gate after its activation. -/
def siluR (t : Fin 8192) (f : Fin 2816) : ℝ := gateR X G WI t f * sg (gateR X G WI t f)

/-- The hidden units. -/
def hidR (t : Fin 8192) (f : Fin 2816) : ℝ := siluR X G WI t f * upR X G WI t f

/-- Half of the incoming gradient. -/
def dyhR (t : Fin 8192) (e : Fin 1024) : ℝ := 1 / 2 * D t e

/-- The gradient of the hidden units. -/
def dhidR (t : Fin 8192) (f : Fin 2816) : ℝ := ∑ e, dyhR D t e * WO f e

/-- The gradient of the gate. -/
def dgateR (t : Fin 8192) (f : Fin 2816) : ℝ :=
  dhidR D WO t f * upR X G WI t f * (sg (gateR X G WI t f) * (1 + gateR X G WI t f * (1 - sg (gateR X G WI t f))))

/-- The gradient of the value that the gate multiplies. -/
def dupR (t : Fin 8192) (f : Fin 2816) : ℝ := siluR X G WI t f * dhidR D WO t f

/-- The gradient of the scaled normalised row. -/
def dhR (t : Fin 8192) (e : Fin 1024) : ℝ :=
  ∑ f, dgateR D X G WI WO t f * WI e (lo f) + ∑ f, dupR D X G WI WO t f * WI e (hi f)

/-- The gradient of the row. -/
def dxR (t : Fin 8192) (e : Fin 1024) : ℝ := D t e + dx (X t) (fun e => dhR D X G WI WO t e * G e) e

/-- The gradient of the norm's scale. -/
def dgR (e : Fin 1024) : ℝ := ∑ t : Fin 8192, xh (X t) e * dhR D X G WI WO t e

/-- The gradient of the gate by the product rule. -/
theorem dgate_eq (t : Fin 8192) (f : Fin 2816) :
    dhidR D WO t f * upR X G WI t f * sg (gateR X G WI t f)
      + gateR X G WI t f * (dhidR D WO t f * upR X G WI t f) * (sg (gateR X G WI t f) * (1 - sg (gateR X G WI t f)))
      = dgateR D X G WI WO t f := by
  unfold dgateR
  ring

end Cert.Proof.FfnMath
-- ==== Proof.FfnHost.lean ====
/-
  What the host code hands to the half-step's backward kernel, at real arguments: the incoming gradient, the rows, the norm's scale, the
  gate and the value that it multiplies, and the two weights.
-/
module

public import proofs.«01_k».proof.Proof.Gen.Kernel2Ideal.Value
public import proofs.«01_k».proof.Proof.FfnSpec
public import Idealize.ShloMosaic.Lib.Pipeline.ValueKit
public import Idealize.ShloMosaic.Lib.Pointwise
public import Idealize.ShloMosaic.Lib.Claim

@[expose] public section

set_option maxRecDepth 16384

noncomputable section

namespace Cert.Kernel2Ideal.Ffn

open Cert.Kernel2Ideal Cert.Kernel2Ideal.Gen Idealize.ShloMosaic Idealize.ShloMosaic.TcCoe Idealize.SL.Sem
open Cert.Proof.RetMath (sg coe_sum c_one c_zero c_eps div_sg one_real)
open Cert.Proof.FfnMath

variable (m : (ℓ : Loc nD τ sig) → Buf (Elt Ideal) ℓ) (c : Dev nD)

/-- The arguments, as arrays. -/
abbrev a0 : FVec Ideal S1x8192x1024 .f32 := m ((c : Thread nD τ).loc main_arg0)
abbrev a1 : FVec Ideal S1x8192x1024 .f32 := m ((c : Thread nD τ).loc main_arg1)
abbrev a2 : FVec Ideal S1024 .f32 := m ((c : Thread nD τ).loc main_arg2)
abbrev a3 : FVec Ideal S1024x5632 .f32 := m ((c : Thread nD τ).loc main_arg3)
abbrev a4 : FVec Ideal S2816x1024 .f32 := m ((c : Thread nD τ).loc main_arg4)

variable (D X : Fin 8192 → Fin 1024 → ℝ) (G : Fin 1024 → ℝ) (WI : Fin 1024 → Fin 5632 → ℝ) (WO : Fin 2816 → Fin 1024 → ℝ)

/-- The arguments are real numbers. -/
structure Args : Prop where
  h0 : ∀ t e, a0 m c (ix3 0 t e) = (D t e : EReal)
  h1 : ∀ t e, a1 m c (ix3 0 t e) = (X t e : EReal)
  h2 : ∀ e, a2 m c (ix1 e) = (G e : EReal)
  h3 : ∀ e j, a3 m c (ix2 e j) = (WI e j : EReal)
  h4 : ∀ f e, a4 m c (ix2 f e) = (WO f e : EReal)

variable (A : Args m c D X G WI WO)

/-- The product of the normalised rows with the input weight, as the host code writes it. -/
def hostPre (t : Fin 8192) (j : Fin 5632) : EReal :=
  ∑ e : Fin 1024, a1 m c (ix3 0 t e)
    * Ideal.rsqrt (Ideal.div (∑ e : Fin 1024, a1 m c (ix3 0 t e) * a1 m c (ix3 0 t e)) (Ideal.ofBits FTy.f32 0x44800000#32)
        + Ideal.ofBits FTy.f32 0x358637BD#32)
    * a2 m c (ix1 e) * a3 m c (ix2 e j)

include A

theorem hostPre_real (t : Fin 8192) (j : Fin 5632) : hostPre m c t j = ((∑ e, hR X G t e * WI e j : ℝ) : EReal) := by
  unfold hostPre
  simp only [A.h1, A.h2, A.h3, c_1024, c_eps, ← EReal.coe_mul, ← coe_sum, div_1024, ← EReal.coe_add]
  have : ∀ t, Ideal.rsqrt (((∑ e, X t e * X t e) / 1024 + Cert.Proof.RetMath.eps : ℝ) : EReal) = (rr (X t) : EReal) := fun t => rsqrt_ms (X t)
  simp only [this, ← EReal.coe_mul, ← coe_sum]
  rfl

set_option maxHeartbeats 1600000 in
theorem dy_host (t : Fin 8192) (e : Fin 1024) : V m c main_v17 (ix2 t e) = (D t e : EReal) := by
  simp only [V, List.flatten_cons, List.flatten_nil, List.append_nil, StableHlo.after_append]
  set_option maxHeartbeats 1600000 in after_results_simp
  pointwise
  exact A.h0 t e

set_option maxHeartbeats 1600000 in
theorem x_host (t : Fin 8192) (e : Fin 1024) : V m c main_v18 (ix2 t e) = (X t e : EReal) := by
  simp only [V, List.flatten_cons, List.flatten_nil, List.append_nil, StableHlo.after_append]
  set_option maxHeartbeats 1600000 in after_results_simp
  pointwise
  exact A.h1 t e

set_option maxHeartbeats 1600000 in
theorem g_host (e : Fin 1024) : V m c main_v19 (ix2 0 e) = (G e : EReal) := by
  simp only [V, List.flatten_cons, List.flatten_nil, List.append_nil, StableHlo.after_append]
  set_option maxHeartbeats 1600000 in after_results_simp
  pointwise
  exact A.h2 e

set_option maxHeartbeats 1600000 in
theorem w_host (j : Fin 5632) (e : Fin 1024) : V m c main_v23 (ix2 j e) = (WI e j : EReal) := by
  simp only [V, List.flatten_cons, List.flatten_nil, List.append_nil, StableHlo.after_append]
  set_option maxHeartbeats 1600000 in after_results_simp
  pointwise
  exact A.h3 e j

set_option maxHeartbeats 1600000 in
theorem wo_host (f : Fin 2816) (e : Fin 1024) : V m c main_v24 (ix2 f e) = (WO f e : EReal) := by
  simp only [V, List.flatten_cons, List.flatten_nil, List.append_nil, StableHlo.after_append]
  set_option maxHeartbeats 1600000 in after_results_simp
  pointwise
  exact A.h4 f e

set_option maxHeartbeats 1600000 in
theorem gate_host (t : Fin 8192) (f : Fin 2816) : V m c main_v20 (ix2 t f) = (gateR X G WI t f : EReal) := by
  simp only [V, List.flatten_cons, List.flatten_nil, List.append_nil, StableHlo.after_append]
  set_option maxHeartbeats 1600000 in after_results_simp
  pointwise
  change hostPre m c t (lo f) = _
  rw [hostPre_real m c D X G WI WO A]
  rfl

set_option maxHeartbeats 1600000 in
theorem up_host (t : Fin 8192) (f : Fin 2816) : V m c main_v21 (ix2 t f) = (upR X G WI t f : EReal) := by
  simp only [V, List.flatten_cons, List.flatten_nil, List.append_nil, StableHlo.after_append]
  set_option maxHeartbeats 1600000 in after_results_simp
  pointwise
  change hostPre m c t (hi f) = _
  rw [hostPre_real m c D X G WI WO A]
  rfl

end Cert.Kernel2Ideal.Ffn
-- ==== Proof.FfnBlocks.lean ====
/-
  Which rows a grid point of the half-step's backward kernel works on, and what its input blocks are of the arrays that the host code
  prepared.
-/
module

public import proofs.«01_k».proof.Proof.FfnHost

@[expose] public section

set_option maxRecDepth 16384

noncomputable section

namespace Cert.Kernel2Ideal.Ffn

open Cert.Kernel2Ideal Cert.Kernel2Ideal.Gen Idealize.ShloMosaic Idealize.ShloMosaic.TcCoe Idealize.SL.Sem
open Idealize.ShloMosaic.Pipeline (Dat)
open Cert.Proof.FfnMath

variable (m : (ℓ : Loc nD τ sig) → Buf (Elt Ideal) ℓ) (c : Dev nD)

theorem lt32 (t : Fin cfg0.N) : t.val < 32 := lt_of_lt_of_eq t.isLt (show cfg0.N = 32 from N_0)

/-- Row `i` of the block of a grid point. -/
def row (t : ℕ) (ht : t < 32) (i : Fin 256) : Fin 8192 := ⟨256 * t + i.val, by omega⟩

theorem sum_rows (f : Fin 8192 → ℝ) : ∑ s, f s = ∑ a : Fin 32, ∑ i : Fin 256, f (row a.val a.isLt i) := by
  rw [← Fintype.sum_prod_type', ← (finProdFinEquiv : Fin 32 × Fin 256 ≃ Fin (32 * 256)).sum_comp]
  refine Finset.sum_congr rfl fun p _ => congrArg f (Fin.ext ?_)
  simp only [finProdFinEquiv_apply_val, row]
  omega

theorem idx : ∀ t : Fin cfg0.N,
    win0_0.index t = ![t.val, 0] ∧ win0_1.index t = ![t.val, 0] ∧ win0_2.index t = ![0, 0]
    ∧ win0_3.index t = ![t.val, 0] ∧ win0_4.index t = ![t.val, 0] ∧ win0_5.index t = ![0, 0] ∧ win0_6.index t = ![0, 0]
    ∧ win0_7.index t = ![t.val, 0] ∧ win0_8.index t = ![t.val, 0] ∧ win0_9.index t = ![t.val, 0]
    ∧ win0_10.index t = ![t.val, 0] ∧ win0_11.index t = ![t.val, 0] ∧ win0_12.index t = ![t.val, 0]
    ∧ win0_13.index t = ![0, 0] :=
  (by decide +kernel : ∀ t : Fin grid0.N, _)

section blocks

variable (t : Fin cfg0.N)

theorem blk0 (i : Fin 256) (e : Fin 1024) :
    (iblk m c 0 t : FVec Ideal S256x1024 .f32) (ix2 i e) = V m c main_v17 (ix2 (row t.val (lt32 t) i) e) := by
  blk_ext [iblk, idx t, row]
theorem blk1 (i : Fin 256) (e : Fin 1024) :
    (iblk m c 1 t : FVec Ideal S256x1024 .f32) (ix2 i e) = V m c main_v18 (ix2 (row t.val (lt32 t) i) e) := by
  blk_ext [iblk, idx t, row]
theorem blk2 (e : Fin 1024) : (iblk m c 2 t : FVec Ideal S1x1024 .f32) (ix2 0 e) = V m c main_v19 (ix2 0 e) := by
  blk_ext [iblk, idx t]
theorem blk3 (i : Fin 256) (f : Fin 2816) :
    (iblk m c 3 t : FVec Ideal S256x2816 .bf16) (ix2 i f) = V m c main_v20 (ix2 (row t.val (lt32 t) i) f) := by
  blk_ext [iblk, idx t, row]
theorem blk4 (i : Fin 256) (f : Fin 2816) :
    (iblk m c 4 t : FVec Ideal S256x2816 .bf16) (ix2 i f) = V m c main_v21 (ix2 (row t.val (lt32 t) i) f) := by
  blk_ext [iblk, idx t, row]
theorem blk5 (j : Fin 5632) (e : Fin 1024) : (iblk m c 5 t : FVec Ideal S5632x1024 .bf16) (ix2 j e) = V m c main_v23 (ix2 j e) := by
  blk_ext [iblk, idx t]
theorem blk6 (f : Fin 2816) (e : Fin 1024) : (iblk m c 6 t : FVec Ideal S2816x1024 .bf16) (ix2 f e) = V m c main_v24 (ix2 f e) := by
  blk_ext [iblk, idx t]

end blocks

end Cert.Kernel2Ideal.Ffn
-- ==== Proof.FfnBody.lean ====
/-
  What one grid point of the half-step's backward kernel computes from its blocks, when the blocks hold real numbers.
-/
module

public import proofs.«01_k».proof.Proof.Gen.Kernel2Ideal.Skeleton
public import proofs.«01_k».proof.Proof.FfnSpec
public import Idealize.ShloMosaic.Lib.Pipeline.ValueKit
public import Idealize.ShloMosaic.Lib.Pointwise
public import Idealize.ShloMosaic.Lib.Claim

@[expose] public section

set_option maxRecDepth 16384

noncomputable section

namespace Cert.Kernel2Ideal.Ffn

open Cert.Kernel2Ideal Cert.Kernel2Ideal.Gen Idealize.ShloMosaic Idealize.ShloMosaic.TcCoe Idealize.SL.Sem
open Cert.Proof.RetMath (sg coe_sum c_one c_zero c_eps div_sg one_real)
open Cert.Proof.FfnMath

variable (r : Fin 256 → Fin 8192)
variable (D X : Fin 8192 → Fin 1024 → ℝ) (G : Fin 1024 → ℝ) (WI : Fin 1024 → Fin 5632 → ℝ) (WO : Fin 2816 → Fin 1024 → ℝ)

variable (b0 b1 : FVec Ideal S256x1024 .f32) (b2 : FVec Ideal S1x1024 .f32) (b3 b4 : FVec Ideal S256x2816 .bf16)
variable (bt bb : FVec Ideal S2816x1024 .bf16) (b6 : FVec Ideal S2816x1024 .bf16)
variable (h0 : ∀ i e, b0 (ix2 i e) = (D (r i) e : EReal)) (h1 : ∀ i e, b1 (ix2 i e) = (X (r i) e : EReal))
variable (h2 : ∀ e, b2 (ix2 0 e) = (G e : EReal))
variable (h3 : ∀ i f, b3 (ix2 i f) = (gateR X G WI (r i) f : EReal)) (h4 : ∀ i f, b4 (ix2 i f) = (upR X G WI (r i) f : EReal))
variable (ht : ∀ f e, bt (ix2 f e) = (WI e (lo f) : EReal)) (hb : ∀ f e, bb (ix2 f e) = (WI e (hi f) : EReal))
variable (h6 : ∀ f e, b6 (ix2 f e) = (WO f e : EReal))

/-! ### The norm -/

include h1

theorem rr_body (i : Fin 256) : k0_pay16 (F := Ideal) b1 (ix2 i 0) = (rr (X (r i)) : EReal) := by
  pointwise [k0_pay16, k0_pay14]
  simp only [h1, c_1024, c_eps, ← EReal.coe_mul, ← coe_sum, div_1024, ← EReal.coe_add]
  exact rsqrt_ms (X (r i))

theorem xh_body (i : Fin 256) (e : Fin 1024) : k0_pay17 (F := Ideal) b1 (ix2 i e) = (xh (X (r i)) e : EReal) := by
  pointwise [k0_pay17, k0_pay14]
  simp only [rr_body r X b1 h1, h1, ← EReal.coe_mul]
  rfl

include h2

theorem h_body (i : Fin 256) (e : Fin 1024) :
    k0_pay1 (F := Ideal) (k0_pay17 b1) (k0_pay20 b2) (ix2 i e) = (hR X G (r i) e : EReal) := by
  pointwise [k0_pay1, k0_pay20, k0_pay15]
  simp only [xh_body r X b1 h1, h2, ← EReal.coe_mul]
  rfl

omit h1 h2

/-! ### The gate and the hidden units -/

include h0

theorem dyh_body (i : Fin 256) (e : Fin 1024) : k0_pay4 (F := Ideal) b0 (ix2 i e) = (dyhR D (r i) e : EReal) := by
  pointwise [k0_pay4]
  simp only [h0, c_half, ← EReal.coe_mul]
  rfl

include h6

theorem dhid_body (i : Fin 256) (f : Fin 2816) : k0_pay5 (F := Ideal) b0 b6 (ix2 i f) = (dhidR D WO (r i) f : EReal) := by
  pointwise [k0_pay5]
  simp only [dyh_body r D b0 h0, h6, ← EReal.coe_mul, ← coe_sum]
  rfl

omit h0 h6
include h3

theorem sg_body (i : Fin 256) (f : Fin 2816) : k0_pay8 (F := Ideal) b3 (ix2 i f) = (sg (gateR X G WI (r i) f) : EReal) := by
  pointwise [k0_pay8, k0_pay6]
  simp only [h3, one_real, ← EReal.coe_neg, ← EReal.coe_sub, Ideal.exp_coe, ← EReal.coe_add, div_sg, zero_sub]

theorem silu_body (i : Fin 256) (f : Fin 2816) : k0_pay9 (F := Ideal) b3 (ix2 i f) = (siluR X G WI (r i) f : EReal) := by
  pointwise [k0_pay9, k0_pay6]
  simp only [sg_body r X G WI b3 h3, h3, ← EReal.coe_mul]
  rfl

include h4

theorem hid_body (i : Fin 256) (f : Fin 2816) :
    k0_pay12 (F := Ideal) (k0_pay7 b4) (k0_pay9 b3) (ix2 i f) = (hidR X G WI (r i) f : EReal) := by
  pointwise [k0_pay12, k0_pay7]
  simp only [silu_body r X G WI b3 h3, h4, ← EReal.coe_mul]
  rfl

include h0 h6

theorem dgate_body (i : Fin 256) (f : Fin 2816) :
    k0_pay10 (F := Ideal) b0 b6 b3 b4 (ix2 i f) = (dgateR D X G WI WO (r i) f : EReal) := by
  pointwise [k0_pay10, k0_pay6, k0_pay7]
  simp only [dhid_body r D WO b0 b6 h0 h6, sg_body r X G WI b3 h3, h3, h4, one_real, ← EReal.coe_mul, ← EReal.coe_sub, ← EReal.coe_add]
  rfl

omit h4

theorem dup_body (i : Fin 256) (f : Fin 2816) :
    k0_pay11 (F := Ideal) b0 b6 b3 (ix2 i f) = (dupR D X G WI WO (r i) f : EReal) := by
  pointwise [k0_pay11]
  simp only [dhid_body r D WO b0 b6 h0 h6, silu_body r X G WI b3 h3, ← EReal.coe_mul]
  rw [mul_comm]
  rfl

/-! ### The gradients of the row and of the norm's scale -/

include h4 ht hb

theorem dh_body (i : Fin 256) (e : Fin 1024) :
    k0_pay13 (F := Ideal) (k0_pay10 b0 b6 b3 b4) (k0_pay11 b0 b6 b3) bt bb (ix2 i e) = (dhR D X G WI WO (r i) e : EReal) := by
  pointwise [k0_pay13]
  simp only [dgate_body r D X G WI WO b0 b3 b4 b6 h0 h3 h4 h6, dup_body r D X G WI WO b0 b3 b6 h0 h3 h6, ht, hb,
    ← EReal.coe_mul, ← coe_sum, ← EReal.coe_add]
  rfl

include h1

theorem dg_body (e : Fin 1024) :
    k0_pay19 (F := Ideal) (k0_pay10 b0 b6 b3 b4) (k0_pay11 b0 b6 b3) bt bb b1 (ix2 0 e)
      = ((∑ i : Fin 256, xh (X (r i)) e * dhR D X G WI WO (r i) e : ℝ) : EReal) := by
  pointwise [k0_pay19]
  simp only [dh_body r D X G WI WO b0 b3 b4 bt bb b6 h0 h3 h4 ht hb h6, xh_body r X b1 h1, ← EReal.coe_mul, ← coe_sum]
  refine congrArg _ (Finset.sum_congr rfl fun i _ => mul_comm _ _)

include h2

theorem dx_body (i : Fin 256) (e : Fin 1024) :
    k0_pay2 (F := Ideal) (k0_pay18 (k0_pay10 b0 b6 b3 b4) (k0_pay11 b0 b6 b3) bt bb b1 b2) b0 (ix2 i e)
      = (dxR D X G WI WO (r i) e : EReal) := by
  pointwise [k0_pay2, k0_pay18, k0_pay15]
  simp only [dh_body r D X G WI WO b0 b3 b4 bt bb b6 h0 h3 h4 ht hb h6, xh_body r X b1 h1, rr_body r X b1 h1, h0, h2, c_1024,
    ← EReal.coe_mul, ← coe_sum, div_1024, ← EReal.coe_sub, ← EReal.coe_add]
  rfl

end Cert.Kernel2Ideal.Ffn
-- ==== Proof.FfnPoint.lean ====
/-
  What a grid point of the half-step's backward kernel leaves: its rows of the six row-wise results, and the norm's scale's gradient summed
  over the rows so far.
-/
module

public import proofs.«01_k».proof.Proof.FfnBlocks
public import proofs.«01_k».proof.Proof.FfnBody

@[expose] public section

set_option maxRecDepth 16384

noncomputable section

namespace Cert.Kernel2Ideal.Ffn

open Cert.Kernel2Ideal Cert.Kernel2Ideal.Gen Idealize.ShloMosaic Idealize.ShloMosaic.TcCoe Idealize.SL.Sem
open Idealize.ShloMosaic.Pipeline (Dat)
open Cert.Proof.FfnMath

variable (m : (ℓ : Loc nD τ sig) → Buf (Elt Ideal) ℓ) (c : Dev nD)
variable (D X : Fin 8192 → Fin 1024 → ℝ) (G : Fin 1024 → ℝ) (WI : Fin 1024 → Fin 5632 → ℝ) (WO : Fin 2816 → Fin 1024 → ℝ)
variable (A : Args m c D X G WI WO)

/-- The gate's rows of the transposed input weight. -/
abbrev wlo (t : Fin cfg0.N) : FVec Ideal S2816x1024 .bf16 :=
  View.ld (iblk m c 5 t) (Rect.unit ![0, 0] ![2816, 1024] inb_S5632x1024_S2816x1024_0_0)

/-- The other rows of the transposed input weight. -/
abbrev whi (t : Fin cfg0.N) : FVec Ideal S2816x1024 .bf16 :=
  View.ld (iblk m c 5 t) (Rect.unit ![2816, 0] ![2816, 1024] inb_S5632x1024_S2816x1024_2816_0)

theorem ld_lo (X : FVec Ideal S5632x1024 .bf16) (f : Fin 2816) (e : Fin 1024) :
    View.ld (Val := Elt Ideal) (S := S5632x1024) (e' := .bf16) X (Rect.unit ![0, 0] ![2816, 1024] inb_S5632x1024_S2816x1024_0_0) (ix2 f e)
      = X (ix2 (lo f) e) :=
  View.ld_unit_apply_of (Val := Elt Ideal) (S := S5632x1024) (e := .bf16) X ![0, 0] ![2816, 1024] inb_S5632x1024_S2816x1024_0_0 (ix2 f e) (ix2 (lo f) e) fun a => by
    match a with
    | ⟨0, _⟩ => exact (Nat.zero_add f.val).symm
    | ⟨1, _⟩ => exact (Nat.zero_add e.val).symm

theorem ld_hi (X : FVec Ideal S5632x1024 .bf16) (f : Fin 2816) (e : Fin 1024) :
    View.ld (Val := Elt Ideal) (S := S5632x1024) (e' := .bf16) X (Rect.unit ![2816, 0] ![2816, 1024] inb_S5632x1024_S2816x1024_2816_0) (ix2 f e)
      = X (ix2 (hi f) e) :=
  View.ld_unit_apply_of (Val := Elt Ideal) (S := S5632x1024) (e := .bf16) X ![2816, 0] ![2816, 1024] inb_S5632x1024_S2816x1024_2816_0 (ix2 f e) (ix2 (hi f) e) fun a => by
    match a with
    | ⟨0, _⟩ => rfl
    | ⟨1, _⟩ => exact (Nat.zero_add e.val).symm

theorem wlo_eq (t : Fin cfg0.N) (f : Fin 2816) (e : Fin 1024) :
    wlo m c t (ix2 f e) = (iblk m c 5 t : FVec Ideal S5632x1024 .bf16) (ix2 (lo f) e) := ld_lo _ f e

theorem whi_eq (t : Fin cfg0.N) (f : Fin 2816) (e : Fin 1024) :
    whi m c t (ix2 f e) = (iblk m c 5 t : FVec Ideal S5632x1024 .bf16) (ix2 (hi f) e) := ld_hi _ f e

include A

section real

variable (t : Fin cfg0.N)

theorem r0 (i : Fin 256) (e : Fin 1024) : (iblk m c 0 t : FVec Ideal S256x1024 .f32) (ix2 i e) = (D (row t.val (lt32 t) i) e : EReal) := by
  rw [blk0, dy_host m c D X G WI WO A]
theorem r1 (i : Fin 256) (e : Fin 1024) : (iblk m c 1 t : FVec Ideal S256x1024 .f32) (ix2 i e) = (X (row t.val (lt32 t) i) e : EReal) := by
  rw [blk1, x_host m c D X G WI WO A]
theorem r2 (e : Fin 1024) : (iblk m c 2 t : FVec Ideal S1x1024 .f32) (ix2 0 e) = (G e : EReal) := by
  rw [blk2, g_host m c D X G WI WO A]
theorem r3 (i : Fin 256) (f : Fin 2816) :
    (iblk m c 3 t : FVec Ideal S256x2816 .bf16) (ix2 i f) = (gateR X G WI (row t.val (lt32 t) i) f : EReal) := by
  rw [blk3, gate_host m c D X G WI WO A]
theorem r4 (i : Fin 256) (f : Fin 2816) :
    (iblk m c 4 t : FVec Ideal S256x2816 .bf16) (ix2 i f) = (upR X G WI (row t.val (lt32 t) i) f : EReal) := by
  rw [blk4, up_host m c D X G WI WO A]
theorem rlo (f : Fin 2816) (e : Fin 1024) : wlo m c t (ix2 f e) = (WI e (lo f) : EReal) := by
  rw [wlo_eq, blk5, w_host m c D X G WI WO A]
theorem rhi (f : Fin 2816) (e : Fin 1024) : whi m c t (ix2 f e) = (WI e (hi f) : EReal) := by
  rw [whi_eq, blk5, w_host m c D X G WI WO A]
theorem r6 (f : Fin 2816) (e : Fin 1024) : (iblk m c 6 t : FVec Ideal S2816x1024 .bf16) (ix2 f e) = (WO f e : EReal) := by
  rw [blk6, wo_host m c D X G WI WO A]

/-! ### The six row-wise results -/

theorem dx_point (i : Fin 256) (e : Fin 1024) :
    (outsAt0 m c t.val t.isLt).1 (ix2 i e) = (dxR D X G WI WO (row t.val (lt32 t) i) e : EReal) := by
  have := lt32 t
  by_cases h0 : t.val % 32 = 0
  · rw [outsAt0_A m c t h0 (by omega)]
    frame_out
    exact dx_body (row t.val (lt32 t)) D X G WI WO _ _ _ _ _ _ _ _ (r0 m c D X G WI WO A t) (r1 m c D X G WI WO A t) (r2 m c D X G WI WO A t)
      (r3 m c D X G WI WO A t) (r4 m c D X G WI WO A t) (rlo m c D X G WI WO A t) (rhi m c D X G WI WO A t) (r6 m c D X G WI WO A t) i e
  · rw [outsAt0_B m c t h0 (by omega)]
    frame_out
    exact dx_body (row t.val (lt32 t)) D X G WI WO _ _ _ _ _ _ _ _ (r0 m c D X G WI WO A t) (r1 m c D X G WI WO A t) (r2 m c D X G WI WO A t)
      (r3 m c D X G WI WO A t) (r4 m c D X G WI WO A t) (rlo m c D X G WI WO A t) (rhi m c D X G WI WO A t) (r6 m c D X G WI WO A t) i e

theorem h_point (i : Fin 256) (e : Fin 1024) :
    (outsAt0 m c t.val t.isLt).2.1 (ix2 i e) = (hR X G (row t.val (lt32 t) i) e : EReal) := by
  have := lt32 t
  by_cases h0 : t.val % 32 = 0
  · rw [outsAt0_A m c t h0 (by omega)]
    frame_out
    exact h_body (row t.val (lt32 t)) X G _ _ (r1 m c D X G WI WO A t) (r2 m c D X G WI WO A t) i e
  · rw [outsAt0_B m c t h0 (by omega)]
    frame_out
    exact h_body (row t.val (lt32 t)) X G _ _ (r1 m c D X G WI WO A t) (r2 m c D X G WI WO A t) i e

theorem dyh_point (i : Fin 256) (e : Fin 1024) :
    (outsAt0 m c t.val t.isLt).2.2.1 (ix2 i e) = (dyhR D (row t.val (lt32 t) i) e : EReal) := by
  have := lt32 t
  by_cases h0 : t.val % 32 = 0
  · rw [outsAt0_A m c t h0 (by omega)]
    frame_out
    exact dyh_body (row t.val (lt32 t)) D _ (r0 m c D X G WI WO A t) i e
  · rw [outsAt0_B m c t h0 (by omega)]
    frame_out
    exact dyh_body (row t.val (lt32 t)) D _ (r0 m c D X G WI WO A t) i e

theorem dgate_point (i : Fin 256) (f : Fin 2816) :
    (outsAt0 m c t.val t.isLt).2.2.2.1 (ix2 i f) = (dgateR D X G WI WO (row t.val (lt32 t) i) f : EReal) := by
  have := lt32 t
  by_cases h0 : t.val % 32 = 0
  · rw [outsAt0_A m c t h0 (by omega)]
    frame_out
    exact dgate_body (row t.val (lt32 t)) D X G WI WO _ _ _ _ (r0 m c D X G WI WO A t) (r3 m c D X G WI WO A t) (r4 m c D X G WI WO A t)
      (r6 m c D X G WI WO A t) i f
  · rw [outsAt0_B m c t h0 (by omega)]
    frame_out
    exact dgate_body (row t.val (lt32 t)) D X G WI WO _ _ _ _ (r0 m c D X G WI WO A t) (r3 m c D X G WI WO A t) (r4 m c D X G WI WO A t)
      (r6 m c D X G WI WO A t) i f

theorem dup_point (i : Fin 256) (f : Fin 2816) :
    (outsAt0 m c t.val t.isLt).2.2.2.2.1 (ix2 i f) = (dupR D X G WI WO (row t.val (lt32 t) i) f : EReal) := by
  have := lt32 t
  by_cases h0 : t.val % 32 = 0
  · rw [outsAt0_A m c t h0 (by omega)]
    frame_out
    exact dup_body (row t.val (lt32 t)) D X G WI WO _ _ _ (r0 m c D X G WI WO A t) (r3 m c D X G WI WO A t) (r6 m c D X G WI WO A t) i f
  · rw [outsAt0_B m c t h0 (by omega)]
    frame_out
    exact dup_body (row t.val (lt32 t)) D X G WI WO _ _ _ (r0 m c D X G WI WO A t) (r3 m c D X G WI WO A t) (r6 m c D X G WI WO A t) i f

theorem hid_point (i : Fin 256) (f : Fin 2816) :
    (outsAt0 m c t.val t.isLt).2.2.2.2.2.1 (ix2 i f) = (hidR X G WI (row t.val (lt32 t) i) f : EReal) := by
  have := lt32 t
  by_cases h0 : t.val % 32 = 0
  · rw [outsAt0_A m c t h0 (by omega)]
    frame_out
    exact hid_body (row t.val (lt32 t)) X G WI _ _ (r3 m c D X G WI WO A t) (r4 m c D X G WI WO A t) i f
  · rw [outsAt0_B m c t h0 (by omega)]
    frame_out
    exact hid_body (row t.val (lt32 t)) X G WI _ _ (r3 m c D X G WI WO A t) (r4 m c D X G WI WO A t) i f

/-- What a grid point adds to the gradient of the norm's scale. -/
theorem dg_part (e : Fin 1024) :
    k0_pay19 (F := Ideal) (k0_pay10 (iblk m c 0 t) (iblk m c 6 t) (iblk m c 3 t) (iblk m c 4 t))
        (k0_pay11 (iblk m c 0 t) (iblk m c 6 t) (iblk m c 3 t)) (wlo m c t) (whi m c t) (iblk m c 1 t) (ix2 0 e)
      = ((∑ i : Fin 256, xh (X (row t.val (lt32 t) i)) e * dhR D X G WI WO (row t.val (lt32 t) i) e : ℝ) : EReal) :=
  dg_body (row t.val (lt32 t)) D X G WI WO _ _ _ _ _ _ _ (r0 m c D X G WI WO A t) (r1 m c D X G WI WO A t)
    (r3 m c D X G WI WO A t) (r4 m c D X G WI WO A t) (rlo m c D X G WI WO A t) (rhi m c D X G WI WO A t) (r6 m c D X G WI WO A t) e

end real

/-! ### The gradient of the norm's scale -/

omit A

/-- The gradient of the norm's scale over the rows of the first `n` grid points. -/
def dgTo (n : ℕ) (e : Fin 1024) : ℝ :=
  ∑ a ∈ Finset.range n, if h : a < 32 then ∑ i : Fin 256, xh (X (row a h i)) e * dhR D X G WI WO (row a h i) e else 0

theorem dgTo_all (e : Fin 1024) : dgTo D X G WI WO 32 e = dgR D X G WI WO e := by
  unfold dgTo dgR
  rw [sum_rows, Finset.sum_range]
  exact Finset.sum_congr rfl fun a _ => dif_pos a.isLt

theorem dgTo_succ (n : ℕ) (hn : n < 32) (e : Fin 1024) : dgTo D X G WI WO (n + 1) e
    = dgTo D X G WI WO n e + ∑ i : Fin 256, xh (X (row n hn i)) e * dhR D X G WI WO (row n hn i) e := by
  unfold dgTo
  rw [Finset.sum_range_succ, dif_pos hn]

include A

/-- The gradient of the norm's scale after a grid point. -/
theorem dg_after (n : ℕ) (hn : n < cfg0.N) (e : Fin 1024) :
    (outsAt0 m c n hn).2.2.2.2.2.2 (ix2 0 e) = (dgTo D X G WI WO (n + 1) e : EReal) := by
  induction n with
  | zero =>
    rw [outsAt0_A m c ⟨0, hn⟩ rfl (by simp)]
    frame_out
    refine (dg_part m c D X G WI WO A ⟨0, hn⟩ e).trans ?_
    rw [dgTo_succ D X G WI WO 0 (by omega), show dgTo D X G WI WO 0 e = 0 from rfl, zero_add]
  | succ n ih =>
    have hlt : n + 1 < 32 := lt32 ⟨n + 1, hn⟩
    rw [outsAt0_B m c ⟨n + 1, hn⟩ (by simp only; omega) (by simp)]
    frame_out
    pointwise [k0_pay3]
    rw [dgTo_succ D X G WI WO (n + 1) hlt, EReal.coe_add]
    exact congrArg₂ (· + ·) (ih (Nat.lt_of_succ_lt hn)) (dg_part m c D X G WI WO A ⟨n + 1, hn⟩ e)

end Cert.Kernel2Ideal.Ffn
-- ==== Proof.FfnRef.lean ====
/-
  The reference of the SwiGLU half-step's gradient, stage by stage, at real arguments: every stage is the real number that the plain
  formulas of `FfnSpec` name.
-/
module

public import proofs.«01_k».proof.Proof.Gen.Reference2Ideal.Read
public import proofs.«01_k».proof.Proof.FfnSpec
public import Idealize.ShloMosaic.Lib.Pipeline.ValueKit
public import Idealize.ShloMosaic.Lib.Pointwise
public import Idealize.ShloMosaic.Lib.Claim

@[expose] public section

set_option maxRecDepth 16384

noncomputable section

namespace Cert.Reference2Ideal.Ffn

open Cert.Reference2Ideal Cert.Reference2Ideal.Gen Cert.Reference2Ideal.Read Idealize.ShloMosaic Idealize.ShloMosaic.TcCoe Idealize.SL.Sem
open Cert.Proof.RetMath (sg coe_sum c_one c_zero c_eps c_mhalf div_sg one_real)
open Cert.Proof.FfnMath

/-! ### Sums along axes of one element -/

theorem sum_ends_at (v : S1x8192x1.Idx → EReal) (t : Fin 8192) :
    Ideal.hostReduceAdd reducesTo_S1x8192x1_S8192_d0_2 v 0 (ix1 t) = v (ix3 0 t 0) := by
  show (0 : EReal) + ∑ i ∈ Finset.univ.filter (fun i => reducesTo_S1x8192x1_S8192_d0_2.drop i = ix1 t), v i = _
  rw [Finset.sum_eq_single (ix3 0 t 0), zero_add]
  · intro i hi hne
    exfalso
    apply hne
    have he := (Finset.mem_filter.mp hi).2
    have e0 := congrArg Fin.val (congrFun he 0)
    funext x
    apply Fin.ext
    match x with
    | ⟨0, _⟩ => exact Nat.lt_one_iff.mp (i 0).isLt
    | ⟨1, _⟩ => exact e0
    | ⟨2, _⟩ => exact Nat.lt_one_iff.mp (i 2).isLt
  · intro hn
    exfalso
    apply hn
    refine Finset.mem_filter.mpr ⟨Finset.mem_univ _, ?_⟩
    funext x
    apply Fin.ext
    match x with
    | ⟨0, _⟩ => rfl

theorem sum_front_at (v : S1x1x1024.Idx → EReal) (a : Fin 1024) :
    Ideal.hostReduceAdd reducesTo_S1x1x1024_S1024_d0_1 v 0 (ix1 a) = v (ix3 0 0 a) := by
  show (0 : EReal) + ∑ i ∈ Finset.univ.filter (fun i => reducesTo_S1x1x1024_S1024_d0_1.drop i = ix1 a), v i = _
  rw [Finset.sum_eq_single (ix3 0 0 a), zero_add]
  · intro i hi hne
    exfalso
    apply hne
    have he := (Finset.mem_filter.mp hi).2
    have e0 := congrArg Fin.val (congrFun he 0)
    funext x
    apply Fin.ext
    match x with
    | ⟨0, _⟩ => exact Nat.lt_one_iff.mp (i 0).isLt
    | ⟨1, _⟩ => exact Nat.lt_one_iff.mp (i 1).isLt
    | ⟨2, _⟩ => exact e0
  · intro hn
    exfalso
    apply hn
    refine Finset.mem_filter.mpr ⟨Finset.mem_univ _, ?_⟩
    funext x
    apply Fin.ext
    match x with
    | ⟨0, _⟩ => rfl

/-! ### The stages -/

variable (x0 x1 : FVec Ideal S1x8192x1024 .f32) (x2 : FVec Ideal S1024 .f32) (x3 : FVec Ideal S1024x5632 .f32) (x4 : FVec Ideal S2816x1024 .f32)
variable (D X : Fin 8192 → Fin 1024 → ℝ) (G : Fin 1024 → ℝ) (WI : Fin 1024 → Fin 5632 → ℝ) (WO : Fin 2816 → Fin 1024 → ℝ)
variable (h0 : ∀ t e, x0 (ix3 0 t e) = (D t e : EReal)) (h1 : ∀ t e, x1 (ix3 0 t e) = (X t e : EReal))
variable (h2 : ∀ e, x2 (ix1 e) = (G e : EReal)) (h3 : ∀ e j, x3 (ix2 e j) = (WI e j : EReal)) (h4 : ∀ f e, x4 (ix2 f e) = (WO f e : EReal))

include h1

theorem ms_at (t : Fin 8192) : val_main_v6 (F := Ideal) x1 (ix3 0 t 0) = (ms (X t) : EReal) := by
  pointwise [val_main_v6, val_main_v5, val_main_v4, val_main_v3, val_main_v2, val_main_v1, val_main_v0, val_main_cst, val_main_cst_0, val_main_cst_1]
  simp only [h1, c_1024, c_eps, ← EReal.coe_mul, ← coe_sum, div_1024, ← EReal.coe_add]
  rfl

theorem rr_at (t : Fin 8192) : val_main_v7 (F := Ideal) x1 (ix3 0 t 0) = (rr (X t) : EReal) := by
  pointwise [val_main_v7]
  rw [ms_at x1 X h1]
  exact rsqrt_ms _

theorem slope_at (t : Fin 8192) :
    val_main_v10 (F := Ideal) x1 (ix3 0 t 0) = ((-(1 / 2) * (rr (X t) / ms (X t)) : ℝ) : EReal) := by
  pointwise [val_main_v10, val_main_v9, val_main_v8, val_main_cst_2]
  simp only [ms_at x1 X h1, rr_at x1 X h1, c_mhalf, div_ms, ← EReal.coe_mul]

theorem xh_at (t : Fin 8192) (e : Fin 1024) : val_main_v12 (F := Ideal) x1 (ix3 0 t e) = (xh (X t) e : EReal) := by
  pointwise [val_main_v12, val_main_v11]
  simp only [rr_at x1 X h1, h1, ← EReal.coe_mul]
  rfl

include h2

theorem h_at (t : Fin 8192) (e : Fin 1024) : val_main_v15 (F := Ideal) x1 x2 (ix3 0 t e) = (hR X G t e : EReal) := by
  pointwise [val_main_v15, val_main_v14, val_main_v13]
  simp only [xh_at x1 X h1, h2, ← EReal.coe_mul]
  rfl

include h3

theorem gate_at (t : Fin 8192) (f : Fin 2816) : val_main_v17 (F := Ideal) x1 x2 x3 (ix3 0 t f) = (gateR X G WI t f : EReal) := by
  pointwise [val_main_v17, val_main_v16]
  simp only [h_at x1 x2 X G h1 h2, h3, ← EReal.coe_mul, ← coe_sum]
  rfl

theorem up_at (t : Fin 8192) (f : Fin 2816) : val_main_v18 (F := Ideal) x1 x2 x3 (ix3 0 t f) = (upR X G WI t f : EReal) := by
  pointwise [val_main_v18, val_main_v16]
  simp only [h_at x1 x2 X G h1 h2, h3, ← EReal.coe_mul, ← coe_sum]
  rfl

theorem sg_at (t : Fin 8192) (f : Fin 2816) :
    val_main_v19_2 (F := Ideal) x1 x2 x3 (ix3 0 t f) = (sg (gateR X G WI t f) : EReal) := by
  pointwise [val_main_v19_2, val_main_call0_v4, val_main_call0_cst_0, val_main_call0_v3, val_main_call0_v2, val_main_call0_cst, val_main_call0_v1, val_main_call0_v0]
  simp only [gate_at x1 x2 x3 X G WI h1 h2 h3, one_real, ← EReal.coe_neg, Ideal.exp_coe, ← EReal.coe_add, div_sg]

theorem sg1_at (t : Fin 8192) (f : Fin 2816) : val_main_v19_1 (F := Ideal) x1 x2 x3 (ix3 0 t f)
    = ((sg (gateR X G WI t f) * (1 - sg (gateR X G WI t f)) : ℝ) : EReal) := by
  pointwise [val_main_v19_1, val_main_call0_v7, val_main_call0_v6, val_main_call0_cst_1]
  simp only [sg_at x1 x2 x3 X G WI h1 h2 h3, one_real, ← EReal.coe_sub, ← EReal.coe_mul]

theorem silu_at (t : Fin 8192) (f : Fin 2816) : val_main_v19_0 (F := Ideal) x1 x2 x3 (ix3 0 t f) = (siluR X G WI t f : EReal) := by
  pointwise [val_main_v19_0]
  simp only [sg_at x1 x2 x3 X G WI h1 h2 h3, gate_at x1 x2 x3 X G WI h1 h2 h3, ← EReal.coe_mul]
  rfl

omit h1 h2 h3
include h0 h4

theorem dhid_at (t : Fin 8192) (f : Fin 2816) : val_main_v28 (F := Ideal) x0 x4 (ix3 0 t f) = (dhidR D WO t f : EReal) := by
  pointwise [val_main_v28, val_main_v27, val_main_v26, val_main_v25, val_main_cst_4]
  simp only [h0, h4, c_half, ← EReal.coe_mul, ← coe_sum]
  rfl

include h1 h2 h3

theorem dup_at (t : Fin 8192) (f : Fin 2816) :
    val_main_v29 (F := Ideal) x0 x1 x2 x3 x4 (ix3 0 t f) = (dupR D X G WI WO t f : EReal) := by
  pointwise [val_main_v29]
  simp only [silu_at x1 x2 x3 X G WI h1 h2 h3, dhid_at x0 x4 D WO h0 h4, ← EReal.coe_mul]
  rfl

theorem dgate_at (t : Fin 8192) (f : Fin 2816) :
    val_main_v31 (F := Ideal) x0 x1 x2 x3 x4 (ix3 0 t f) = (dgateR D X G WI WO t f : EReal) := by
  pointwise [val_main_v31, val_main_call1_v2, val_main_call1_v1, val_main_call1_v0, val_main_v30]
  simp only [sg_at x1 x2 x3 X G WI h1 h2 h3, sg1_at x1 x2 x3 X G WI h1 h2 h3, gate_at x1 x2 x3 X G WI h1 h2 h3, up_at x1 x2 x3 X G WI h1 h2 h3,
    dhid_at x0 x4 D WO h0 h4, ← EReal.coe_mul, ← EReal.coe_add, dgate_eq]

theorem both_lo (t : Fin 8192) (f : Fin 2816) :
    val_main_v32 (F := Ideal) x0 x1 x2 x3 x4 (ix3 0 t (lo f)) = (dgateR D X G WI WO t f : EReal) := by
  rw [← dgate_at x0 x1 x2 x3 x4 D X G WI WO h0 h1 h2 h3 h4]
  pointwise [val_main_v32]
  rw [dif_pos (show (lo f).val < 2816 from f.isLt)]
  rfl

theorem both_hi (t : Fin 8192) (f : Fin 2816) :
    val_main_v32 (F := Ideal) x0 x1 x2 x3 x4 (ix3 0 t (hi f)) = (dupR D X G WI WO t f : EReal) := by
  rw [← dup_at x0 x1 x2 x3 x4 D X G WI WO h0 h1 h2 h3 h4]
  pointwise [val_main_v32]
  rw [dif_neg (show ¬(hi f).val < 2816 by simp only [hi]; omega)]
  exact congrArg (fun g => val_main_v29 (F := Ideal) x0 x1 x2 x3 x4 (ix3 0 t g)) (Fin.ext (by simp only [hi]; omega))

theorem dh_at (t : Fin 8192) (e : Fin 1024) :
    val_main_v33 (F := Ideal) x0 x1 x2 x3 x4 (ix3 0 t e) = (dhR D X G WI WO t e : EReal) := by
  pointwise [val_main_v33]
  rw [sum_units]
  simp only [both_lo x0 x1 x2 x3 x4 D X G WI WO h0 h1 h2 h3 h4, both_hi x0 x1 x2 x3 x4 D X G WI WO h0 h1 h2 h3 h4, h3,
    ← EReal.coe_mul, ← coe_sum, ← EReal.coe_add]
  rfl

theorem z_at (t : Fin 8192) (e : Fin 1024) :
    val_main_v38 (F := Ideal) x0 x1 x2 x3 x4 (ix3 0 t e) = ((dhR D X G WI WO t e * G e : ℝ) : EReal) := by
  pointwise [val_main_v38, val_main_v37, val_main_v13]
  simp only [dh_at x0 x1 x2 x3 x4 D X G WI WO h0 h1 h2 h3 h4, h2, ← EReal.coe_mul]

theorem mean_at (t : Fin 8192) (e : Fin 1024) :
    val_main_v51 (F := Ideal) x0 x1 x2 x3 x4 (ix3 0 t e) = (slope (X t) (fun e => dhR D X G WI WO t e * G e) : EReal) := by
  pointwise [val_main_v51, val_main_v50, val_main_v49, val_main_v48, val_main_v47, val_main_v46, val_main_v42, val_main_v41, val_main_v40,
    val_main_cst_7, val_main_cst_8, val_main_cst_9, sum_ends_at]
  simp only [z_at x0 x1 x2 x3 x4 D X G WI WO h0 h1 h2 h3 h4, slope_at x1 X h1, h1, c_1024, ← EReal.coe_mul, ← coe_sum, div_1024]
  rfl

/-- The gradient of the row. -/
theorem dx_at (t : Fin 8192) (e : Fin 1024) :
    val_main_v87 (F := Ideal) x0 x1 x2 x3 x4 (ix2 t e) = (dxR D X G WI WO t e : EReal) := by
  pointwise [val_main_v87, val_main_v55, val_main_v54, val_main_v53, val_main_v52, val_main_v45, val_main_v44, val_main_v43]
  simp only [z_at x0 x1 x2 x3 x4 D X G WI WO h0 h1 h2 h3 h4, mean_at x0 x1 x2 x3 x4 D X G WI WO h0 h1 h2 h3 h4, rr_at x1 X h1, h0, h1,
    ← EReal.coe_mul, ← EReal.coe_add]
  rw [dxR, ← dx_eq, add_assoc, add_assoc, add_assoc]

/-- The gradient of the norm's scale. -/
theorem dg_at (e : Fin 1024) : val_main_v98 (F := Ideal) x0 x1 x2 x3 x4 (ix2 0 e) = (dgR D X G WI WO e : EReal) := by
  pointwise [val_main_v98, val_main_v39, val_main_v36, val_main_v35, val_main_v34, val_main_cst_5, val_main_cst_6, sum_front_at]
  simp only [xh_at x1 X h1, dh_at x0 x1 x2 x3 x4 D X G WI WO h0 h1 h2 h3 h4, ← EReal.coe_mul, ← coe_sum]
  rfl

/-! ### The quantities that the reference computes again -/

omit h0 h3 h4

/-- The scaled normalised row. -/
theorem h_out (t : Fin 8192) (e : Fin 1024) : val_main_v89 (F := Ideal) x1 x2 (ix2 t e) = (hR X G t e : EReal) := by
  rw [← h_at x1 x2 X G h1 h2]
  pointwise [val_main_v89, val_main_v88]
  rfl

omit h1 h2
include h0

/-- Half of the incoming gradient. -/
theorem dyh_out (t : Fin 8192) (e : Fin 1024) : val_main_v91 (F := Ideal) x0 (ix2 t e) = (dyhR D t e : EReal) := by
  pointwise [val_main_v91, val_main_v90, val_main_v86, val_main_v85, val_main_cst_15]
  simp only [h0, c_half, ← EReal.coe_mul]
  rfl

include h4

theorem dhid_again (t : Fin 8192) (f : Fin 2816) : val_main_v81 (F := Ideal) x0 x4 (ix3 0 t f) = (dhidR D WO t f : EReal) := by
  pointwise [val_main_v81, val_main_v80, val_main_v79, val_main_cst_14]
  simp only [h0, h4, c_half, ← EReal.coe_mul, ← coe_sum]
  rfl

include h1 h2 h3

/-- The gradient of the gate. -/
theorem dgate_out (t : Fin 8192) (f : Fin 2816) :
    val_main_v93 (F := Ideal) x0 x1 x2 x3 x4 (ix2 t f) = (dgateR D X G WI WO t f : EReal) := by
  have e1 : val_main_v74_2 (F := Ideal) x1 x2 x3 (ix3 0 t f) = val_main_v19_2 (F := Ideal) x1 x2 x3 (ix3 0 t f) := rfl
  have e2 : val_main_v74_1 (F := Ideal) x1 x2 x3 (ix3 0 t f) = val_main_v19_1 (F := Ideal) x1 x2 x3 (ix3 0 t f) := rfl
  have e3 : val_main_v70 (F := Ideal) x1 x2 x3 (ix3 0 t f) = val_main_v17 (F := Ideal) x1 x2 x3 (ix3 0 t f) := rfl
  have e4 : val_main_v71 (F := Ideal) x1 x2 x3 (ix3 0 t f) = val_main_v18 (F := Ideal) x1 x2 x3 (ix3 0 t f) := rfl
  pointwise [val_main_v93, val_main_v92, val_main_v84, val_main_call4_v2, val_main_call4_v1, val_main_call4_v0, val_main_v83]
  simp only [e1, e2, e3, e4, sg_at x1 x2 x3 X G WI h1 h2 h3, sg1_at x1 x2 x3 X G WI h1 h2 h3, gate_at x1 x2 x3 X G WI h1 h2 h3,
    up_at x1 x2 x3 X G WI h1 h2 h3, dhid_again x0 x4 D WO h0 h4, ← EReal.coe_mul, ← EReal.coe_add, dgate_eq]

/-- The gradient of the value that the gate multiplies. -/
theorem dup_out (t : Fin 8192) (f : Fin 2816) :
    val_main_v95 (F := Ideal) x0 x1 x2 x3 x4 (ix2 t f) = (dupR D X G WI WO t f : EReal) := by
  have e : val_main_v74_0 (F := Ideal) x1 x2 x3 (ix3 0 t f) = val_main_v19_0 (F := Ideal) x1 x2 x3 (ix3 0 t f) := rfl
  pointwise [val_main_v95, val_main_v94, val_main_v82]
  simp only [e, silu_at x1 x2 x3 X G WI h1 h2 h3, dhid_again x0 x4 D WO h0 h4, ← EReal.coe_mul]
  rfl

omit h0 h4

/-- The hidden units. -/
theorem hid_out (t : Fin 8192) (f : Fin 2816) : val_main_v97 (F := Ideal) x1 x2 x3 (ix2 t f) = (hidR X G WI t f : EReal) := by
  have e : val_main_v73 (F := Ideal) x1 x2 x3 (ix3 0 t f) = val_main_v20 (F := Ideal) x1 x2 x3 (ix3 0 t f) := rfl
  have e2 : val_main_v97 (F := Ideal) x1 x2 x3 (ix2 t f) = val_main_v73 (F := Ideal) x1 x2 x3 (ix3 0 t f) := by
    pointwise [val_main_v97, val_main_v96]
  rw [e2, e]
  pointwise [val_main_v20]
  simp only [silu_at x1 x2 x3 X G WI h1 h2 h3, up_at x1 x2 x3 X G WI h1 h2 h3, ← EReal.coe_mul]
  rfl

end Cert.Reference2Ideal.Ffn
-- ==== Proof.FfnFinal.lean ====
/-
  The arrays that the half-step's backward kernel leaves are those of the reference.
-/
module

public import proofs.«01_k».proof.Proof.FfnPoint
public import proofs.«01_k».proof.Proof.FfnRef

@[expose] public section

set_option maxRecDepth 16384

noncomputable section

namespace Cert.Kernel2Ideal.Ffn

open Cert.Kernel2Ideal Cert.Kernel2Ideal.Gen Idealize.ShloMosaic Idealize.ShloMosaic.TcCoe Idealize.SL.Sem
open Idealize.ShloMosaic.Pipeline (Dat)
open Cert.Proof.FfnMath

variable (m : (ℓ : Loc nD τ sig) → Buf (Elt Ideal) ℓ) (c : Dev nD)
variable (D X : Fin 8192 → Fin 1024 → ℝ) (G : Fin 1024 → ℝ) (WI : Fin 1024 → Fin 5632 → ℝ) (WO : Fin 2816 → Fin 1024 → ℝ)
variable (A : Args m c D X G WI WO)

include A

/-! ### The result arrays -/

set_option maxHeartbeats 800000 in
theorem final7 : (dats m 0 c).arrAt 7 (cfgs 0).N
    = Cert.Reference2Ideal.Read.val_main_v87 (F := Ideal) (a0 m c) (a1 m c) (a2 m c) (a3 m c) (a4 m c) := by
  refine (dats m 0 c).arrAt_eq_of_covers 7 _ (by decide +kernel) fun t hf y => ?_
  blk_simp
  idx_vars y
  rw [after0_7]
  have e : ((View.whole main_v25_0).slice (win0_7.rect t)).emb (ix2 y0 y1) = ix2 (row t.val (lt32 t) y0) y1 := by
    blk_ext [idx t, row]
  rw [e, Cert.Reference2Ideal.Ffn.dx_at _ _ _ _ _ D X G WI WO A.h0 A.h1 A.h2 A.h3 A.h4]
  exact dx_point m c D X G WI WO A t y0 y1

set_option maxHeartbeats 800000 in
theorem final8 : (dats m 0 c).arrAt 8 (cfgs 0).N
    = Cert.Reference2Ideal.Read.val_main_v89 (F := Ideal) (a1 m c) (a2 m c) := by
  refine (dats m 0 c).arrAt_eq_of_covers 8 _ (by decide +kernel) fun t hf y => ?_
  blk_simp
  idx_vars y
  rw [after0_8]
  have e : ((View.whole main_v25_1).slice (win0_8.rect t)).emb (ix2 y0 y1) = ix2 (row t.val (lt32 t) y0) y1 := by
    blk_ext [idx t, row]
  rw [e, Cert.Reference2Ideal.Ffn.h_out _ _ X G A.h1 A.h2]
  exact h_point m c D X G WI WO A t y0 y1

set_option maxHeartbeats 800000 in
theorem final9 : (dats m 0 c).arrAt 9 (cfgs 0).N
    = Cert.Reference2Ideal.Read.val_main_v91 (F := Ideal) (a0 m c) := by
  refine (dats m 0 c).arrAt_eq_of_covers 9 _ (by decide +kernel) fun t hf y => ?_
  blk_simp
  idx_vars y
  rw [after0_9]
  have e : ((View.whole main_v25_2).slice (win0_9.rect t)).emb (ix2 y0 y1) = ix2 (row t.val (lt32 t) y0) y1 := by
    blk_ext [idx t, row]
  rw [e, Cert.Reference2Ideal.Ffn.dyh_out _ D A.h0]
  exact dyh_point m c D X G WI WO A t y0 y1

set_option maxHeartbeats 800000 in
theorem final10 : (dats m 0 c).arrAt 10 (cfgs 0).N
    = Cert.Reference2Ideal.Read.val_main_v93 (F := Ideal) (a0 m c) (a1 m c) (a2 m c) (a3 m c) (a4 m c) := by
  refine (dats m 0 c).arrAt_eq_of_covers 10 _ (by decide +kernel) fun t hf y => ?_
  blk_simp
  idx_vars y
  rw [after0_10]
  have e : ((View.whole main_v25_3).slice (win0_10.rect t)).emb (ix2 y0 y1) = ix2 (row t.val (lt32 t) y0) y1 := by
    blk_ext [idx t, row]
  rw [e, Cert.Reference2Ideal.Ffn.dgate_out _ _ _ _ _ D X G WI WO A.h0 A.h1 A.h2 A.h3 A.h4]
  exact dgate_point m c D X G WI WO A t y0 y1

set_option maxHeartbeats 800000 in
theorem final11 : (dats m 0 c).arrAt 11 (cfgs 0).N
    = Cert.Reference2Ideal.Read.val_main_v95 (F := Ideal) (a0 m c) (a1 m c) (a2 m c) (a3 m c) (a4 m c) := by
  refine (dats m 0 c).arrAt_eq_of_covers 11 _ (by decide +kernel) fun t hf y => ?_
  blk_simp
  idx_vars y
  rw [after0_11]
  have e : ((View.whole main_v25_4).slice (win0_11.rect t)).emb (ix2 y0 y1) = ix2 (row t.val (lt32 t) y0) y1 := by
    blk_ext [idx t, row]
  rw [e, Cert.Reference2Ideal.Ffn.dup_out _ _ _ _ _ D X G WI WO A.h0 A.h1 A.h2 A.h3 A.h4]
  exact dup_point m c D X G WI WO A t y0 y1

set_option maxHeartbeats 800000 in
theorem final12 : (dats m 0 c).arrAt 12 (cfgs 0).N
    = Cert.Reference2Ideal.Read.val_main_v97 (F := Ideal) (a1 m c) (a2 m c) (a3 m c) := by
  refine (dats m 0 c).arrAt_eq_of_covers 12 _ (by decide +kernel) fun t hf y => ?_
  blk_simp
  idx_vars y
  rw [after0_12]
  have e : ((View.whole main_v25_5).slice (win0_12.rect t)).emb (ix2 y0 y1) = ix2 (row t.val (lt32 t) y0) y1 := by
    blk_ext [idx t, row]
  rw [e, Cert.Reference2Ideal.Ffn.hid_out _ _ _ X G WI A.h1 A.h2 A.h3]
  exact hid_point m c D X G WI WO A t y0 y1

set_option maxHeartbeats 800000 in
theorem final13 : (dats m 0 c).arrAt 13 (cfgs 0).N
    = Cert.Reference2Ideal.Read.val_main_v98 (F := Ideal) (a0 m c) (a1 m c) (a2 m c) (a3 m c) (a4 m c) := by
  refine (dats m 0 c).arrAt_eq_of_covers 13 _ (by decide +kernel) fun t hf y => ?_
  blk_simp
  idx_vars y
  obtain rfl : y0 = 0 := Subsingleton.elim _ _
  rw [after0_13]
  have e : ((View.whole main_v25_6).slice (win0_13.rect t)).emb (ix2 0 y1) = ix2 0 y1 := by
    blk_ext [idx t]
  have hl : t.val % 32 = 31 := (flush0_13 t).mp hf
  have ht := lt32 t
  have hb : t.val + 1 = 32 := by omega
  have g : (outsAt0 m c t.val t.isLt).2.2.2.2.2.2 (ix2 0 y1) = (dgTo D X G WI WO (t.val + 1) y1 : EReal) :=
    dg_after m c D X G WI WO A t.val t.isLt y1
  rw [hb, dgTo_all] at g
  rw [e, Cert.Reference2Ideal.Ffn.dg_at _ _ _ _ _ D X G WI WO A.h0 A.h1 A.h2 A.h3 A.h4]
  exact g

end Cert.Kernel2Ideal.Ffn
-- ==== Proof.FfnRun.lean ====
/-
  What the reference of the half-step's gradient leaves, as functions of its arguments.
-/
module

public import proofs.«01_k».proof.Proof.Gen.Reference2Ideal.Run
public import proofs.«01_k».proof.Proof.Gen.Reference2Ideal.Read
public import Idealize.ShloMosaic.Lib.Claim

@[expose] public section

set_option maxRecDepth 16384

noncomputable section

namespace Cert.Proof

open Idealize.ShloMosaic Idealize.ShloMosaic.TcCoe Idealize.SL.Sem

section reference

open Cert.Reference2Ideal Cert.Reference2Ideal.Read

/-- What the reference leaves, as functions of its arguments. -/
theorem ffn_ref_run (m : (ℓ : Loc nD τ sig) → Buf (Elt Ideal) ℓ) (g : Dev nD → PrngReg) :
    θ_run (Cert.Reference2Ideal.defs (F := Ideal)) (onTc (τ := τ) (main (F := Ideal))) ⟨m, fun _ => 0, g⟩ (fun r => ∀ c : Dev nD,
      r.2.mem ((c.tc : Thread nD τ).loc main_v87) = val_main_v87 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v89) = val_main_v89 (F := Ideal) (m ((c.tc : Thread nD τ).loc main_arg1)) (m ((c.tc : Thread nD τ).loc main_arg2))
      ∧ r.2.mem ((c.tc : Thread nD τ).loc main_v91) = val_main_v91 (F := Ideal) (m ((c.tc : Thread nD τ).loc main_arg0))
      ∧ r.2.mem ((c.tc : Thread nD τ).loc main_v93) = val_main_v93 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v95) = val_main_v95 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v97) = val_main_v97 (F := Ideal) (m ((c.tc : Thread nD τ).loc main_arg1)) (m ((c.tc : Thread nD τ).loc main_arg2)) (m ((c.tc : Thread nD τ).loc main_arg3))
      ∧ r.2.mem ((c.tc : Thread nD τ).loc main_v98) = val_main_v98 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run _ _ _).mono (fun r h c => ⟨(h c).1.trans (val_main_v87_eq m c),
    (h c).2.1.trans (val_main_v89_eq _ _),
    (h c).2.2.1.trans (val_main_v91_eq _),
    (h c).2.2.2.1.trans (val_main_v93_eq m c),
    (h c).2.2.2.2.1.trans (val_main_v95_eq _ _ _ _ _),
    (h c).2.2.2.2.2.1.trans (val_main_v97_eq _ _ _),
    (h c).2.2.2.2.2.2.1.trans (val_main_v98_eq m c),
    (h c).2.2.2.2.2.2.2⟩) (Cert.Reference2Ideal.Value.run m g)

end reference

end Cert.Proof

end
-- ==== Proof.FfnAlg.lean ====
/-
  The gradient of the SwiGLU half-step: kernel and reference leave the same seven arrays.
-/
module

public import proofs.«01_k».proof.Defs
public import proofs.«01_k».proof.Proof.Gen.Pre_finite2
public import proofs.«01_k».proof.Proof.FfnFinal
public import proofs.«01_k».proof.Proof.FfnRun
public import proofs.«01_k».proof.Proof.Reals

@[expose] public section

set_option maxRecDepth 16384

noncomputable section

namespace Cert.Proof

open Idealize.ShloMosaic Idealize.ShloMosaic.TcCoe Idealize.SL.Sem

/-- At arguments that are real numbers, the real numbers that they are. -/
theorem ffn_args (m : (ℓ : Loc Cert.Kernel2Ideal.nD Cert.Kernel2Ideal.τ Cert.Kernel2Ideal.sig) → Buf (Elt Ideal) ℓ)
    (hpre : Cert.Pre_Kernel2Ideal_finite2 (hPre_finite2 := Cert.Pre_finite2.Gen.facts) m) (c : Dev Cert.Kernel2Ideal.nD) :
    Cert.Kernel2Ideal.Ffn.Args m c (fun t e => (Cert.Kernel2Ideal.Ffn.a0 m c (ix3 0 t e)).toReal)
      (fun t e => (Cert.Kernel2Ideal.Ffn.a1 m c (ix3 0 t e)).toReal) (fun e => (Cert.Kernel2Ideal.Ffn.a2 m c (ix1 e)).toReal)
      (fun e j => (Cert.Kernel2Ideal.Ffn.a3 m c (ix2 e j)).toReal) (fun f e => (Cert.Kernel2Ideal.Ffn.a4 m c (ix2 f e)).toReal) := by
  obtain ⟨p0, p1, p2, p3, p4⟩ := hpre c
  exact ⟨fun _ _ => Reals.real_of _ _ _ p0 _, fun _ _ => Reals.real_of _ _ _ p1 _, fun _ => Reals.real_of _ _ _ p2 _,
    fun _ _ => Reals.real_of _ _ _ p3 _, fun _ _ => Reals.real_of _ _ _ p4 _⟩

section kernel

open Cert.Kernel2Ideal Cert.Kernel2Ideal.Gen

set_option maxHeartbeats 3200000 in
/-- What the kernel leaves at arguments that are real numbers: the reference's functions of its arguments. -/
theorem ffn_kernel_run (m : (ℓ : Loc nD τ sig) → Buf (Elt Ideal) ℓ) (g : Dev nD → PrngReg)
    (hpre : Cert.Pre_Kernel2Ideal_finite2 (hPre_finite2 := Cert.Pre_finite2.Gen.facts) m) :
    θ_run (Cert.Kernel2Ideal.defs (F := Ideal)) (onTc (τ := τ) (main (F := Ideal))) ⟨m, fun _ => 0, g⟩ (fun r => ∀ c : Dev nD,
      r.2.mem ((c.tc : Thread nD τ).loc main_v25_0) = Cert.Reference2Ideal.Read.val_main_v87 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v25_1) = Cert.Reference2Ideal.Read.val_main_v89 (F := Ideal) (m ((c.tc : Thread nD τ).loc main_arg1)) (m ((c.tc : Thread nD τ).loc main_arg2))
      ∧ r.2.mem ((c.tc : Thread nD τ).loc main_v25_2) = Cert.Reference2Ideal.Read.val_main_v91 (F := Ideal) (m ((c.tc : Thread nD τ).loc main_arg0))
      ∧ r.2.mem ((c.tc : Thread nD τ).loc main_v25_3) = Cert.Reference2Ideal.Read.val_main_v93 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v25_4) = Cert.Reference2Ideal.Read.val_main_v95 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v25_5) = Cert.Reference2Ideal.Read.val_main_v97 (F := Ideal) (m ((c.tc : Thread nD τ).loc main_arg1)) (m ((c.tc : Thread nD τ).loc main_arg2)) (m ((c.tc : Thread nD τ).loc main_arg3))
      ∧ r.2.mem ((c.tc : Thread nD τ).loc main_v25_6) = Cert.Reference2Ideal.Read.val_main_v98 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run _ _ _).mono (fun r h c => ⟨((h.1 c).1 7).trans (Cert.Kernel2Ideal.Ffn.final7 m c _ _ _ _ _ (ffn_args m hpre c)),
    ((h.1 c).1 8).trans (Cert.Kernel2Ideal.Ffn.final8 m c _ _ _ _ _ (ffn_args m hpre c)),
    ((h.1 c).1 9).trans (Cert.Kernel2Ideal.Ffn.final9 m c _ _ _ _ _ (ffn_args m hpre c)),
    ((h.1 c).1 10).trans (Cert.Kernel2Ideal.Ffn.final10 m c _ _ _ _ _ (ffn_args m hpre c)),
    ((h.1 c).1 11).trans (Cert.Kernel2Ideal.Ffn.final11 m c _ _ _ _ _ (ffn_args m hpre c)),
    ((h.1 c).1 12).trans (Cert.Kernel2Ideal.Ffn.final12 m c _ _ _ _ _ (ffn_args m hpre c)),
    ((h.1 c).1 13).trans (Cert.Kernel2Ideal.Ffn.final13 m c _ _ _ _ _ (ffn_args m hpre c)), h.2 c⟩)
    (θ_run_and (run_main m g) (unchanged m g))

end kernel

/-- The gradient of the half-step: kernel and reference leave the same seven arrays. -/
theorem alg2 : Cert.algebraic_Kernel2Ideal_Reference2Ideal_pre_finite2 (hKernel2Ideal := Cert.Kernel2Ideal.Gen.facts)
    (hReference2Ideal := Cert.Reference2Ideal.Gen.facts) (hPre_finite2 := Cert.Pre_finite2.Gen.facts) := by
  intro m g m' g' hpre hagree
  refine ⟨_, _, _, _, _, _, _, ffn_kernel_run m g hpre, (θ_run _ _ _).mono (fun r h c => ?_) (ffn_ref_run m' g')⟩
  obtain ⟨e0, e1, e2, e3, e4⟩ := hagree c
  obtain ⟨r0, r1, r2, r3, r4, r5, r6, ru⟩ := h c
  rw [e0, e1, e2, e3, e4] at r0 r3 r4 r6
  rw [e1, e2] at r1
  rw [e0] at r2
  rw [e1, e2, e3] at r5
  exact ⟨r0, r1, r2, r3, r4, r5, r6, ru⟩

end Cert.Proof

end
-- ==== Proof.Mat3.lean ====
/- The value of `Kernel3`: the gradient of the joined SwiGLU input weight.  Each run of four grid points adds the
   products of four 2048-row blocks into one 1408 by 1024 block of the result; runs 0 and 1 read the gate's gradient,
   runs 2 and 3 the other half's.  The reference joins the two halves and contracts all 8192 rows at once. -/
module

public import proofs.«01_k».proof.Proof.Gen.Kernel3Ideal.Value
public import proofs.«01_k».proof.Proof.Gen.Reference3Ideal.Run
public import Idealize.ShloMosaic.Lib.Pipeline.ValueKit
public import Idealize.ShloMosaic.Lib.Pointwise
public import Idealize.ShloMosaic.Lib.Claim

@[expose] public section

set_option maxRecDepth 16384

noncomputable section

namespace Cert.Kernel3Ideal.Mat

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ)

/-- The reference's term: the joined gradient against the normalised input, transposed twice. -/
abbrev REF (H : FVec Ideal Cert.Reference3Ideal.S1x8192x1024 .f32) (A : FVec Ideal Cert.Reference3Ideal.S1x8192x2816 .f32)
    (B : FVec Ideal Cert.Reference3Ideal.S1x8192x2816 .f32) : FVec Ideal Cert.Reference3Ideal.S5632x1024 .f32 :=
  transpose Cert.Reference3Ideal.S5632x1024 [1, 0]
    (transpose Cert.Reference3Ideal.S1024x5632 [1, 0]
      (Host.dotGeneral Cert.Reference3Ideal.dot_S1x8192x5632_S1x8192x1024_S5632x1024_01_01_2_2_n_n none
        (concatenate Cert.Reference3Ideal.S1x8192x5632 2
          [⟨Cert.Reference3Ideal.S1x8192x2816, A⟩, ⟨Cert.Reference3Ideal.S1x8192x2816, B⟩]
          Cert.Reference3Ideal.Gen.concatenates_S1x8192x2816_S1x8192x2816_S1x8192x5632_d2) H)
      Cert.Reference3Ideal.Gen.transposes_S5632x1024_S1024x5632_1_0)
    Cert.Reference3Ideal.Gen.transposes_S1024x5632_S5632x1024_1_0

theorem idx : ∀ t : Fin cfg0.N, (t.val < 8 → win0_0.index t = ![t.val % 4, t.val / 4])
    ∧ (8 ≤ t.val → win0_1.index t = ![t.val % 4, t.val / 4 - 2]) ∧ win0_2.index t = ![t.val % 4, 0]
    ∧ win0_3.index t = ![t.val / 4, 0] :=
  (by decide +kernel : ∀ t : Fin grid0.N, _)

theorem hzero (j) : k0_pay1 (F := Ideal) j = 0 := by pointwise [k0_pay1]

/-- What one grid point adds: the product of the two blocks over their 2048 shared rows. -/
def part (x : Vec Ideal S2048x1408 .bf16) (y : Vec Ideal S2048x1024 .bf16) (j : S1408x1024.Idx) : EReal :=
  ∑ k : Fin 2048, x (ix2 k (j 0)) * y (ix2 k (j 1))

theorem hpay2 (acc : Vec Ideal S1408x1024 .f32) (x : Vec Ideal S2048x1408 .bf16) (y : Vec Ideal S2048x1024 .bf16) (j) :
    k0_pay2 acc x y j = acc j + part x y j := by
  idx_vars j
  pointwise [k0_pay2, part]

theorem hpay3 (acc : Vec Ideal S1408x1024 .f32) (x : Vec Ideal S2048x1408 .bf16) (y : Vec Ideal S2048x1024 .bf16) (j) :
    k0_pay3 acc x y j = acc j + part x y j := by
  idx_vars j
  pointwise [k0_pay3, part]

theorem href (H A B) (a : Fin 5632) (b : Fin 1024) :
    REF H A B (ix2 a b) = ∑ l : Fin 8192, (if h : a.val < 2816 then A (ix3 0 l ⟨a.val, h⟩)
      else B (ix3 0 l ⟨a.val - 2816, by have := a.isLt; omega⟩)) * H (ix3 0 l b) := by
  pointwise [REF]
  simp only [Fin.sum_univ_one]

/-- What grid point `t` adds to its run's block: the gate's half while `t < 8`, the other half after. -/
def step (c : Dev nD) (t : Fin cfg0.N) : S1408x1024.Idx → EReal :=
  if t.val < 8 then part (iblk m c 0 t) (iblk m c 2 t) else part (iblk m c 1 t) (iblk m c 2 t)

theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  idx_vars y
  rw [after0_3, Pipeline.eq_sum_fin_of_reset_step_apply_of_flush (fun n h => outsAt0 m c n h) 4 (fun _ => 0) (step m c)
    (fun t h j => by
      by_cases h8 : t.val < 8
      · rw [outsAt0_A m c t h h8 (by omega)]; frame_out; rw [hpay2, hzero, step, if_pos h8]
      · rw [outsAt0_C m c t h h8 (by omega)]; frame_out; rw [hpay3, hzero, step, if_neg h8])
    (fun t h j => by
      by_cases h8 : t.val < 8
      · rw [outsAt0_B m c t h h8 (by omega)]; frame_out; rw [hpay2, step, if_pos h8]
      · rw [outsAt0_D m c t h h8 (by omega)]; frame_out; rw [hpay3, step, if_neg h8])
    t ((flush0_3 t).mp hf) _, zero_add]
  have ht := lt_of_lt_of_eq t.isLt (show cfg0.N = 16 from N_0)
  have hy := y0.isLt
  have e : ((View.whole main_v6).slice (win0_3.rect t)).emb (ix2 y0 y1)
      = ix2 ⟨t.val / 4 * 1408 + y0.val, by omega⟩ y1 := by
    blk_ext [idx t]
  rw [e, href]
  have hm := (flush0_3 t).mp hf
  rcases lt_or_ge t.val 8 with h8 | h8
  · have key : ∀ s : Fin 4, step m c ⟨4 * (t.val / 4) + s.val, Pipeline.run_point_lt_of_flush t hm s⟩ (ix2 y0 y1)
        = part (iblk m c 0 ⟨_, Pipeline.run_point_lt_of_flush t hm s⟩) (iblk m c 2 ⟨_, Pipeline.run_point_lt_of_flush t hm s⟩)
          (ix2 y0 y1) := fun s => by
      rw [step, if_pos (by have := s.isLt; show 4 * (t.val / 4) + s.val < 8; omega)]
    refine (Fin.sum_fin_congr fun s => key s).trans ?_
    simp only [part]
    refine Fin.sum_mul_add_congr fun s k hl => ?_
    have hs := s.isLt
    rw [dif_pos (show t.val / 4 * 1408 + y0.val < 2816 by omega)]
    blk_point [iblk, V, (idx ⟨_, Pipeline.run_point_lt_of_flush t hm s⟩).1 (by show 4 * (t.val / 4) + s.val < 8; omega),
      (idx ⟨_, Pipeline.run_point_lt_of_flush t hm s⟩).2.2.1]
  · have key : ∀ s : Fin 4, step m c ⟨4 * (t.val / 4) + s.val, Pipeline.run_point_lt_of_flush t hm s⟩ (ix2 y0 y1)
        = part (iblk m c 1 ⟨_, Pipeline.run_point_lt_of_flush t hm s⟩) (iblk m c 2 ⟨_, Pipeline.run_point_lt_of_flush t hm s⟩)
          (ix2 y0 y1) := fun s => by
      rw [step, if_neg (by show ¬ 4 * (t.val / 4) + s.val < 8; omega)]
    refine (Fin.sum_fin_congr fun s => key s).trans ?_
    simp only [part]
    refine Fin.sum_mul_add_congr fun s k hl => ?_
    have hs := s.isLt
    rw [dif_neg (show ¬ t.val / 4 * 1408 + y0.val < 2816 by omega)]
    blk_point [iblk, V, (idx ⟨_, Pipeline.run_point_lt_of_flush t hm s⟩).2.1 (by show 8 ≤ 4 * (t.val / 4) + s.val; omega),
      (idx ⟨_, Pipeline.run_point_lt_of_flush t hm s⟩).2.2.1]
    all_goals trace_state

end Cert.Kernel3Ideal.Mat
-- ==== Proof.Mat4.lean ====
/- The value of `Kernel4`: the gradient of the SwiGLU output weight.  Each run of four grid points adds the products of
   four 2048-row blocks into one 1408 by 1024 block of the result; the reference contracts all 8192 rows at once. -/
module

public import proofs.«01_k».proof.Proof.Gen.Kernel4Ideal.Value
public import proofs.«01_k».proof.Proof.Gen.Reference4Ideal.Run
public import Idealize.ShloMosaic.Lib.Pipeline.ValueKit
public import Idealize.ShloMosaic.Lib.Pointwise
public import Idealize.ShloMosaic.Lib.Claim

@[expose] public section

set_option maxRecDepth 16384

noncomputable section

namespace Cert.Kernel4Ideal.Mat

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ)

/-- The reference's term: the product of the transposed activations with the incoming gradient. -/
abbrev REF (H : FVec Ideal Cert.Reference4Ideal.S1x8192x2816 .f32) (D : FVec Ideal Cert.Reference4Ideal.S1x8192x1024 .f32) :
    FVec Ideal Cert.Reference4Ideal.S2816x1024 .f32 :=
  transpose Cert.Reference4Ideal.S2816x1024 [1, 0]
    (Host.dotGeneral Cert.Reference4Ideal.dot_S1x8192x1024_S1x8192x2816_S1024x2816_01_01_2_2_n_n none D H)
    Cert.Reference4Ideal.Gen.transposes_S1024x2816_S2816x1024_1_0

theorem idx : ∀ t : Fin cfg0.N, win0_0.index t = ![t.val % 4, t.val / 4] ∧ win0_1.index t = ![t.val % 4, 0]
    ∧ win0_2.index t = ![t.val / 4, 0] :=
  (by decide +kernel : ∀ t : Fin grid0.N, _)

theorem hzero (j) : k0_pay1 (F := Ideal) j = 0 := by pointwise [k0_pay1]

/-- What one grid point adds: the product of the two blocks over their 2048 shared rows. -/
def part (x : Vec Ideal S2048x1408 .bf16) (y : Vec Ideal S2048x1024 .bf16) (j : S1408x1024.Idx) : EReal :=
  ∑ k : Fin 2048, x (ix2 k (j 0)) * y (ix2 k (j 1))

theorem hpay (acc : Vec Ideal S1408x1024 .f32) (x : Vec Ideal S2048x1408 .bf16) (y : Vec Ideal S2048x1024 .bf16) (j) :
    k0_pay2 acc x y j = acc j + part x y j := by
  idx_vars j
  pointwise [k0_pay2, part]

theorem href (H D) (a : Fin 2816) (b : Fin 1024) :
    REF H D (ix2 a b) = ∑ l : Fin 8192, H (ix3 0 l a) * D (ix3 0 l b) := by
  pointwise [REF]
  simp only [Fin.sum_univ_one, mul_comm]

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  idx_vars y
  rw [after0_2, Pipeline.eq_sum_fin_of_reset_step_apply_of_flush (fun n h => outsAt0 m c n h) 4 (fun _ => 0)
    (fun t => part (iblk m c 0 t) (iblk m c 1 t))
    (fun t h j => by rw [outsAt0_A m c t h]; frame_out; rw [hpay, hzero])
    (fun t h j => by rw [outsAt0_B m c t h]; frame_out; rw [hpay])
    t ((flush0_2 t).mp hf) _, zero_add]
  have e : ((View.whole main_v4).slice (win0_2.rect t)).emb (ix2 y0 y1)
      = ix2 ⟨t.val / 4 * 1408 + y0.val, by have h := lt_of_lt_of_eq t.isLt (show cfg0.N = 8 from N_0); have := y0.isLt; omega⟩ y1 := by
    blk_ext [idx t]
  rw [e, href]
  simp only [part]
  refine Fin.sum_mul_add_congr fun s k hl => ?_
  blk_point [iblk, V, idx ⟨_, Pipeline.run_point_lt_of_flush t ((flush0_2 t).mp hf) s⟩]

end Cert.Kernel4Ideal.Mat
-- ==== Proof.FwdSpec.lean ====
/-
  The SwiGLU half-step `x + 1/2 (silu(gate) up) W_out` as plain formulas on the extended reals. Nothing is asked of the arguments: the
  formulas hold of infinities too.
-/
module

public import Idealize.ShloMosaic.Lib.Pipeline.ValueKit
public import Idealize.ShloMosaic.Lib.Pointwise
public import Idealize.ShloMosaic.Lib.Claim

@[expose] public section

set_option maxRecDepth 16384

noncomputable section

namespace Cert.Proof.FwdMath

open Idealize.ShloMosaic

variable (x : Fin 8192 → Fin 1024 → EReal) (g : Fin 1024 → EReal) (w : Fin 1024 → Fin 5632 → EReal) (wo : Fin 2816 → Fin 1024 → EReal)

/-- `silu(a) b`, the sigmoid as a quotient. -/
def act (a b : EReal) : EReal := a * Ideal.div 1 (1 + Ideal.exp (-a)) * b

/-- The gate's column of a hidden unit in the input weight. -/
def lo (f : Fin 2816) : Fin 5632 := ⟨f.val, by omega⟩

/-- The column of the value that the gate multiplies. -/
def hi (f : Fin 2816) : Fin 5632 := ⟨2816 + f.val, by omega⟩

/-- A row of 1024 numbers, divided by its root mean square and scaled. -/
def normed (r : Fin 1024 → EReal) (s : Fin 1024 → EReal) (e : Fin 1024) : EReal :=
  r e * Ideal.rsqrt (Ideal.div (∑ e, r e * r e) (Ideal.ofBits FTy.f32 0x44800000#32) + Ideal.ofBits FTy.f32 0x358637BD#32) * s e

/-- The normalised row's product with a column of the input weight. -/
def preE (t : Fin 8192) (j : Fin 5632) : EReal := ∑ e, normed (x t) g e * w e j

/-- The half-step. -/
def outE (t : Fin 8192) (e : Fin 1024) : EReal :=
  x t e + Ideal.ofBits FTy.f32 0x3F000000#32 * ∑ f, act (preE x g w t (lo f)) (preE x g w t (hi f)) * wo f e

theorem sum11 (G : Fin 11 → EReal) : ∑ a, G a = G 0 + G 1 + G 2 + G 3 + G 4 + G 5 + G 6 + G 7 + G 8 + G 9 + G 10 := by
  simp only [Fin.sum_univ_castSucc, Fin.sum_univ_zero, zero_add]
  rfl

/-- Hidden unit `k` of the `n`-th group of 256. -/
def unit (n : ℕ) (hn : n + 256 ≤ 2816) (k : Fin 256) : Fin 2816 := ⟨n + k.val, by omega⟩

/-- A sum over the hidden units, in eleven groups of 256. -/
theorem sum_units (F : Fin 2816 → EReal) : ∑ f, F f =
    (∑ k, F (unit 0 (by norm_num) k)) + (∑ k, F (unit 256 (by norm_num) k)) + (∑ k, F (unit 512 (by norm_num) k))
    + (∑ k, F (unit 768 (by norm_num) k)) + (∑ k, F (unit 1024 (by norm_num) k)) + (∑ k, F (unit 1280 (by norm_num) k))
    + (∑ k, F (unit 1536 (by norm_num) k)) + (∑ k, F (unit 1792 (by norm_num) k)) + (∑ k, F (unit 2048 (by norm_num) k))
    + (∑ k, F (unit 2304 (by norm_num) k)) + (∑ k, F (unit 2560 (by norm_num) k)) := by
  have h : ∑ f, F f = ∑ a : Fin 11, ∑ k : Fin 256, F (unit (256 * a.val) (by omega) k) := by
    rw [← Fintype.sum_prod_type', ← (finProdFinEquiv : Fin 11 × Fin 256 ≃ Fin (11 * 256)).sum_comp]
    refine Finset.sum_congr rfl fun p _ => congrArg F (Fin.ext ?_)
    simp only [finProdFinEquiv_apply_val, unit]
    omega
  exact h.trans (sum11 _)

end Cert.Proof.FwdMath
-- ==== Proof.FwdHost.lean ====
/-
  What the host code hands to the half-step's forward kernel, which rows a grid point works on, and what its input blocks are.
-/
module

public import proofs.«01_k».proof.Proof.Gen.Kernel5Ideal.Value
public import proofs.«01_k».proof.Proof.FwdSpec
public import Idealize.ShloMosaic.Lib.Pipeline.ValueKit
public import Idealize.ShloMosaic.Lib.Pointwise
public import Idealize.ShloMosaic.Lib.Claim

@[expose] public section

set_option maxRecDepth 16384

noncomputable section

namespace Cert.Kernel5Ideal.Fwd

open Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The arguments, as arrays. -/
abbrev a0 : FVec Ideal S1x8192x1024 .f32 := m ((c : Thread nD τ).loc main_arg0)
abbrev a1 : FVec Ideal S1024 .f32 := m ((c : Thread nD τ).loc main_arg1)
abbrev a2 : FVec Ideal S1024x5632 .f32 := m ((c : Thread nD τ).loc main_arg2)
abbrev a3 : FVec Ideal S2816x1024 .f32 := m ((c : Thread nD τ).loc main_arg3)

set_option maxHeartbeats 1600000 in
theorem x_host (t : Fin 8192) (e : Fin 1024) : V m c main_v0 (ix2 t e) = a0 m c (ix3 0 t e) := by
  simp only [V, List.flatten_cons, List.flatten_nil, List.append_nil, StableHlo.after_append]
  set_option maxHeartbeats 1600000 in after_results_simp
  pointwise

set_option maxHeartbeats 1600000 in
theorem g_host (e : Fin 1024) : V m c main_v1 (ix2 0 e) = a1 m c (ix1 e) := by
  simp only [V, List.flatten_cons, List.flatten_nil, List.append_nil, StableHlo.after_append]
  set_option maxHeartbeats 1600000 in after_results_simp
  pointwise

set_option maxHeartbeats 1600000 in
theorem w_host (j : Fin 5632) (e : Fin 1024) : V m c main_v3 (ix2 j e) = a2 m c (ix2 e j) := by
  simp only [V, List.flatten_cons, List.flatten_nil, List.append_nil, StableHlo.after_append]
  set_option maxHeartbeats 1600000 in after_results_simp
  pointwise

set_option maxHeartbeats 1600000 in
theorem wo_host (f : Fin 2816) (e : Fin 1024) : V m c main_v4 (ix2 f e) = a3 m c (ix2 f e) := by
  simp only [V, List.flatten_cons, List.flatten_nil, List.append_nil, StableHlo.after_append]
  set_option maxHeartbeats 1600000 in after_results_simp
  pointwise

theorem lt16 (t : Fin cfg0.N) : t.val < 16 := lt_of_lt_of_eq t.isLt (show cfg0.N = 16 from N_0)

/-- Row `i` of the block of a grid point. -/
def row (t : ℕ) (ht : t < 16) (i : Fin 512) : Fin 8192 := ⟨512 * t + i.val, by omega⟩

theorem idx : ∀ t : Fin cfg0.N,
    win0_0.index t = ![t.val, 0] ∧ win0_1.index t = ![0, 0] ∧ win0_2.index t = ![0, 0] ∧ win0_3.index t = ![0, 0]
    ∧ win0_4.index t = ![t.val, 0] ∧ win0_5.index t = ![t.val, 0] ∧ win0_6.index t = ![t.val, 0] :=
  (by decide +kernel : ∀ t : Fin grid0.N, _)

section blocks

variable (t : Fin cfg0.N)

theorem blk0 (i : Fin 512) (e : Fin 1024) :
    (iblk m c 0 t : FVec Ideal S512x1024 .f32) (ix2 i e) = a0 m c (ix3 0 (row t.val (lt16 t) i) e) := by
  rw [← x_host]
  blk_ext [iblk, idx t, row]
theorem blk1 (e : Fin 1024) : (iblk m c 1 t : FVec Ideal S1x1024 .f32) (ix2 0 e) = a1 m c (ix1 e) := by
  rw [← g_host]
  blk_ext [iblk, idx t]
theorem blk2 (j : Fin 5632) (e : Fin 1024) : (iblk m c 2 t : FVec Ideal S5632x1024 .bf16) (ix2 j e) = a2 m c (ix2 e j) := by
  rw [← w_host]
  blk_ext [iblk, idx t]
theorem blk3 (f : Fin 2816) (e : Fin 1024) : (iblk m c 3 t : FVec Ideal S2816x1024 .bf16) (ix2 f e) = a3 m c (ix2 f e) := by
  rw [← wo_host]
  blk_ext [iblk, idx t]

end blocks

end Cert.Kernel5Ideal.Fwd
-- ==== Proof.FwdBody.lean ====
/-
  What one grid point of the half-step's forward kernel computes from its blocks: the norm, the eleven products of 256 hidden units each,
  and their sum.
-/
module

public import proofs.«01_k».proof.Proof.Gen.Kernel5Ideal.Skeleton
public import proofs.«01_k».proof.Proof.FwdSpec
public import Idealize.ShloMosaic.Lib.Pipeline.ValueKit
public import Idealize.ShloMosaic.Lib.Pointwise
public import Idealize.ShloMosaic.Lib.Claim

@[expose] public section

set_option maxRecDepth 16384

noncomputable section

namespace Cert.Kernel5Ideal.Fwd

open Cert.Kernel5Ideal Cert.Kernel5Ideal.Gen Idealize.ShloMosaic Idealize.ShloMosaic.TcCoe Idealize.SL.Sem
open Cert.Proof.FwdMath (act normed lo hi unit)

/-- The product of a row of `h` with a row of `w`. -/
def pre (h : FVec Ideal S512x1024 .bf16) (w : FVec Ideal S256x1024 .bf16) (i : Fin 512) (k : Fin 256) : EReal :=
  ∑ e : Fin 1024, h (ix2 i e) * w (ix2 k e)

/-- What 256 hidden units add to an entry of the result. -/
def part (h : FVec Ideal S512x1024 .bf16) (wg wu wo : FVec Ideal S256x1024 .bf16) (i : Fin 512) (e : Fin 1024) : EReal :=
  ∑ k : Fin 256, act (pre h wg i k) (pre h wu i k) * wo (ix2 k e)

section units

variable (h : FVec Ideal S512x1024 .bf16) (w : FVec Ideal S256x1024 .bf16) (i : Fin 512) (k : Fin 256)

theorem p9 : k0_pay9 (F := Ideal) h w (ix2 i k) = pre h w i k := by pointwise [k0_pay9, pre]
theorem p10 : k0_pay10 (F := Ideal) h w (ix2 i k) = pre h w i k := by pointwise [k0_pay10, pre]
theorem p14 : k0_pay14 (F := Ideal) h w (ix2 i k) = pre h w i k := by pointwise [k0_pay14, pre]
theorem p15 : k0_pay15 (F := Ideal) h w (ix2 i k) = pre h w i k := by pointwise [k0_pay15, pre]
theorem p19 : k0_pay19 (F := Ideal) h w (ix2 i k) = pre h w i k := by pointwise [k0_pay19, pre]
theorem p20 : k0_pay20 (F := Ideal) h w (ix2 i k) = pre h w i k := by pointwise [k0_pay20, pre]
theorem p29 : k0_pay29 (F := Ideal) h w (ix2 i k) = pre h w i k := by pointwise [k0_pay29, pre]
theorem p30 : k0_pay30 (F := Ideal) h w (ix2 i k) = pre h w i k := by pointwise [k0_pay30, pre]
theorem p34 : k0_pay34 (F := Ideal) h w (ix2 i k) = pre h w i k := by pointwise [k0_pay34, pre]
theorem p35 : k0_pay35 (F := Ideal) h w (ix2 i k) = pre h w i k := by pointwise [k0_pay35, pre]
theorem p39 : k0_pay39 (F := Ideal) h w (ix2 i k) = pre h w i k := by pointwise [k0_pay39, pre]
theorem p40 : k0_pay40 (F := Ideal) h w (ix2 i k) = pre h w i k := by pointwise [k0_pay40, pre]
theorem p44 : k0_pay44 (F := Ideal) h w (ix2 i k) = pre h w i k := by pointwise [k0_pay44, pre]
theorem p45 : k0_pay45 (F := Ideal) h w (ix2 i k) = pre h w i k := by pointwise [k0_pay45, pre]
theorem p49 : k0_pay49 (F := Ideal) h w (ix2 i k) = pre h w i k := by pointwise [k0_pay49, pre]
theorem p50 : k0_pay50 (F := Ideal) h w (ix2 i k) = pre h w i k := by pointwise [k0_pay50, pre]
theorem p54 : k0_pay54 (F := Ideal) h w (ix2 i k) = pre h w i k := by pointwise [k0_pay54, pre]
theorem p55 : k0_pay55 (F := Ideal) h w (ix2 i k) = pre h w i k := by pointwise [k0_pay55, pre]
theorem p24 : k0_pay24 (F := Ideal) h w (ix2 i k) = pre h w i k := by pointwise [k0_pay24, pre]
theorem p25 : k0_pay25 (F := Ideal) h w (ix2 i k) = pre h w i k := by pointwise [k0_pay25, pre]
theorem p11 : k0_pay11 (F := Ideal) h w (ix2 i k) = pre h w i k := by pointwise [k0_pay11, p9]
theorem p12 : k0_pay12 (F := Ideal) h w (ix2 i k) = pre h w i k := by pointwise [k0_pay12, p10]
theorem p21 : k0_pay21 (F := Ideal) h w (ix2 i k) = pre h w i k := by pointwise [k0_pay21, p19]
theorem p22 : k0_pay22 (F := Ideal) h w (ix2 i k) = pre h w i k := by pointwise [k0_pay22, p20]
theorem p26 : k0_pay26 (F := Ideal) h w (ix2 i k) = pre h w i k := by pointwise [k0_pay26, p24]
theorem p27 : k0_pay27 (F := Ideal) h w (ix2 i k) = pre h w i k := by pointwise [k0_pay27, p25]
theorem p32 : k0_pay32 (F := Ideal) h w (ix2 i k) = pre h w i k := by pointwise [k0_pay32, p30]
theorem p36 : k0_pay36 (F := Ideal) h w (ix2 i k) = pre h w i k := by pointwise [k0_pay36, p34]
theorem p37 : k0_pay37 (F := Ideal) h w (ix2 i k) = pre h w i k := by pointwise [k0_pay37, p35]
theorem p41 : k0_pay41 (F := Ideal) h w (ix2 i k) = pre h w i k := by pointwise [k0_pay41, p39]
theorem p42 : k0_pay42 (F := Ideal) h w (ix2 i k) = pre h w i k := by pointwise [k0_pay42, p40]
theorem p46 : k0_pay46 (F := Ideal) h w (ix2 i k) = pre h w i k := by pointwise [k0_pay46, p44]
theorem p47 : k0_pay47 (F := Ideal) h w (ix2 i k) = pre h w i k := by pointwise [k0_pay47, p45]
theorem p51 : k0_pay51 (F := Ideal) h w (ix2 i k) = pre h w i k := by pointwise [k0_pay51, p49]
theorem p52 : k0_pay52 (F := Ideal) h w (ix2 i k) = pre h w i k := by pointwise [k0_pay52, p50]
theorem p56 : k0_pay56 (F := Ideal) h w (ix2 i k) = pre h w i k := by pointwise [k0_pay56, p54]
theorem p57 : k0_pay57 (F := Ideal) h w (ix2 i k) = pre h w i k := by pointwise [k0_pay57, p55]
theorem p23 : k0_pay23 (F := Ideal) h w (ix2 i k) = 1 + Ideal.exp (-pre h w i k) := by
  pointwise [k0_pay23]
  simp only [p19, zero_sub]
theorem p16 (v : FVec Ideal S512x256 .f32) : k0_pay16 (F := Ideal) v (ix2 i k) = v (ix2 i k) := by pointwise [k0_pay16]
theorem p17 (v : FVec Ideal S512x256 .f32) : k0_pay17 (F := Ideal) v (ix2 i k) = v (ix2 i k) := by pointwise [k0_pay17]
theorem p31 (v : FVec Ideal S512x256 .f32) : k0_pay31 (F := Ideal) v (ix2 i k) = v (ix2 i k) := by pointwise [k0_pay31]

end units

section norm

variable (x : FVec Ideal S512x1024 .f32) (g : FVec Ideal S1x1024 .f32)

theorem p3 (i : Fin 512) (e : Fin 1024) : k0_pay3 (F := Ideal) x g (ix2 i e) = normed (fun e => x (ix2 i e)) (fun e => g (ix2 0 e)) e := by
  pointwise [k0_pay3, k0_pay2, normed]

variable (w wg wu : FVec Ideal S256x1024 .bf16) (i : Fin 512) (k : Fin 256)

theorem p4 : k0_pay4 (F := Ideal) x g w (ix2 i k) = pre (k0_pay3 x g) w i k := by pointwise [k0_pay4, pre]
theorem p5 : k0_pay5 (F := Ideal) x g w (ix2 i k) = pre (k0_pay3 x g) w i k := by pointwise [k0_pay5, pre]
theorem p6 : k0_pay6 (F := Ideal) x g w (ix2 i k) = pre (k0_pay3 x g) w i k := by pointwise [k0_pay6, p4]
theorem p7 : k0_pay7 (F := Ideal) x g w (ix2 i k) = pre (k0_pay3 x g) w i k := by pointwise [k0_pay7, p5]
theorem p8 : k0_pay8 (F := Ideal) x g wg wu (ix2 i k) = act (pre (k0_pay3 x g) wg i k) (pre (k0_pay3 x g) wu i k) := by
  pointwise [k0_pay8]
  simp only [p4, p5, zero_sub]
  rfl

end norm

section sums

variable (h : FVec Ideal S512x1024 .bf16) (a : FVec Ideal S512x1024 .f32) (g u d : FVec Ideal S512x256 .f32) (v : FVec Ideal S512x256 .bf16)
variable (wp wg wu wo : FVec Ideal S256x1024 .bf16) (i : Fin 512) (e : Fin 1024)

/-- What 256 hidden units add to an entry of the result, from their gates and values. -/
def partOf : EReal := ∑ k : Fin 256, act (g (ix2 i k)) (u (ix2 i k)) * wo (ix2 k e)

theorem p13 : k0_pay13 (F := Ideal) h v wp wg wu wo (ix2 i e) = (∑ k : Fin 256, v (ix2 i k) * wp (ix2 k e)) + part h wg wu wo i e := by
  pointwise [k0_pay13]
  simp only [p9, p10, zero_sub]
  rfl
theorem p18 : k0_pay18 (F := Ideal) a g u wo (ix2 i e) = a (ix2 i e) + partOf g u wo i e := by
  pointwise [k0_pay18]
  simp only [zero_sub]
  rfl
theorem p28 (hd : ∀ k, d (ix2 i k) = 1 + Ideal.exp (-g (ix2 i k))) :
    k0_pay28 (F := Ideal) h a g u d (Scalar.ofBits .f32 0x3F800000#32) wp wg wu wo (ix2 i e) = a (ix2 i e) + partOf g u wp i e + part h wg wu wo i e := by
  pointwise [k0_pay28]
  simp only [p24, p25, zero_sub, hd]
  rfl
theorem p33 : k0_pay33 (F := Ideal) h a g wu wo (ix2 i e) = a (ix2 i e) + ∑ k : Fin 256, act (g (ix2 i k)) (pre h wu i k) * wo (ix2 k e) := by
  pointwise [k0_pay33]
  simp only [p30, zero_sub]
  rfl
theorem p43 : k0_pay43 (F := Ideal) h a g u k0_pay38 wp wg wu wo (ix2 i e) = a (ix2 i e) + partOf g u wp i e + part h wg wu wo i e := by
  pointwise [k0_pay43, k0_pay38]
  simp only [p39, p40, zero_sub]
  rfl
theorem p48 : k0_pay48 (F := Ideal) h a wg wu wo (ix2 i e) = a (ix2 i e) + part h wg wu wo i e := by
  pointwise [k0_pay48]
  simp only [p44, p45, zero_sub]
  rfl
theorem p53 : k0_pay53 (F := Ideal) a g u wo (ix2 i e) = a (ix2 i e) + partOf g u wo i e := by
  pointwise [k0_pay53]
  simp only [zero_sub]
  rfl
theorem p58 (k : Fin 256) : k0_pay58 (F := Ideal) h wg wu (ix2 i k) = act (pre h wg i k) (pre h wu i k) := by
  pointwise [k0_pay58]
  simp only [p54, p55, zero_sub]
  rfl
theorem p1 (x : FVec Ideal S512x1024 .f32) : k0_pay1 (F := Ideal) x a v wo (ix2 i e)
    = x (ix2 i e) + Ideal.ofBits FTy.f32 0x3F000000#32 * (a (ix2 i e) + ∑ k : Fin 256, v (ix2 i k) * wo (ix2 k e)) := by
  pointwise [k0_pay1]
theorem p2 (x : FVec Ideal S512x1024 .f32) : k0_pay2 (F := Ideal) x (ix2 i e) = x (ix2 i e) := by
  pointwise [k0_pay2]

end sums

end Cert.Kernel5Ideal.Fwd
-- ==== Proof.FwdTile.lean ====
/-
  One grid point of the half-step's forward kernel as a whole: its three result blocks as plain formulas of its four input blocks.
-/
module

public import proofs.«01_k».proof.Proof.Gen.Kernel5Ideal.Frame
public import proofs.«01_k».proof.Proof.FwdBody
public import Idealize.ShloMosaic.Lib.Pipeline.ValueKit
public import Idealize.ShloMosaic.Lib.Pointwise
public import Idealize.ShloMosaic.Lib.Claim

@[expose] public section

set_option maxRecDepth 16384

noncomputable section

namespace Cert.Kernel5Ideal.Fwd

open Cert.Kernel5Ideal Cert.Kernel5Ideal.Gen Idealize.ShloMosaic Idealize.ShloMosaic.TcCoe Idealize.SL.Sem
open Cert.Proof.FwdMath (act normed lo hi unit sum_units)

variable (x0 : FVec Ideal S512x1024 .f32) (x1 : FVec Ideal S1x1024 .f32) (x2 : FVec Ideal S5632x1024 .bf16) (x3 : FVec Ideal S2816x1024 .bf16)

theorem ld_w (X : FVec Ideal S5632x1024 .bf16) (o : ℕ) (ho : o + 256 ≤ 5632)
    (inb : ∀ a, (![o, 0] : Fin 2 → Nat) a + S256x1024.size a ≤ S5632x1024.size a) (k : Fin 256) (e : Fin 1024) :
    View.ld (Val := Elt Ideal) (S := S5632x1024) (e' := .bf16) X (Rect.unit (s := S5632x1024) ![o, 0] S256x1024.size inb) (ix2 k e)
      = X (ix2 ⟨o + k.val, by omega⟩ e) :=
  View.ld_unit_apply_of (Val := Elt Ideal) (S := S5632x1024) (e := .bf16) X ![o, 0] S256x1024.size inb (ix2 k e) (ix2 ⟨o + k.val, by omega⟩ e) fun a => by
    match a with
    | ⟨0, _⟩ => rfl
    | ⟨1, _⟩ => exact (Nat.zero_add e.val).symm

theorem ld_o (X : FVec Ideal S2816x1024 .bf16) (o : ℕ) (ho : o + 256 ≤ 2816)
    (inb : ∀ a, (![o, 0] : Fin 2 → Nat) a + S256x1024.size a ≤ S2816x1024.size a) (k : Fin 256) (e : Fin 1024) :
    View.ld (Val := Elt Ideal) (S := S2816x1024) (e' := .bf16) X (Rect.unit (s := S2816x1024) ![o, 0] S256x1024.size inb) (ix2 k e)
      = X (ix2 (unit o ho k) e) :=
  View.ld_unit_apply_of (Val := Elt Ideal) (S := S2816x1024) (e := .bf16) X ![o, 0] S256x1024.size inb (ix2 k e) (ix2 (unit o ho k) e) fun a => by
    match a with
    | ⟨0, _⟩ => rfl
    | ⟨1, _⟩ => exact (Nat.zero_add e.val).symm

theorem ld_x (X : FVec Ideal S512x1024 .f32) (i : Fin 512) (e : Fin 1024) :
    View.ld (Val := Elt Ideal) (S := S512x1024) (e' := .f32) X r0_0 (ix2 i e) = X (ix2 i e) :=
  View.ld_unit_apply_of (Val := Elt Ideal) (S := S512x1024) (e := .f32) X ![0, 0] S512x1024.size inb_S512x1024_S512x1024_0_0 (ix2 i e) (ix2 i e) fun a => by
    match a with
    | ⟨0, _⟩ => exact (Nat.zero_add i.val).symm
    | ⟨1, _⟩ => exact (Nat.zero_add e.val).symm

theorem ld_g (X : FVec Ideal S1x1024 .f32) (e : Fin 1024) :
    View.ld (Val := Elt Ideal) (S := S1x1024) (e' := .f32) X r0_1 (ix2 0 e) = X (ix2 0 e) :=
  View.ld_unit_apply_of (Val := Elt Ideal) (S := S1x1024) (e := .f32) X ![0, 0] S1x1024.size inb_S1x1024_S1x1024_0_0 (ix2 0 e) (ix2 0 e) fun a => by
    match a with
    | ⟨0, _⟩ => rfl
    | ⟨1, _⟩ => exact (Nat.zero_add e.val).symm

/-- The product of a normalised row of the block with a row of the transposed input weight. -/
def preB (i : Fin 512) (j : Fin 5632) : EReal := ∑ e, normed (fun e => x0 (ix2 i e)) (fun e => x1 (ix2 0 e)) e * x2 (ix2 j e)

theorem nrm_at (i : Fin 512) (e : Fin 1024) :
    k0_pay59 (F := Ideal) x0 x1 x2 x3 (ix2 i e) = normed (fun e => x0 (ix2 i e)) (fun e => x1 (ix2 0 e)) e := by
  show k0_pay3 (F := Ideal) (View.ld x0 r0_0) (View.ld x1 r0_1) (ix2 i e) = _
  rw [p3]
  exact congrArg₂ (fun a b => normed a b e) (funext fun e => ld_x x0 i e) (funext fun e => ld_g x1 e)

/-- A gate of a group of hidden units, from the rows `o`, `o + 1`, … of the transposed input weight. -/
theorem pre_gate (o : ℕ) (ho : o + 256 ≤ 2816)
    (inb : ∀ a, (![o, 0] : Fin 2 → Nat) a + S256x1024.size a ≤ S5632x1024.size a) (i : Fin 512) (k : Fin 256) :
    pre (k0_pay59 (F := Ideal) x0 x1 x2 x3) (View.ld (Val := Elt Ideal) (S := S5632x1024) (e' := .bf16) x2 (Rect.unit (s := S5632x1024) ![o, 0] S256x1024.size inb)) i k
      = preB x0 x1 x2 i (lo (unit o ho k)) := by
  unfold pre preB
  refine Finset.sum_congr rfl fun e _ => ?_
  rw [nrm_at, ld_w x2 o (by omega) inb k e]
  rfl

theorem pre_up (o p : ℕ) (ho : o + 256 ≤ 2816) (hp : p = 2816 + o)
    (inb : ∀ a, (![p, 0] : Fin 2 → Nat) a + S256x1024.size a ≤ S5632x1024.size a) (i : Fin 512) (k : Fin 256) :
    pre (k0_pay59 (F := Ideal) x0 x1 x2 x3) (View.ld (Val := Elt Ideal) (S := S5632x1024) (e' := .bf16) x2 (Rect.unit (s := S5632x1024) ![p, 0] S256x1024.size inb)) i k
      = preB x0 x1 x2 i (hi (unit o ho k)) := by
  subst hp
  unfold pre preB
  refine Finset.sum_congr rfl fun e _ => ?_
  rw [nrm_at, ld_w x2 (2816 + o) (by omega) inb k e]
  refine congrArg (fun j => _ * x2 (ix2 j e)) (Fin.ext ?_)
  show 2816 + o + k.val = 2816 + (o + k.val)
  omega

/-- What a group of hidden units adds to an entry of the result. -/
theorem group (o p : ℕ) (ho : o + 256 ≤ 2816) (hp : p = 2816 + o)
    (inb : ∀ a, (![o, 0] : Fin 2 → Nat) a + S256x1024.size a ≤ S5632x1024.size a)
    (inb' : ∀ a, (![p, 0] : Fin 2 → Nat) a + S256x1024.size a ≤ S5632x1024.size a)
    (inb'' : ∀ a, (![o, 0] : Fin 2 → Nat) a + S256x1024.size a ≤ S2816x1024.size a) (i : Fin 512) (e : Fin 1024) :
    part (k0_pay59 (F := Ideal) x0 x1 x2 x3) (View.ld (Val := Elt Ideal) (S := S5632x1024) (e' := .bf16) x2 (Rect.unit (s := S5632x1024) ![o, 0] S256x1024.size inb))
        (View.ld (Val := Elt Ideal) (S := S5632x1024) (e' := .bf16) x2 (Rect.unit (s := S5632x1024) ![p, 0] S256x1024.size inb'))
        (View.ld (Val := Elt Ideal) (S := S2816x1024) (e' := .bf16) x3 (Rect.unit (s := S2816x1024) ![o, 0] S256x1024.size inb'')) i e
      = ∑ k, act (preB x0 x1 x2 i (lo (unit o ho k))) (preB x0 x1 x2 i (hi (unit o ho k))) * x3 (ix2 (unit o ho k) e) := by
  unfold part
  refine Finset.sum_congr rfl fun k _ => ?_
  rw [pre_gate x0 x1 x2 x3 o ho inb i k, pre_up x0 x1 x2 x3 o p ho hp inb' i k, ld_o x3 o ho inb'' k e]

/-- An entry of the block of the half-step's result. -/
def outB (i : Fin 512) (e : Fin 1024) : EReal :=
  x0 (ix2 i e) + Ideal.ofBits FTy.f32 0x3F000000#32
    * ∑ f, act (preB x0 x1 x2 i (lo f)) (preB x0 x1 x2 i (hi f)) * x3 (ix2 f e)

set_option maxHeartbeats 1600000 in
theorem sum_at (i : Fin 512) (e : Fin 1024) :
    part (k0_pay59 (F := Ideal) x0 x1 x2 x3) (View.ld (Val := Elt Ideal) (S := S5632x1024) (e' := .bf16) x2 r0_2) (View.ld (Val := Elt Ideal) (S := S5632x1024) (e' := .bf16) x2 r0_3) (View.ld (Val := Elt Ideal) (S := S2816x1024) (e' := .bf16) x3 r0_5) i e
      + part (k0_pay59 (F := Ideal) x0 x1 x2 x3) (View.ld (Val := Elt Ideal) (S := S5632x1024) (e' := .bf16) x2 r0_6) (View.ld (Val := Elt Ideal) (S := S5632x1024) (e' := .bf16) x2 r0_7) (View.ld (Val := Elt Ideal) (S := S2816x1024) (e' := .bf16) x3 r0_9) i e
      + part (k0_pay59 (F := Ideal) x0 x1 x2 x3) (View.ld (Val := Elt Ideal) (S := S5632x1024) (e' := .bf16) x2 r0_10) (View.ld (Val := Elt Ideal) (S := S5632x1024) (e' := .bf16) x2 r0_11) (View.ld (Val := Elt Ideal) (S := S2816x1024) (e' := .bf16) x3 r0_13) i e
      + part (k0_pay59 (F := Ideal) x0 x1 x2 x3) (View.ld (Val := Elt Ideal) (S := S5632x1024) (e' := .bf16) x2 r0_14) (View.ld (Val := Elt Ideal) (S := S5632x1024) (e' := .bf16) x2 r0_15) (View.ld (Val := Elt Ideal) (S := S2816x1024) (e' := .bf16) x3 r0_17) i e
      + part (k0_pay59 (F := Ideal) x0 x1 x2 x3) (View.ld (Val := Elt Ideal) (S := S5632x1024) (e' := .bf16) x2 r0_18) (View.ld (Val := Elt Ideal) (S := S5632x1024) (e' := .bf16) x2 r0_19) (View.ld (Val := Elt Ideal) (S := S2816x1024) (e' := .bf16) x3 r0_21) i e
      + part (k0_pay59 (F := Ideal) x0 x1 x2 x3) (View.ld (Val := Elt Ideal) (S := S5632x1024) (e' := .bf16) x2 r0_22) (View.ld (Val := Elt Ideal) (S := S5632x1024) (e' := .bf16) x2 r0_23) (View.ld (Val := Elt Ideal) (S := S2816x1024) (e' := .bf16) x3 r0_25) i e
      + part (k0_pay59 (F := Ideal) x0 x1 x2 x3) (View.ld (Val := Elt Ideal) (S := S5632x1024) (e' := .bf16) x2 r0_26) (View.ld (Val := Elt Ideal) (S := S5632x1024) (e' := .bf16) x2 r0_27) (View.ld (Val := Elt Ideal) (S := S2816x1024) (e' := .bf16) x3 r0_29) i e
      + part (k0_pay59 (F := Ideal) x0 x1 x2 x3) (View.ld (Val := Elt Ideal) (S := S5632x1024) (e' := .bf16) x2 r0_30) (View.ld (Val := Elt Ideal) (S := S5632x1024) (e' := .bf16) x2 r0_31) (View.ld (Val := Elt Ideal) (S := S2816x1024) (e' := .bf16) x3 r0_33) i e
      + part (k0_pay59 (F := Ideal) x0 x1 x2 x3) (View.ld (Val := Elt Ideal) (S := S5632x1024) (e' := .bf16) x2 r0_34) (View.ld (Val := Elt Ideal) (S := S5632x1024) (e' := .bf16) x2 r0_35) (View.ld (Val := Elt Ideal) (S := S2816x1024) (e' := .bf16) x3 r0_37) i e
      + part (k0_pay59 (F := Ideal) x0 x1 x2 x3) (View.ld (Val := Elt Ideal) (S := S5632x1024) (e' := .bf16) x2 r0_38) (View.ld (Val := Elt Ideal) (S := S5632x1024) (e' := .bf16) x2 r0_39) (View.ld (Val := Elt Ideal) (S := S2816x1024) (e' := .bf16) x3 r0_41) i e
      + part (k0_pay59 (F := Ideal) x0 x1 x2 x3) (View.ld (Val := Elt Ideal) (S := S5632x1024) (e' := .bf16) x2 r0_42) (View.ld (Val := Elt Ideal) (S := S5632x1024) (e' := .bf16) x2 r0_43) (View.ld (Val := Elt Ideal) (S := S2816x1024) (e' := .bf16) x3 r0_45) i e
    = ∑ f, act (preB x0 x1 x2 i (lo f)) (preB x0 x1 x2 i (hi f)) * x3 (ix2 f e) := by
  rw [sum_units]
  exact (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (group x0 x1 x2 x3 0 2816 (by norm_num) (by norm_num) _ _ _ i e)
    (group x0 x1 x2 x3 256 3072 (by norm_num) (by norm_num) _ _ _ i e))
    (group x0 x1 x2 x3 512 3328 (by norm_num) (by norm_num) _ _ _ i e))
    (group x0 x1 x2 x3 768 3584 (by norm_num) (by norm_num) _ _ _ i e))
    (group x0 x1 x2 x3 1024 3840 (by norm_num) (by norm_num) _ _ _ i e))
    (group x0 x1 x2 x3 1280 4096 (by norm_num) (by norm_num) _ _ _ i e))
    (group x0 x1 x2 x3 1536 4352 (by norm_num) (by norm_num) _ _ _ i e))
    (group x0 x1 x2 x3 1792 4608 (by norm_num) (by norm_num) _ _ _ i e))
    (group x0 x1 x2 x3 2048 4864 (by norm_num) (by norm_num) _ _ _ i e))
    (group x0 x1 x2 x3 2304 5120 (by norm_num) (by norm_num) _ _ _ i e))
    (group x0 x1 x2 x3 2560 5376 (by norm_num) (by norm_num) _ _ _ i e))

theorem ix_out (x : S512x1024.Idx) (i : Fin 512) (e : Fin 1024) (h0 : i.val = (x 0).val) (h1 : e.val = (x 1).val) : x = ix2 i e := by
  funext a
  apply Fin.ext
  match a with
  | ⟨0, _⟩ => exact h0.symm
  | ⟨1, _⟩ => exact h1.symm

set_option maxHeartbeats 1600000 in
theorem out_body (i : Fin 512) (e : Fin 1024) : out0_4 (F := Ideal) x0 x1 x2 x3 (ix2 i e) = outB x0 x1 x2 x3 i e := by
  unfold out0_4 outB
  rw [← sum_at x0 x1 x2 x3 i e]
  canon_tiles x h
  rw [ix_out x i e h0 h1, p1, p53, p48, p43, p33, p28 _ _ _ _ _ _ _ _ _ _ _ (fun k => by rw [p23, p19]), p18, p13, p2]
  have e8 : ∀ k, k0_pay8 (F := Ideal) (View.ld (Val := Elt Ideal) (S := S512x1024) (e' := .f32) x0 r0_0) (View.ld (Val := Elt Ideal) (S := S1x1024) (e' := .f32) x1 r0_1) (View.ld (Val := Elt Ideal) (S := S5632x1024) (e' := .bf16) x2 r0_2) (View.ld (Val := Elt Ideal) (S := S5632x1024) (e' := .bf16) x2 r0_3) (ix2 i k)
      = act (pre (k0_pay59 (F := Ideal) x0 x1 x2 x3) (View.ld (Val := Elt Ideal) (S := S5632x1024) (e' := .bf16) x2 r0_2) i k) (pre (k0_pay59 (F := Ideal) x0 x1 x2 x3) (View.ld (Val := Elt Ideal) (S := S5632x1024) (e' := .bf16) x2 r0_3) i k) :=
    fun k => p8 _ _ _ _ i k
  have q60 : ∀ k, k0_pay60 (F := Ideal) x0 x1 x2 x3 (ix2 i k) = pre (k0_pay59 (F := Ideal) x0 x1 x2 x3) (View.ld (Val := Elt Ideal) (S := S5632x1024) (e' := .bf16) x2 r0_10) i k := fun k => p14 _ _ i k
  have q61 : ∀ k, k0_pay61 (F := Ideal) x0 x1 x2 x3 (ix2 i k) = pre (k0_pay59 (F := Ideal) x0 x1 x2 x3) (View.ld (Val := Elt Ideal) (S := S5632x1024) (e' := .bf16) x2 r0_11) i k := fun k => p15 _ _ i k
  have q62 : ∀ k, k0_pay62 (F := Ideal) x0 x1 x2 x3 (ix2 i k) = pre (k0_pay59 (F := Ideal) x0 x1 x2 x3) (View.ld (Val := Elt Ideal) (S := S5632x1024) (e' := .bf16) x2 r0_22) i k := fun k => p29 _ _ i k
  simp only [e8, q60, q61, q62, partOf, part, p19, p20, p34, p35, p49, p50, p58]
  exact congrArg₂ (· + ·) (ld_x x0 i e) rfl

theorem ix_tile (x : S512x256.Idx) : ∃ (i : Fin 512) (k : Fin 256), x = ix2 i k := by
  refine ⟨x 0, x 1, ?_⟩
  funext a
  match a with
  | ⟨0, _⟩ => rfl
  | ⟨1, _⟩ => rfl

theorem gate_tile (v : FVec Ideal S512x256 .bf16) (o : ℕ) (ho : o + 256 ≤ 2816)
    (inb : ∀ a, (![o, 0] : Fin 2 → Nat) a + S256x1024.size a ≤ S5632x1024.size a) (i : Fin 512) (f : Fin 2816) (x : S512x256.Idx)
    (hv : ∀ i k, v (ix2 i k) = pre (k0_pay59 (F := Ideal) x0 x1 x2 x3) (View.ld (Val := Elt Ideal) (S := S5632x1024) (e' := .bf16) x2 (Rect.unit (s := S5632x1024) ![o, 0] S256x1024.size inb)) i k)
    (h0 : i.val = (x 0).val) (h1 : f.val = o + (x 1).val) : v x = preB x0 x1 x2 i (lo f) := by
  obtain ⟨a, k, rfl⟩ := ix_tile x
  rw [hv, pre_gate x0 x1 x2 x3 o ho inb]
  refine congrArg₂ (preB x0 x1 x2) (Fin.ext h0.symm) (congrArg lo (Fin.ext h1.symm))

theorem up_tile (v : FVec Ideal S512x256 .bf16) (o p : ℕ) (ho : o + 256 ≤ 2816) (hp : p = 2816 + o)
    (inb : ∀ a, (![p, 0] : Fin 2 → Nat) a + S256x1024.size a ≤ S5632x1024.size a) (i : Fin 512) (f : Fin 2816) (x : S512x256.Idx)
    (hv : ∀ i k, v (ix2 i k) = pre (k0_pay59 (F := Ideal) x0 x1 x2 x3) (View.ld (Val := Elt Ideal) (S := S5632x1024) (e' := .bf16) x2 (Rect.unit (s := S5632x1024) ![p, 0] S256x1024.size inb)) i k)
    (h0 : i.val = (x 0).val) (h1 : f.val = o + (x 1).val) : v x = preB x0 x1 x2 i (hi f) := by
  obtain ⟨a, k, rfl⟩ := ix_tile x
  rw [hv, pre_up x0 x1 x2 x3 o p ho hp inb]
  refine congrArg₂ (preB x0 x1 x2) (Fin.ext h0.symm) (congrArg hi (Fin.ext h1.symm))

set_option maxHeartbeats 1600000 in
theorem gate_body (i : Fin 512) (f : Fin 2816) : out0_5 (F := Ideal) x0 x1 x2 x3 (ix2 i f) = preB x0 x1 x2 i (lo f) := by
  unfold out0_5
  canon_tiles x h
  · exact gate_tile x0 x1 x2 x3 _ 2560 (by norm_num) _ i f x (fun i k => p56 _ _ i k) h0 h1
  · exact gate_tile x0 x1 x2 x3 _ 2304 (by norm_num) _ i f x (fun i k => p51 _ _ i k) h0 h1
  · exact gate_tile x0 x1 x2 x3 _ 2048 (by norm_num) _ i f x (fun i k => p46 _ _ i k) h0 h1
  · exact gate_tile x0 x1 x2 x3 _ 1792 (by norm_num) _ i f x (fun i k => p41 _ _ i k) h0 h1
  · exact gate_tile x0 x1 x2 x3 _ 1536 (by norm_num) _ i f x (fun i k => p36 _ _ i k) h0 h1
  · exact gate_tile x0 x1 x2 x3 _ 1280 (by norm_num) _ i f x (fun i k => (p31 i k _).trans (p29 _ _ i k)) h0 h1
  · exact gate_tile x0 x1 x2 x3 _ 1024 (by norm_num) _ i f x (fun i k => p26 _ _ i k) h0 h1
  · exact gate_tile x0 x1 x2 x3 _ 768 (by norm_num) _ i f x (fun i k => p21 _ _ i k) h0 h1
  · exact gate_tile x0 x1 x2 x3 _ 512 (by norm_num) _ i f x (fun i k => (p16 i k _).trans (p14 _ _ i k)) h0 h1
  · exact gate_tile x0 x1 x2 x3 _ 256 (by norm_num) _ i f x (fun i k => p11 _ _ i k) h0 h1
  · exact gate_tile x0 x1 x2 x3 _ 0 (by norm_num) _ i f x (fun i k => p6 _ _ _ i k) h0 (h1.trans (Nat.zero_add _).symm)

set_option maxHeartbeats 1600000 in
theorem up_body (i : Fin 512) (f : Fin 2816) : out0_6 (F := Ideal) x0 x1 x2 x3 (ix2 i f) = preB x0 x1 x2 i (hi f) := by
  unfold out0_6
  canon_tiles x h
  · exact up_tile x0 x1 x2 x3 _ 2560 5376 (by norm_num) (by norm_num) _ i f x (fun i k => p57 _ _ i k) h0 h1
  · exact up_tile x0 x1 x2 x3 _ 2304 5120 (by norm_num) (by norm_num) _ i f x (fun i k => p52 _ _ i k) h0 h1
  · exact up_tile x0 x1 x2 x3 _ 2048 4864 (by norm_num) (by norm_num) _ i f x (fun i k => p47 _ _ i k) h0 h1
  · exact up_tile x0 x1 x2 x3 _ 1792 4608 (by norm_num) (by norm_num) _ i f x (fun i k => p42 _ _ i k) h0 h1
  · exact up_tile x0 x1 x2 x3 _ 1536 4352 (by norm_num) (by norm_num) _ i f x (fun i k => p37 _ _ i k) h0 h1
  · exact up_tile x0 x1 x2 x3 _ 1280 4096 (by norm_num) (by norm_num) _ i f x (fun i k => p32 _ _ i k) h0 h1
  · exact up_tile x0 x1 x2 x3 _ 1024 3840 (by norm_num) (by norm_num) _ i f x (fun i k => p27 _ _ i k) h0 h1
  · exact up_tile x0 x1 x2 x3 _ 768 3584 (by norm_num) (by norm_num) _ i f x (fun i k => p22 _ _ i k) h0 h1
  · exact up_tile x0 x1 x2 x3 _ 512 3328 (by norm_num) (by norm_num) _ i f x (fun i k => (p17 i k _).trans (p15 _ _ i k)) h0 h1
  · exact up_tile x0 x1 x2 x3 _ 256 3072 (by norm_num) (by norm_num) _ i f x (fun i k => p12 _ _ i k) h0 h1
  · exact up_tile x0 x1 x2 x3 _ 0 2816 (by norm_num) (by norm_num) _ i f x (fun i k => p7 _ _ _ i k) h0 (h1.trans (Nat.zero_add _).symm)

end Cert.Kernel5Ideal.Fwd
-- ==== Proof.FwdRef.lean ====
/-
  The reference of the half-step, stage by stage: every stage is the plain formula of `FwdSpec`.
-/
module

public import proofs.«01_k».proof.Proof.Gen.Reference5Ideal.Read
public import proofs.«01_k».proof.Proof.FwdSpec
public import Idealize.ShloMosaic.Lib.Pipeline.ValueKit
public import Idealize.ShloMosaic.Lib.Pointwise
public import Idealize.ShloMosaic.Lib.Claim

@[expose] public section

set_option maxRecDepth 16384

noncomputable section

namespace Cert.Reference5Ideal.Fwd

open Cert.Reference5Ideal Cert.Reference5Ideal.Gen Cert.Reference5Ideal.Read Idealize.ShloMosaic Idealize.ShloMosaic.TcCoe Idealize.SL.Sem
open Cert.Proof.FwdMath

variable (x : FVec Ideal S1x8192x1024 .f32) (g : FVec Ideal S1024 .f32) (w : FVec Ideal S1024x5632 .f32) (wo : FVec Ideal S2816x1024 .f32)

/-- The arguments, as functions of their coordinates. -/
abbrev fx (t : Fin 8192) (e : Fin 1024) : EReal := x (ix3 0 t e)
abbrev fg (e : Fin 1024) : EReal := g (ix1 e)
abbrev fw (e : Fin 1024) (j : Fin 5632) : EReal := w (ix2 e j)
abbrev fo (f : Fin 2816) (e : Fin 1024) : EReal := wo (ix2 f e)

theorem norm1 (t : Fin 8192) (e : Fin 1024) : val_main_v12 (F := Ideal) x g (ix3 0 t e) = normed (fx x t) (fg g) e := by
  pointwise [val_main_v12, val_main_v11, val_main_v10, val_main_v9, val_main_v8, val_main_v7, val_main_v6, val_main_v5, val_main_v4, val_main_v3, val_main_v2, val_main_v1, val_main_v0, val_main_cst, val_main_cst_0, val_main_cst_1, normed]

theorem norm2 (t : Fin 8192) (e : Fin 1024) : val_main_v28 (F := Ideal) x g (ix3 0 t e) = normed (fx x t) (fg g) e := by
  pointwise [val_main_v28, val_main_v27, val_main_v26, val_main_v25, val_main_v24, val_main_v23, val_main_v22, val_main_v21, val_main_v20, val_main_v19, val_main_v18, val_main_v17, val_main_v16, val_main_cst_2, val_main_cst_3, val_main_cst_4, normed]

theorem pre1 (t : Fin 8192) (j : Fin 5632) : val_main_v13 (F := Ideal) x g w (ix3 0 t j) = preE (fx x) (fg g) (fw w) t j := by
  pointwise [val_main_v13]
  simp only [norm1]
  rfl

theorem pre2 (t : Fin 8192) (j : Fin 5632) : val_main_v29 (F := Ideal) x g w (ix3 0 t j) = preE (fx x) (fg g) (fw w) t j := by
  pointwise [val_main_v29]
  simp only [norm2]
  rfl

theorem gate_at (t : Fin 8192) (f : Fin 2816) : val_main_v40 (F := Ideal) x g w (ix2 t f) = preE (fx x) (fg g) (fw w) t (lo f) := by
  pointwise [val_main_v40, val_main_v39, val_main_v14]
  exact pre1 x g w t (lo f)

theorem up_at (t : Fin 8192) (f : Fin 2816) : val_main_v42 (F := Ideal) x g w (ix2 t f) = preE (fx x) (fg g) (fw w) t (hi f) := by
  pointwise [val_main_v42, val_main_v41, val_main_v15]
  exact pre1 x g w t (hi f)

theorem gate2 (t : Fin 8192) (f : Fin 2816) : val_main_v30 (F := Ideal) x g w (ix3 0 t f) = preE (fx x) (fg g) (fw w) t (lo f) := by
  pointwise [val_main_v30]
  exact pre2 x g w t (lo f)

theorem up2 (t : Fin 8192) (f : Fin 2816) : val_main_v31 (F := Ideal) x g w (ix3 0 t f) = preE (fx x) (fg g) (fw w) t (hi f) := by
  pointwise [val_main_v31]
  exact pre2 x g w t (hi f)

theorem act_at (t : Fin 8192) (f : Fin 2816) : val_main_v33 (F := Ideal) x g w (ix3 0 t f)
    = act (preE (fx x) (fg g) (fw w) t (lo f)) (preE (fx x) (fg g) (fw w) t (hi f)) := by
  pointwise [val_main_v33, val_main_v32, val_main_call0_v5, val_main_call0_v4, val_main_call0_v3, val_main_call0_v2, val_main_call0_v1, val_main_call0_v0, val_main_call0_cst, val_main_call0_cst_0]
  simp only [gate2, up2]
  rfl

theorem out_at (t : Fin 8192) (e : Fin 1024) : val_main_v38 (F := Ideal) x g w wo (ix2 t e) = outE (fx x) (fg g) (fw w) (fo wo) t e := by
  pointwise [val_main_v38, val_main_v37, val_main_v36, val_main_v35, val_main_v34, val_main_cst_5]
  simp only [act_at]
  rfl

end Cert.Reference5Ideal.Fwd
-- ==== Proof.FwdFinal.lean ====
/-
  The three result arrays of the half-step's forward kernel are those of the reference.
-/
module

public import proofs.«01_k».proof.Proof.Gen.Kernel5Ideal.Value
public import proofs.«01_k».proof.Proof.FwdHost
public import proofs.«01_k».proof.Proof.FwdTile
public import proofs.«01_k».proof.Proof.FwdRef
public import Idealize.ShloMosaic.Lib.Pipeline.ValueKit
public import Idealize.ShloMosaic.Lib.Pointwise
public import Idealize.ShloMosaic.Lib.Claim

@[expose] public section

set_option maxRecDepth 16384

noncomputable section

namespace Cert.Kernel5Ideal.Fwd

open Cert.Kernel5Ideal Cert.Kernel5Ideal.Gen Idealize.ShloMosaic Idealize.ShloMosaic.TcCoe Idealize.SL.Sem
open Cert.Proof.FwdMath
open Cert.Reference5Ideal.Fwd (fx fg fw fo)

variable (m : (ℓ : Loc nD τ sig) → Buf (Elt Ideal) ℓ) (c : Dev nD)

section points

variable (t : Fin cfg0.N)

theorem pre_point (i : Fin 512) (j : Fin 5632) :
    preB (iblk m c 0 t) (iblk m c 1 t) (iblk m c 2 t) i j
      = preE (fx (a0 m c)) (fg (a1 m c)) (fw (a2 m c)) (row t.val (lt16 t) i) j := by
  unfold preB preE
  refine Finset.sum_congr rfl fun e _ => ?_
  rw [blk2 m c t j e]
  exact congrArg (· * _) (congrArg₂ (fun a b => normed a b e) (funext fun e => blk0 m c t i e) (funext fun e => blk1 m c t e))

theorem out_point (i : Fin 512) (e : Fin 1024) :
    out0_4 (F := Ideal) (iblk m c 0 t) (iblk m c 1 t) (iblk m c 2 t) (iblk m c 3 t) (ix2 i e)
      = outE (fx (a0 m c)) (fg (a1 m c)) (fw (a2 m c)) (fo (a3 m c)) (row t.val (lt16 t) i) e := by
  rw [out_body]
  unfold outB outE
  rw [blk0 m c t i e]
  refine congrArg (fun s => _ + _ * s) (Finset.sum_congr rfl fun f _ => ?_)
  rw [pre_point m c t, pre_point m c t, blk3 m c t f e]

theorem gate_point (i : Fin 512) (f : Fin 2816) :
    out0_5 (F := Ideal) (iblk m c 0 t) (iblk m c 1 t) (iblk m c 2 t) (iblk m c 3 t) (ix2 i f)
      = preE (fx (a0 m c)) (fg (a1 m c)) (fw (a2 m c)) (row t.val (lt16 t) i) (lo f) := by
  rw [gate_body]
  exact pre_point m c t i (lo f)

theorem up_point (i : Fin 512) (f : Fin 2816) :
    out0_6 (F := Ideal) (iblk m c 0 t) (iblk m c 1 t) (iblk m c 2 t) (iblk m c 3 t) (ix2 i f)
      = preE (fx (a0 m c)) (fg (a1 m c)) (fw (a2 m c)) (row t.val (lt16 t) i) (hi f) := by
  rw [up_body]
  exact pre_point m c t i (hi f)

end points

set_option maxHeartbeats 800000 in
theorem final4 : (dats m 0 c).arrAt 4 (cfgs 0).N
    = Cert.Reference5Ideal.Read.val_main_v38 (F := Ideal) (a0 m c) (a1 m c) (a2 m c) (a3 m c) := by
  refine (dats m 0 c).arrAt_eq_of_covers 4 _ (by decide +kernel) fun t hf y => ?_
  blk_simp
  idx_vars y
  rw [after0_4]
  have e : ((View.whole main_v5_0).slice (win0_4.rect t)).emb (ix2 y0 y1) = ix2 (row t.val (lt16 t) y0) y1 := by
    blk_ext [idx t, row]
  rw [e, Cert.Reference5Ideal.Fwd.out_at]
  exact out_point m c t y0 y1

set_option maxHeartbeats 800000 in
theorem final5 : (dats m 0 c).arrAt 5 (cfgs 0).N
    = Cert.Reference5Ideal.Read.val_main_v40 (F := Ideal) (a0 m c) (a1 m c) (a2 m c) := by
  refine (dats m 0 c).arrAt_eq_of_covers 5 _ (by decide +kernel) fun t hf y => ?_
  blk_simp
  idx_vars y
  rw [after0_5]
  have e : ((View.whole main_v5_1).slice (win0_5.rect t)).emb (ix2 y0 y1) = ix2 (row t.val (lt16 t) y0) y1 := by
    blk_ext [idx t, row]
  rw [e, Cert.Reference5Ideal.Fwd.gate_at]
  exact gate_point m c t y0 y1

set_option maxHeartbeats 800000 in
theorem final6 : (dats m 0 c).arrAt 6 (cfgs 0).N
    = Cert.Reference5Ideal.Read.val_main_v42 (F := Ideal) (a0 m c) (a1 m c) (a2 m c) := by
  refine (dats m 0 c).arrAt_eq_of_covers 6 _ (by decide +kernel) fun t hf y => ?_
  blk_simp
  idx_vars y
  rw [after0_6]
  have e : ((View.whole main_v5_2).slice (win0_6.rect t)).emb (ix2 y0 y1) = ix2 (row t.val (lt16 t) y0) y1 := by
    blk_ext [idx t, row]
  rw [e, Cert.Reference5Ideal.Fwd.up_at]
  exact up_point m c t y0 y1

end Cert.Kernel5Ideal.Fwd
-- ==== Proof.FwdAlg.lean ====
/-
  The SwiGLU half-step: kernel and reference leave the same three arrays.
-/
module

public import proofs.«01_k».proof.Defs
public import proofs.«01_k».proof.Proof.FwdFinal
public import proofs.«01_k».proof.Proof.Gen.Reference5Ideal.Run

@[expose] public section

set_option maxRecDepth 16384

noncomputable section

namespace Cert.Proof

open Idealize.ShloMosaic Idealize.ShloMosaic.TcCoe Idealize.SL.Sem

set_option maxHeartbeats 1600000 in
/-- The half-step: kernel and reference leave the same three arrays. -/
theorem alg5 : Cert.algebraic_Kernel5Ideal_Reference5Ideal (hKernel5Ideal := Cert.Kernel5Ideal.Gen.facts)
    (hReference5Ideal := Cert.Reference5Ideal.Gen.facts) := by
  pair_intro
  · run_from Cert.Kernel5Ideal.Gen.run_main m g
  · run_from Cert.Reference5Ideal.Value.run m' g'
    · exact (Cert.Kernel5Ideal.Fwd.final4 m c).symm
    · exact (Cert.Kernel5Ideal.Fwd.final5 m c).symm
    · exact (Cert.Kernel5Ideal.Fwd.final6 m c).symm

end Cert.Proof

end
-- ==== Proof.MixOutTile.lean ====
/-
  One grid point of the mixer's output gradient: its five result blocks as plain formulas of its two input blocks.
-/
module

public import proofs.«01_k».proof.Proof.Gen.Kernel6Ideal.Frame
public import Idealize.ShloMosaic.Lib.Pipeline.ValueKit
public import Idealize.ShloMosaic.Lib.Pointwise
public import Idealize.ShloMosaic.Lib.Claim

@[expose] public section

set_option maxRecDepth 16384

noncomputable section

namespace Cert.Kernel6Ideal.MixOut

open Cert.Kernel6Ideal Cert.Kernel6Ideal.Gen Idealize.ShloMosaic Idealize.ShloMosaic.TcCoe Idealize.SL.Sem

/-- Column `d` of head `h` of the attention group. -/
def sbCol (h : Fin 8) (d : Fin 64) : Fin 1024 := ⟨256 + (64 * h.val + d.val), by omega⟩

/-- Column `d` of head `h` of the retention group. -/
def retCol (h : Fin 4) (d : Fin 64) : Fin 1024 := ⟨768 + (64 * h.val + d.val), by omega⟩

section payloads

variable (a : FVec Ideal S512x1024 .f32) (b : FVec Ideal S1024x1024 .bf16) (v : FVec Ideal S512x1024 .f32) (u : FVec Ideal S512x64 .bf16)
variable (r : FVec Ideal S512x64 .f32) (z : Fin 1) (s : Fin 512) (d : Fin 64)

theorem p4 (i : Fin 512) (j : Fin 1024) : k0_pay4 (F := Ideal) a (ix2 i j) = a (ix2 i j) := by pointwise [k0_pay4]
theorem p5 (i : Fin 512) (j : Fin 1024) : k0_pay5 (F := Ideal) a b (ix2 i j) = ∑ e : Fin 1024, a (ix2 i e) * b (ix2 j e) := by
  pointwise [k0_pay5, k0_pay4]
theorem p6 (i : Fin 512) (j : Fin 256) : k0_pay6 (F := Ideal) a b (ix2 i j) = k0_pay5 (F := Ideal) a b (ix2 i ⟨j.val, by omega⟩) := by
  pointwise [k0_pay6]
theorem p8 : k0_pay8 (F := Ideal) a b (ix3 z s d) = k0_pay5 (F := Ideal) a b (ix2 s (sbCol 0 d)) := by
  pointwise [k0_pay8, k0_pay7, sbCol]
theorem p11 : k0_pay11 (F := Ideal) a b (ix3 z s d) = k0_pay5 (F := Ideal) a b (ix2 s (sbCol 1 d)) := by
  pointwise [k0_pay11, k0_pay10, sbCol]
theorem p14 : k0_pay14 (F := Ideal) u (ix3 z s d) = u (ix2 s d) := by
  pointwise [k0_pay14, sbCol]
theorem p17 : k0_pay17 (F := Ideal) v (ix3 z s d) = v (ix2 s (sbCol 3 d)) := by
  pointwise [k0_pay17, k0_pay16, sbCol]
theorem p20 : k0_pay20 (F := Ideal) v (ix3 z s d) = v (ix2 s (sbCol 4 d)) := by
  pointwise [k0_pay20, k0_pay19, sbCol]
theorem p23 : k0_pay23 (F := Ideal) v (ix3 z s d) = v (ix2 s (sbCol 5 d)) := by
  pointwise [k0_pay23, k0_pay22, sbCol]
theorem p26 : k0_pay26 (F := Ideal) v (ix3 z s d) = v (ix2 s (sbCol 6 d)) := by
  pointwise [k0_pay26, k0_pay25, sbCol]
theorem p29 : k0_pay29 (F := Ideal) v (ix3 z s d) = v (ix2 s (sbCol 7 d)) := by
  pointwise [k0_pay29, k0_pay28, sbCol]
theorem p13 : k0_pay13 (F := Ideal) a b (ix2 s d) = k0_pay5 (F := Ideal) a b (ix2 s (sbCol 2 d)) := by
  pointwise [k0_pay13, sbCol]
theorem p9 : k0_pay9 (F := Ideal) a b (ix3 z d s) = k0_pay5 (F := Ideal) a b (ix2 s (sbCol 0 d)) := by
  pointwise [k0_pay9, k0_pay7, sbCol]
theorem p12 : k0_pay12 (F := Ideal) a b (ix3 z d s) = k0_pay5 (F := Ideal) a b (ix2 s (sbCol 1 d)) := by
  pointwise [k0_pay12, k0_pay10, sbCol]
theorem p15 : k0_pay15 (F := Ideal) u (ix3 z d s) = u (ix2 s d) := by
  pointwise [k0_pay15, sbCol]
theorem p18 : k0_pay18 (F := Ideal) v (ix3 z d s) = v (ix2 s (sbCol 3 d)) := by
  pointwise [k0_pay18, k0_pay16, sbCol]
theorem p21 : k0_pay21 (F := Ideal) v (ix3 z d s) = v (ix2 s (sbCol 4 d)) := by
  pointwise [k0_pay21, k0_pay19, sbCol]
theorem p24 : k0_pay24 (F := Ideal) u (ix3 z d s) = u (ix2 s d) := by
  pointwise [k0_pay24, sbCol]
theorem p27 : k0_pay27 (F := Ideal) v (ix3 z d s) = v (ix2 s (sbCol 6 d)) := by
  pointwise [k0_pay27, k0_pay25, sbCol]
theorem p30 : k0_pay30 (F := Ideal) v (ix3 z d s) = v (ix2 s (sbCol 7 d)) := by
  pointwise [k0_pay30, k0_pay28, sbCol]
theorem p22 : k0_pay22 (F := Ideal) v (ix2 s d) = v (ix2 s (sbCol 5 d)) := by
  pointwise [k0_pay22, sbCol]
theorem p31 : k0_pay31 (F := Ideal) v (ix3 z s d) = v (ix2 s (retCol 0 d)) := by
  pointwise [k0_pay31, retCol]
theorem p32 : k0_pay32 (F := Ideal) v (ix2 s d) = v (ix2 s (retCol 1 d)) := by
  pointwise [k0_pay32, retCol]
theorem p1 : k0_pay1 (F := Ideal) r (ix3 z s d) = r (ix2 s d) := by
  pointwise [k0_pay1]
theorem p2 : k0_pay2 (F := Ideal) v (ix3 z s d) = v (ix2 s (retCol 2 d)) := by
  pointwise [k0_pay2, retCol]
theorem p3 : k0_pay3 (F := Ideal) v (ix3 z s d) = v (ix2 s (retCol 3 d)) := by
  pointwise [k0_pay3, retCol]

end payloads

section tiles

variable (x0 : FVec Ideal S512x1024 .f32) (x1 : FVec Ideal S1024x1024 .bf16)

theorem ld_a (X : FVec Ideal S512x1024 .f32) (i : Fin 512) (e : Fin 1024) :
    View.ld (Val := Elt Ideal) (S := S512x1024) (e' := .f32) X r0_0 (ix2 i e) = X (ix2 i e) :=
  View.ld_unit_apply_of (Val := Elt Ideal) (S := S512x1024) (e := .f32) X ![0, 0] S512x1024.size inb_S512x1024_S512x1024_0_0 (ix2 i e) (ix2 i e) fun a => by
    match a with
    | ⟨0, _⟩ => exact (Nat.zero_add i.val).symm
    | ⟨1, _⟩ => exact (Nat.zero_add e.val).symm

theorem ld_b (X : FVec Ideal S1024x1024 .bf16) (i : Fin 1024) (e : Fin 1024) :
    View.ld (Val := Elt Ideal) (S := S1024x1024) (e' := .bf16) X r0_1 (ix2 i e) = X (ix2 i e) :=
  View.ld_unit_apply_of (Val := Elt Ideal) (S := S1024x1024) (e := .bf16) X ![0, 0] S1024x1024.size inb_S1024x1024_S1024x1024_0_0 (ix2 i e) (ix2 i e) fun a => by
    match a with
    | ⟨0, _⟩ => exact (Nat.zero_add i.val).symm
    | ⟨1, _⟩ => exact (Nat.zero_add e.val).symm

/-- The gradient of the row of the three groups side by side. -/
def rowB (i : Fin 512) (j : Fin 1024) : EReal := ∑ e : Fin 1024, x0 (ix2 i e) * x1 (ix2 j e)

theorem row_at (i : Fin 512) (j : Fin 1024) : k0_pay33 (F := Ideal) x0 x1 (ix2 i j) = rowB x0 x1 i j := by
  refine (p5 _ _ i j).trans (Finset.sum_congr rfl fun e _ => ?_)
  exact congrArg₂ (· * ·) (ld_a x0 i e) (ld_b x1 j e)

theorem dy_body (i : Fin 512) (j : Fin 1024) : out0_2 (F := Ideal) x0 x1 (ix2 i j) = x0 (ix2 i j) := by
  unfold out0_2
  canon_tiles x h
  obtain rfl : x = ix2 i j := by
    funext a
    apply Fin.ext
    match a with
    | ⟨0, _⟩ => exact h0.symm
    | ⟨1, _⟩ => exact h1.symm
  exact (p4 _ i j).trans (ld_a x0 i j)

theorem conv_body (i : Fin 512) (j : Fin 256) : out0_3 (F := Ideal) x0 x1 (ix2 i j) = rowB x0 x1 i ⟨j.val, by omega⟩ := by
  unfold out0_3
  canon_tiles x h
  obtain rfl : x = ix2 i j := by
    funext a
    apply Fin.ext
    match a with
    | ⟨0, _⟩ => exact h0.symm
    | ⟨1, _⟩ => exact h1.symm
  exact (p6 _ _ i j).trans (row_at x0 x1 i _)

theorem head_tile (φ : FTy) (v : FVec Ideal S1x512x64 φ) (c : Fin 64 → Fin 1024) (s : Fin 512) (d : Fin 64) (x : S1x512x64.Idx)
    (hv : ∀ z s d, v (ix3 z s d) = k0_pay33 (F := Ideal) x0 x1 (ix2 s (c d)))
    (h1 : s.val = (x 1).val) (h2 : d.val = (x 2).val) : v x = rowB x0 x1 s (c d) := by
  obtain rfl : x = ix3 0 s d := by
    funext a
    apply Fin.ext
    match a with
    | ⟨0, _⟩ => exact Nat.lt_one_iff.mp (x 0).isLt
    | ⟨1, _⟩ => exact h1.symm
    | ⟨2, _⟩ => exact h2.symm
  rw [hv, row_at]

theorem turned_tile (v : FVec Ideal S1x64x512 .bf16) (c : Fin 64 → Fin 1024) (s : Fin 512) (d : Fin 64) (x : S1x64x512.Idx)
    (hv : ∀ z s d, v (ix3 z d s) = k0_pay33 (F := Ideal) x0 x1 (ix2 s (c d)))
    (h1 : d.val = (x 1).val) (h2 : s.val = (x 2).val) : v x = rowB x0 x1 s (c d) := by
  obtain rfl : x = ix3 0 d s := by
    funext a
    apply Fin.ext
    match a with
    | ⟨0, _⟩ => exact Nat.lt_one_iff.mp (x 0).isLt
    | ⟨1, _⟩ => exact h1.symm
    | ⟨2, _⟩ => exact h2.symm
  rw [hv, row_at]

/-- The head whose tile holds the entry. -/
theorem head_eq {n : ℕ} (h k : Fin n) (o : ℕ) (a : ℕ) (ha : a < 1) (h0 : h.val = o + a) (hk : k.val = o) : h = k := Fin.ext (by omega)
theorem head_zero {n : ℕ} (h k : Fin n) (a : ℕ) (ha : a < 1) (h0 : h.val = a) (hk : k.val = 0) : h = k := Fin.ext (by omega)

set_option maxHeartbeats 1600000 in
theorem sb_body (h : Fin 8) (s : Fin 512) (d : Fin 64) : out0_4 (F := Ideal) x0 x1 (ix3 h s d) = rowB x0 x1 s (sbCol h d) := by
  unfold out0_4
  canon_tiles x hx
  · obtain rfl := head_eq h 7 7 _ x0_lt hx0 rfl
    exact head_tile x0 x1 .bf16 _ (sbCol 7) s d x (fun z s d => p29 _ z s d) hx1 hx2
  · obtain rfl := head_eq h 6 6 _ x0_lt hx0 rfl
    exact head_tile x0 x1 .bf16 _ (sbCol 6) s d x (fun z s d => p26 _ z s d) hx1 hx2
  · obtain rfl := head_eq h 5 5 _ x0_lt hx0 rfl
    exact head_tile x0 x1 .bf16 _ (sbCol 5) s d x (fun z s d => p23 _ z s d) hx1 hx2
  · obtain rfl := head_eq h 4 4 _ x0_lt hx0 rfl
    exact head_tile x0 x1 .bf16 _ (sbCol 4) s d x (fun z s d => p20 _ z s d) hx1 hx2
  · obtain rfl := head_eq h 3 3 _ x0_lt hx0 rfl
    exact head_tile x0 x1 .bf16 _ (sbCol 3) s d x (fun z s d => p17 _ z s d) hx1 hx2
  · obtain rfl := head_eq h 2 2 _ x0_lt hx0 rfl
    exact head_tile x0 x1 .bf16 _ (sbCol 2) s d x (fun z s d => (p14 _ z s d).trans (p13 _ _ s d)) hx1 hx2
  · obtain rfl := head_eq h 1 1 _ x0_lt hx0 rfl
    exact head_tile x0 x1 .bf16 _ (sbCol 1) s d x (fun z s d => p11 _ _ z s d) hx1 hx2
  · obtain rfl := head_zero h 0 _ x0_lt hx0 rfl
    exact head_tile x0 x1 .bf16 _ (sbCol 0) s d x (fun z s d => p8 _ _ z s d) hx1 hx2

set_option maxHeartbeats 1600000 in
theorem sbt_body (h : Fin 8) (s : Fin 512) (d : Fin 64) : out0_5 (F := Ideal) x0 x1 (ix3 h d s) = rowB x0 x1 s (sbCol h d) := by
  unfold out0_5
  canon_tiles x hx
  · obtain rfl := head_eq h 7 7 _ x0_lt hx0 rfl
    exact turned_tile x0 x1 _ (sbCol 7) s d x (fun z s d => p30 _ z s d) hx1 hx2
  · obtain rfl := head_eq h 6 6 _ x0_lt hx0 rfl
    exact turned_tile x0 x1 _ (sbCol 6) s d x (fun z s d => p27 _ z s d) hx1 hx2
  · obtain rfl := head_eq h 5 5 _ x0_lt hx0 rfl
    exact turned_tile x0 x1 _ (sbCol 5) s d x (fun z s d => (p24 _ z s d).trans (p22 _ s d)) hx1 hx2
  · obtain rfl := head_eq h 4 4 _ x0_lt hx0 rfl
    exact turned_tile x0 x1 _ (sbCol 4) s d x (fun z s d => p21 _ z s d) hx1 hx2
  · obtain rfl := head_eq h 3 3 _ x0_lt hx0 rfl
    exact turned_tile x0 x1 _ (sbCol 3) s d x (fun z s d => p18 _ z s d) hx1 hx2
  · obtain rfl := head_eq h 2 2 _ x0_lt hx0 rfl
    exact turned_tile x0 x1 _ (sbCol 2) s d x (fun z s d => (p15 _ z s d).trans (p13 _ _ s d)) hx1 hx2
  · obtain rfl := head_eq h 1 1 _ x0_lt hx0 rfl
    exact turned_tile x0 x1 _ (sbCol 1) s d x (fun z s d => p12 _ _ z s d) hx1 hx2
  · obtain rfl := head_zero h 0 _ x0_lt hx0 rfl
    exact turned_tile x0 x1 _ (sbCol 0) s d x (fun z s d => p9 _ _ z s d) hx1 hx2

set_option maxHeartbeats 1600000 in
theorem ret_body (h : Fin 4) (s : Fin 512) (d : Fin 64) : out0_6 (F := Ideal) x0 x1 (ix3 h s d) = rowB x0 x1 s (retCol h d) := by
  unfold out0_6
  canon_tiles x hx
  · obtain rfl := head_eq h 3 3 _ x0_lt hx0 rfl
    exact head_tile x0 x1 .f32 _ (retCol 3) s d x (fun z s d => p3 _ z s d) hx1 hx2
  · obtain rfl := head_eq h 2 2 _ x0_lt hx0 rfl
    exact head_tile x0 x1 .f32 _ (retCol 2) s d x (fun z s d => p2 _ z s d) hx1 hx2
  · obtain rfl := head_eq h 1 1 _ x0_lt hx0 rfl
    exact head_tile x0 x1 .f32 _ (retCol 1) s d x (fun z s d => (p1 _ z s d).trans (p32 _ s d)) hx1 hx2
  · obtain rfl := head_zero h 0 _ x0_lt hx0 rfl
    exact head_tile x0 x1 .f32 _ (retCol 0) s d x (fun z s d => p31 _ z s d) hx1 hx2

end tiles

end Cert.Kernel6Ideal.MixOut
-- ==== Proof.MixOutRef.lean ====
/-
  The reference of the mixer's output gradient, stage by stage.
-/
module

public import proofs.«01_k».proof.Proof.Gen.Reference6Ideal.Read
public import Idealize.ShloMosaic.Lib.Pipeline.ValueKit
public import Idealize.ShloMosaic.Lib.Pointwise
public import Idealize.ShloMosaic.Lib.Claim

@[expose] public section

set_option maxRecDepth 16384

noncomputable section

namespace Cert.Reference6Ideal.MixOut

open Cert.Reference6Ideal Cert.Reference6Ideal.Gen Cert.Reference6Ideal.Read Idealize.ShloMosaic Idealize.ShloMosaic.TcCoe Idealize.SL.Sem

variable (dy : FVec Ideal S1x8192x1024 .f32) (w : FVec Ideal S1024x1024 .f32)

/-- The gradient of the row of the three groups side by side. -/
def rowE (t : Fin 8192) (j : Fin 1024) : EReal := ∑ e : Fin 1024, dy (ix3 0 t e) * w (ix2 j e)

theorem row_at (t : Fin 8192) (j : Fin 1024) : val_main_v7 (F := Ideal) dy w (ix3 0 t j) = rowE dy w t j := by
  pointwise [val_main_v7, rowE]

theorem dy_at (t : Fin 8192) (e : Fin 1024) : val_main_v14 (F := Ideal) dy (ix2 t e) = dy (ix3 0 t e) := by
  pointwise [val_main_v14, val_main_v13]

theorem conv_at (t : Fin 8192) (j : Fin 256) : val_main_v15 (F := Ideal) dy w (ix2 t j) = rowE dy w t ⟨j.val, by omega⟩ := by
  pointwise [val_main_v15, val_main_v8]
  exact row_at dy w t _

theorem sb_at (h : Fin 8) (t : Fin 8192) (d : Fin 64) :
    val_main_v18 (F := Ideal) dy w (ix3 h t d) = rowE dy w t ⟨256 + (64 * h.val + d.val), by omega⟩ := by
  rw [← row_at]
  pointwise [val_main_v18, val_main_v17, val_main_v16, val_main_v12, val_main_v9]
  blk_ext

theorem sbt_at (h : Fin 8) (t : Fin 8192) (d : Fin 64) :
    val_main_v21 (F := Ideal) dy w (ix3 h d t) = rowE dy w t ⟨256 + (64 * h.val + d.val), by omega⟩ := by
  rw [← row_at]
  pointwise [val_main_v21, val_main_v20, val_main_v19, val_main_v12, val_main_v9]
  blk_ext

theorem ret_at (h : Fin 4) (t : Fin 8192) (d : Fin 64) :
    val_main_v23 (F := Ideal) dy w (ix3 h t d) = rowE dy w t ⟨768 + (64 * h.val + d.val), by omega⟩ := by
  rw [← row_at]
  pointwise [val_main_v23, val_main_v22, val_main_v11, val_main_v10]
  blk_ext

end Cert.Reference6Ideal.MixOut
-- ==== Proof.MixOutFinal.lean ====
/-
  The five result arrays of the mixer's output gradient are those of the reference.
-/
module

public import proofs.«01_k».proof.Proof.Gen.Kernel6Ideal.Value
public import proofs.«01_k».proof.Proof.MixOutTile
public import proofs.«01_k».proof.Proof.MixOutRef
public import Idealize.ShloMosaic.Lib.Pipeline.ValueKit
public import Idealize.ShloMosaic.Lib.Pointwise
public import Idealize.ShloMosaic.Lib.Claim

@[expose] public section

set_option maxRecDepth 16384

noncomputable section

namespace Cert.Kernel6Ideal.MixOut

open Cert.Kernel6Ideal Cert.Kernel6Ideal.Gen Idealize.ShloMosaic Idealize.ShloMosaic.TcCoe Idealize.SL.Sem
open Cert.Reference6Ideal.MixOut (rowE)

variable (m : (ℓ : Loc nD τ sig) → Buf (Elt Ideal) ℓ) (c : Dev nD)

/-- The arguments, as arrays. -/
abbrev a0 : FVec Ideal S1x8192x1024 .f32 := m ((c : Thread nD τ).loc main_arg0)
abbrev a1 : FVec Ideal S1024x1024 .f32 := m ((c : Thread nD τ).loc main_arg1)

set_option maxHeartbeats 1600000 in
theorem dy_host (t : Fin 8192) (e : Fin 1024) : V m c main_v0 (ix2 t e) = a0 m c (ix3 0 t e) := by
  simp only [V, List.flatten_cons, List.flatten_nil, List.append_nil, StableHlo.after_append]
  set_option maxHeartbeats 1600000 in after_results_simp
  pointwise

set_option maxHeartbeats 1600000 in
theorem w_host (j : Fin 1024) (e : Fin 1024) : V m c main_v1 (ix2 j e) = a1 m c (ix2 j e) := by
  simp only [V, List.flatten_cons, List.flatten_nil, List.append_nil, StableHlo.after_append]
  set_option maxHeartbeats 1600000 in after_results_simp
  pointwise

theorem lt16 (t : Fin cfg0.N) : t.val < 16 := lt_of_lt_of_eq t.isLt (show cfg0.N = 16 from N_0)

/-- Row `i` of the block of a grid point. -/
def row (t : ℕ) (ht : t < 16) (i : Fin 512) : Fin 8192 := ⟨512 * t + i.val, by omega⟩

theorem idx : ∀ t : Fin cfg0.N,
    win0_0.index t = ![t.val, 0] ∧ win0_1.index t = ![0, 0] ∧ win0_2.index t = ![t.val, 0] ∧ win0_3.index t = ![t.val, 0]
    ∧ win0_4.index t = ![0, t.val, 0] ∧ win0_5.index t = ![0, 0, t.val] ∧ win0_6.index t = ![0, t.val, 0] :=
  (by decide +kernel : ∀ t : Fin grid0.N, _)

section points

variable (t : Fin cfg0.N)

theorem blk0 (i : Fin 512) (e : Fin 1024) :
    (iblk m c 0 t : FVec Ideal S512x1024 .f32) (ix2 i e) = a0 m c (ix3 0 (row t.val (lt16 t) i) e) := by
  rw [← dy_host]
  blk_ext [iblk, idx t, row]
theorem blk1 (j : Fin 1024) (e : Fin 1024) : (iblk m c 1 t : FVec Ideal S1024x1024 .bf16) (ix2 j e) = a1 m c (ix2 j e) := by
  rw [← w_host]
  blk_ext [iblk, idx t]

theorem row_point (i : Fin 512) (j : Fin 1024) :
    rowB (iblk m c 0 t) (iblk m c 1 t) i j = rowE (a0 m c) (a1 m c) (row t.val (lt16 t) i) j := by
  unfold rowB rowE
  exact Finset.sum_congr rfl fun e _ => congrArg₂ (· * ·) (blk0 m c t i e) (blk1 m c t j e)

end points

set_option maxHeartbeats 800000 in
theorem final2 : (dats m 0 c).arrAt 2 (cfgs 0).N = Cert.Reference6Ideal.Read.val_main_v14 (F := Ideal) (a0 m c) := by
  refine (dats m 0 c).arrAt_eq_of_covers 2 _ (by decide +kernel) fun t hf y => ?_
  blk_simp
  idx_vars y
  rw [after0_2]
  have e : ((View.whole main_v2_0).slice (win0_2.rect t)).emb (ix2 y0 y1) = ix2 (row t.val (lt16 t) y0) y1 := by
    blk_ext [idx t, row]
  rw [e, Cert.Reference6Ideal.MixOut.dy_at]
  exact (dy_body _ _ y0 y1).trans (blk0 m c t y0 y1)

set_option maxHeartbeats 800000 in
theorem final3 : (dats m 0 c).arrAt 3 (cfgs 0).N = Cert.Reference6Ideal.Read.val_main_v15 (F := Ideal) (a0 m c) (a1 m c) := by
  refine (dats m 0 c).arrAt_eq_of_covers 3 _ (by decide +kernel) fun t hf y => ?_
  blk_simp
  idx_vars y
  rw [after0_3]
  have e : ((View.whole main_v2_1).slice (win0_3.rect t)).emb (ix2 y0 y1) = ix2 (row t.val (lt16 t) y0) y1 := by
    blk_ext [idx t, row]
  rw [e, Cert.Reference6Ideal.MixOut.conv_at]
  exact (conv_body _ _ y0 y1).trans (row_point m c t y0 _)

set_option maxHeartbeats 800000 in
theorem final4 : (dats m 0 c).arrAt 4 (cfgs 0).N = Cert.Reference6Ideal.Read.val_main_v18 (F := Ideal) (a0 m c) (a1 m c) := by
  refine (dats m 0 c).arrAt_eq_of_covers 4 _ (by decide +kernel) fun t hf y => ?_
  blk_simp
  idx_vars y
  rw [after0_4]
  have e : ((View.whole main_v2_2).slice (win0_4.rect t)).emb (ix3 y0 y1 y2) = ix3 y0 (row t.val (lt16 t) y1) y2 := by
    blk_ext [idx t, row]
  rw [e, Cert.Reference6Ideal.MixOut.sb_at]
  exact (sb_body _ _ y0 y1 y2).trans (row_point m c t y1 _)

set_option maxHeartbeats 800000 in
theorem final5 : (dats m 0 c).arrAt 5 (cfgs 0).N = Cert.Reference6Ideal.Read.val_main_v21 (F := Ideal) (a0 m c) (a1 m c) := by
  refine (dats m 0 c).arrAt_eq_of_covers 5 _ (by decide +kernel) fun t hf y => ?_
  blk_simp
  idx_vars y
  rw [after0_5]
  have e : ((View.whole main_v2_3).slice (win0_5.rect t)).emb (ix3 y0 y1 y2) = ix3 y0 y1 (row t.val (lt16 t) y2) := by
    blk_ext [idx t, row]
  rw [e, Cert.Reference6Ideal.MixOut.sbt_at]
  exact (sbt_body _ _ y0 y2 y1).trans (row_point m c t y2 _)

set_option maxHeartbeats 800000 in
theorem final6 : (dats m 0 c).arrAt 6 (cfgs 0).N = Cert.Reference6Ideal.Read.val_main_v23 (F := Ideal) (a0 m c) (a1 m c) := by
  refine (dats m 0 c).arrAt_eq_of_covers 6 _ (by decide +kernel) fun t hf y => ?_
  blk_simp
  idx_vars y
  rw [after0_6]
  have e : ((View.whole main_v2_4).slice (win0_6.rect t)).emb (ix3 y0 y1 y2) = ix3 y0 (row t.val (lt16 t) y1) y2 := by
    blk_ext [idx t, row]
  rw [e, Cert.Reference6Ideal.MixOut.ret_at]
  exact (ret_body _ _ y0 y1 y2).trans (row_point m c t y1 _)

end Cert.Kernel6Ideal.MixOut
-- ==== Proof.MixOutAlg.lean ====
/-
  The mixer's output gradient: kernel and reference leave the same five arrays.
-/
module

public import proofs.«01_k».proof.Defs
public import proofs.«01_k».proof.Proof.MixOutFinal
public import proofs.«01_k».proof.Proof.Gen.Reference6Ideal.Run

@[expose] public section

set_option maxRecDepth 16384

noncomputable section

namespace Cert.Proof

open Idealize.ShloMosaic Idealize.ShloMosaic.TcCoe Idealize.SL.Sem

set_option maxHeartbeats 1600000 in
/-- The mixer's output gradient: kernel and reference leave the same five arrays. -/
theorem alg6 : Cert.algebraic_Kernel6Ideal_Reference6Ideal (hKernel6Ideal := Cert.Kernel6Ideal.Gen.facts)
    (hReference6Ideal := Cert.Reference6Ideal.Gen.facts) := by
  pair_intro
  · run_from Cert.Kernel6Ideal.Gen.run_main m g
  · run_from Cert.Reference6Ideal.Value.run m' g'
    · exact (Cert.Kernel6Ideal.MixOut.final2 m c).symm
    · exact (Cert.Kernel6Ideal.MixOut.final3 m c).symm
    · exact (Cert.Kernel6Ideal.MixOut.final4 m c).symm
    · exact (Cert.Kernel6Ideal.MixOut.final5 m c).symm
    · exact (Cert.Kernel6Ideal.MixOut.final6 m c).symm

end Cert.Proof

end
-- ==== Proof.Mat7.lean ====
/- The value of `Kernel7`: the gradient of the mixer's output weight.  The four grid points add the products of four
   2048-row blocks; the reference contracts all 8192 rows at once. -/
module

public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.ValueKit
public import Idealize.ShloMosaic.Lib.Pointwise
public import Idealize.ShloMosaic.Lib.Claim

@[expose] public section

set_option maxRecDepth 16384

noncomputable section

namespace Cert.Kernel7Ideal.Mat

open Cert.Kernel7Ideal Cert.Kernel7Ideal.Gen Idealize.ShloMosaic Idealize.ShloMosaic.TcCoe Idealize.SL.Sem
open Idealize.ShloMosaic.Pipeline (Dat)

variable (m : (ℓ : Loc nD τ sig) → Buf (Elt Ideal) ℓ)

/-- The reference's term: the product of the mixer's rows with the incoming gradient. -/
abbrev REF (H : FVec Ideal Cert.Reference7Ideal.S1x8192x1024 .f32) (D : FVec Ideal Cert.Reference7Ideal.S1x8192x1024 .f32) :
    FVec Ideal Cert.Reference7Ideal.S1024x1024 .f32 :=
  Cert.Reference7Ideal.Read.val_main_v3 (F := Ideal) H D

theorem idx : ∀ t : Fin cfg0.N, win0_0.index t = ![t.val % 4, 0] ∧ win0_1.index t = ![t.val % 4, 0]
    ∧ win0_2.index t = ![t.val / 4, 0] :=
  (by decide +kernel : ∀ t : Fin grid0.N, _)

theorem hzero (j) : k0_pay1 (F := Ideal) j = 0 := by pointwise [k0_pay1]

/-- What one grid point adds: the product of the two blocks over their 2048 shared rows. -/
def part (x : Vec Ideal S2048x1024 .bf16) (y : Vec Ideal S2048x1024 .bf16) (j : S1024x1024.Idx) : EReal :=
  ∑ k : Fin 2048, x (ix2 k (j 0)) * y (ix2 k (j 1))

theorem hpay (acc : Vec Ideal S1024x1024 .f32) (x : Vec Ideal S2048x1024 .bf16) (y : Vec Ideal S2048x1024 .bf16) (j) :
    k0_pay2 acc x y j = acc j + part x y j := by
  idx_vars j
  pointwise [k0_pay2, part]

theorem href (H D) (a : Fin 1024) (b : Fin 1024) :
    REF H D (ix2 a b) = ∑ l : Fin 8192, H (ix3 0 l a) * D (ix3 0 l b) := by
  pointwise [Cert.Reference7Ideal.Read.val_main_v3, Cert.Reference7Ideal.Read.val_main_v2]
  simp only [Fin.sum_univ_one, mul_comm]

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  idx_vars y
  rw [after0_2, Pipeline.eq_sum_fin_of_reset_step_apply_of_flush (fun n h => outsAt0 m c n h) 4 (fun _ => 0)
    (fun t => part (iblk m c 0 t) (iblk m c 1 t))
    (fun t h j => by rw [outsAt0_A m c t h]; frame_out; rw [hpay, hzero])
    (fun t h j => by rw [outsAt0_B m c t h]; frame_out; rw [hpay])
    t ((flush0_2 t).mp hf) _, zero_add]
  have e : ((View.whole main_v4).slice (win0_2.rect t)).emb (ix2 y0 y1)
      = ix2 ⟨t.val / 4 * 1024 + y0.val, by have h := lt_of_lt_of_eq t.isLt (show cfg0.N = 4 from N_0); have := y0.isLt; omega⟩ y1 := by
    blk_ext [idx t]
  rw [e, href]
  simp only [part]
  refine Fin.sum_mul_add_congr fun s k hl => ?_
  blk_point [iblk, V, idx ⟨_, Pipeline.run_point_lt_of_flush t ((flush0_2 t).mp hf) s⟩]

end Cert.Kernel7Ideal.Mat
-- ==== Proof.Mat8.lean ====
/- The value of `Kernel8`: the gradient of the mixer's input weight.  Each run of four grid points adds the products of
   four 2048-row blocks into one 1024 by 1024 block of the result; the reference contracts all 8192 rows at once. -/
module

public import proofs.«01_k».proof.Proof.Gen.Kernel8Ideal.Value
public import proofs.«01_k».proof.Proof.Gen.Reference8Ideal.Run
public import proofs.«01_k».proof.Proof.Gen.Reference8Ideal.Read
public import Idealize.ShloMosaic.Lib.Pipeline.ValueKit
public import Idealize.ShloMosaic.Lib.Pointwise
public import Idealize.ShloMosaic.Lib.Claim

@[expose] public section

set_option maxRecDepth 16384

noncomputable section

namespace Cert.Kernel8Ideal.Mat

open Cert.Kernel8Ideal Cert.Kernel8Ideal.Gen Idealize.ShloMosaic Idealize.ShloMosaic.TcCoe Idealize.SL.Sem
open Idealize.ShloMosaic.Pipeline (Dat)

variable (m : (ℓ : Loc nD τ sig) → Buf (Elt Ideal) ℓ)

/-- The reference's term: the product of the rows' gradients with the normalised rows. -/
abbrev REF (H : FVec Ideal Cert.Reference8Ideal.S1x8192x1024 .f32) (D : FVec Ideal Cert.Reference8Ideal.S1x8192x3072 .f32) :
    FVec Ideal Cert.Reference8Ideal.S3072x1024 .f32 :=
  Cert.Reference8Ideal.Read.val_main_v4 (F := Ideal) H D

theorem idx : ∀ t : Fin cfg0.N, win0_0.index t = ![t.val % 4, t.val / 4] ∧ win0_1.index t = ![t.val % 4, 0]
    ∧ win0_2.index t = ![t.val / 4, 0] :=
  (by decide +kernel : ∀ t : Fin grid0.N, _)

theorem hzero (j) : k0_pay1 (F := Ideal) j = 0 := by pointwise [k0_pay1]

/-- What one grid point adds: the product of the two blocks over their 2048 shared rows. -/
def part (x : Vec Ideal S2048x1024 .bf16) (y : Vec Ideal S2048x1024 .bf16) (j : S1024x1024.Idx) : EReal :=
  ∑ k : Fin 2048, x (ix2 k (j 0)) * y (ix2 k (j 1))

theorem hpay (acc : Vec Ideal S1024x1024 .f32) (x : Vec Ideal S2048x1024 .bf16) (y : Vec Ideal S2048x1024 .bf16) (j) :
    k0_pay2 acc x y j = acc j + part x y j := by
  idx_vars j
  pointwise [k0_pay2, part]

theorem href (H D) (a : Fin 3072) (b : Fin 1024) :
    REF H D (ix2 a b) = ∑ l : Fin 8192, D (ix3 0 l a) * H (ix3 0 l b) := by
  pointwise [Cert.Reference8Ideal.Read.val_main_v4, Cert.Reference8Ideal.Read.val_main_v3, Cert.Reference8Ideal.Read.val_main_v2]
  simp only [Fin.sum_univ_one]

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  idx_vars y
  rw [after0_2, Pipeline.eq_sum_fin_of_reset_step_apply_of_flush (fun n h => outsAt0 m c n h) 4 (fun _ => 0)
    (fun t => part (iblk m c 0 t) (iblk m c 1 t))
    (fun t h j => by rw [outsAt0_A m c t h]; frame_out; rw [hpay, hzero])
    (fun t h j => by rw [outsAt0_B m c t h]; frame_out; rw [hpay])
    t ((flush0_2 t).mp hf) _, zero_add]
  have e : ((View.whole main_v4).slice (win0_2.rect t)).emb (ix2 y0 y1)
      = ix2 ⟨t.val / 4 * 1024 + y0.val, by have h := lt_of_lt_of_eq t.isLt (show cfg0.N = 12 from N_0); have := y0.isLt; omega⟩ y1 := by
    blk_ext [idx t]
  rw [e, href]
  simp only [part]
  refine Fin.sum_mul_add_congr fun s k hl => ?_
  blk_point [iblk, V, idx ⟨_, Pipeline.run_point_lt_of_flush t ((flush0_2 t).mp hf) s⟩]

end Cert.Kernel8Ideal.Mat
-- ==== Proof.JoinOutTile.lean ====
/-
  One grid point of the mixer's output product: its two result blocks as plain formulas of its five input blocks.
-/
module

public import proofs.«01_k».proof.Proof.Gen.Kernel9Ideal.Frame
public import Idealize.ShloMosaic.Lib.Pipeline.ValueKit
public import Idealize.ShloMosaic.Lib.Pointwise
public import Idealize.ShloMosaic.Lib.Claim

@[expose] public section

set_option maxRecDepth 16384

noncomputable section

namespace Cert.Kernel9Ideal.JoinOut

open Cert.Kernel9Ideal Cert.Kernel9Ideal.Gen Idealize.ShloMosaic Idealize.ShloMosaic.TcCoe Idealize.SL.Sem

section payloads

variable (v1 : FVec Ideal S512x256 .bf16) (v4 v7 v10 v13 v16 v19 v22 v25 v28 : FVec Ideal S512x64 .bf16) (v29 v32 v35 : FVec Ideal S1x512x64 .f32)
variable (i : Fin 512) (j : Fin 1024) (d : Fin 64)

theorem cat_0 (e : Fin 256) (hj : j.val = e.val) : k0_pay1 (F := Ideal) v1 v4 v7 v10 v13 v16 v19 v22 v25 v28 v29 v32 v35 (ix2 i j) = v1 (ix2 i e) := by
  pointwise [k0_pay1, hj]
theorem cat_1 (hj : j.val = 256 + d.val) : k0_pay1 (F := Ideal) v1 v4 v7 v10 v13 v16 v19 v22 v25 v28 v29 v32 v35 (ix2 i j) = v4 (ix2 i d) := by
  pointwise [k0_pay1, hj]
theorem cat_2 (hj : j.val = 320 + d.val) : k0_pay1 (F := Ideal) v1 v4 v7 v10 v13 v16 v19 v22 v25 v28 v29 v32 v35 (ix2 i j) = v7 (ix2 i d) := by
  pointwise [k0_pay1, hj]
  refine (dif_neg (by omega)).trans ?_
  refine (dif_neg (by omega)).trans ?_
  refine (dif_pos (by omega)).trans ?_
  exact congrArg (fun q => v7 (ix2 i q)) (Fin.ext (by show 320 + d.val - 256 - 64 = d.val; omega))
theorem cat_3 (hj : j.val = 384 + d.val) : k0_pay1 (F := Ideal) v1 v4 v7 v10 v13 v16 v19 v22 v25 v28 v29 v32 v35 (ix2 i j) = v10 (ix2 i d) := by
  pointwise [k0_pay1, hj]
  refine (dif_neg (by omega)).trans ?_
  refine (dif_neg (by omega)).trans ?_
  refine (dif_neg (by omega)).trans ?_
  refine (dif_pos (by omega)).trans ?_
  exact congrArg (fun q => v10 (ix2 i q)) (Fin.ext (by show 384 + d.val - 256 - 64 - 64 = d.val; omega))
theorem cat_4 (hj : j.val = 448 + d.val) : k0_pay1 (F := Ideal) v1 v4 v7 v10 v13 v16 v19 v22 v25 v28 v29 v32 v35 (ix2 i j) = v13 (ix2 i d) := by
  pointwise [k0_pay1, hj]
  refine (dif_neg (by omega)).trans ?_
  refine (dif_neg (by omega)).trans ?_
  refine (dif_neg (by omega)).trans ?_
  refine (dif_neg (by omega)).trans ?_
  refine (dif_pos (by omega)).trans ?_
  exact congrArg (fun q => v13 (ix2 i q)) (Fin.ext (by show 448 + d.val - 256 - 64 - 64 - 64 = d.val; omega))
theorem cat_5 (hj : j.val = 512 + d.val) : k0_pay1 (F := Ideal) v1 v4 v7 v10 v13 v16 v19 v22 v25 v28 v29 v32 v35 (ix2 i j) = v16 (ix2 i d) := by
  pointwise [k0_pay1, hj]
  refine (dif_neg (by omega)).trans ?_
  refine (dif_neg (by omega)).trans ?_
  refine (dif_neg (by omega)).trans ?_
  refine (dif_neg (by omega)).trans ?_
  refine (dif_neg (by omega)).trans ?_
  refine (dif_pos (by omega)).trans ?_
  exact congrArg (fun q => v16 (ix2 i q)) (Fin.ext (by show 512 + d.val - 256 - 64 - 64 - 64 - 64 = d.val; omega))
theorem cat_6 (hj : j.val = 576 + d.val) : k0_pay1 (F := Ideal) v1 v4 v7 v10 v13 v16 v19 v22 v25 v28 v29 v32 v35 (ix2 i j) = v19 (ix2 i d) := by
  pointwise [k0_pay1, hj]
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_pos (by omega)).trans ?_
  exact congrArg (fun q => v19 (ix2 i q)) (Fin.ext (by show 576 + d.val - 256 - 64 - 64 - 64 - 64 - 64 = d.val; omega))
theorem cat_7 (hj : j.val = 640 + d.val) : k0_pay1 (F := Ideal) v1 v4 v7 v10 v13 v16 v19 v22 v25 v28 v29 v32 v35 (ix2 i j) = v22 (ix2 i d) := by
  pointwise [k0_pay1, hj]
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_pos (by omega)).trans ?_
  exact congrArg (fun q => v22 (ix2 i q)) (Fin.ext (by show 640 + d.val - 256 - 64 - 64 - 64 - 64 - 64 - 64 = d.val; omega))
theorem cat_8 (hj : j.val = 704 + d.val) : k0_pay1 (F := Ideal) v1 v4 v7 v10 v13 v16 v19 v22 v25 v28 v29 v32 v35 (ix2 i j) = v25 (ix2 i d) := by
  pointwise [k0_pay1, hj]
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_pos (by omega)).trans ?_
  exact congrArg (fun q => v25 (ix2 i q)) (Fin.ext (by show 704 + d.val - 256 - 64 - 64 - 64 - 64 - 64 - 64 - 64 = d.val; omega))
theorem cat_9 (hj : j.val = 768 + d.val) : k0_pay1 (F := Ideal) v1 v4 v7 v10 v13 v16 v19 v22 v25 v28 v29 v32 v35 (ix2 i j) = v28 (ix2 i d) := by
  pointwise [k0_pay1, hj]
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_pos (by omega)).trans ?_
  exact congrArg (fun q => v28 (ix2 i q)) (Fin.ext (by show 768 + d.val - 256 - 64 - 64 - 64 - 64 - 64 - 64 - 64 - 64 = d.val; omega))
theorem cat_10 (hj : j.val = 832 + d.val) : k0_pay1 (F := Ideal) v1 v4 v7 v10 v13 v16 v19 v22 v25 v28 v29 v32 v35 (ix2 i j) = v29 (ix3 0 i d) := by
  pointwise [k0_pay1, hj]
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_pos (by omega)).trans ?_
  exact congrArg (fun q => v29 (ix3 0 i q)) (Fin.ext (by show 832 + d.val - 256 - 64 - 64 - 64 - 64 - 64 - 64 - 64 - 64 - 64 = d.val; omega))
theorem cat_11 (hj : j.val = 896 + d.val) : k0_pay1 (F := Ideal) v1 v4 v7 v10 v13 v16 v19 v22 v25 v28 v29 v32 v35 (ix2 i j) = v32 (ix3 0 i d) := by
  pointwise [k0_pay1, hj]
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_pos (by omega)).trans ?_
  exact congrArg (fun q => v32 (ix3 0 i q)) (Fin.ext (by show 896 + d.val - 256 - 64 - 64 - 64 - 64 - 64 - 64 - 64 - 64 - 64 - 64 = d.val; omega))
theorem cat_12 (hj : j.val = 960 + d.val) : k0_pay1 (F := Ideal) v1 v4 v7 v10 v13 v16 v19 v22 v25 v28 v29 v32 v35 (ix2 i j) = v35 (ix3 0 i d) := by
  pointwise [k0_pay1, hj]
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  exact congrArg (fun q => v35 (ix3 0 i q)) (Fin.ext (by show 960 + d.val - 256 - 64 - 64 - 64 - 64 - 64 - 64 - 64 - 64 - 64 - 64 - 64 = d.val; omega))

variable (u : FVec Ideal S1x512x64 .f32)

theorem c3 (v : FVec Ideal S512x256 .bf16) (e : Fin 256) : k0_pay3 (F := Ideal) v (ix2 i e) = v (ix2 i e) := by
  pointwise [k0_pay3]
theorem c4 : k0_pay4 (F := Ideal) u (ix2 i d) = u (ix3 0 i d) := by
  pointwise [k0_pay4]
theorem c5 : k0_pay5 (F := Ideal) u (ix2 i d) = u (ix3 0 i d) := by
  pointwise [k0_pay5]
theorem c6 : k0_pay6 (F := Ideal) u (ix2 i d) = u (ix3 0 i d) := by
  pointwise [k0_pay6]
theorem c7 : k0_pay7 (F := Ideal) u (ix2 i d) = u (ix3 0 i d) := by
  pointwise [k0_pay7]
theorem c8 : k0_pay8 (F := Ideal) u (ix2 i d) = u (ix3 0 i d) := by
  pointwise [k0_pay8]
theorem c9 : k0_pay9 (F := Ideal) u (ix2 i d) = u (ix3 0 i d) := by
  pointwise [k0_pay9]
theorem c10 : k0_pay10 (F := Ideal) u (ix2 i d) = u (ix3 0 i d) := by
  pointwise [k0_pay10]
theorem c11 : k0_pay11 (F := Ideal) u (ix2 i d) = u (ix3 0 i d) := by
  pointwise [k0_pay11]
theorem c12 : k0_pay12 (F := Ideal) u (ix2 i d) = u (ix3 0 i d) := by
  pointwise [k0_pay12]

theorem y_at (x : FVec Ideal S512x1024 .f32) (w : FVec Ideal S1024x1024 .bf16) :
    k0_pay2 (F := Ideal) v1 v4 v7 v10 v13 v16 v19 v22 v25 v28 v29 v32 v35 x w (ix2 i j)
      = x (ix2 i j) + ∑ e : Fin 1024, k0_pay1 (F := Ideal) v1 v4 v7 v10 v13 v16 v19 v22 v25 v28 v29 v32 v35 (ix2 i e) * w (ix2 e j) := by
  pointwise [k0_pay2]

end payloads

section tiles

variable (x0 : FVec Ideal S512x256 .bf16) (x1 : FVec Ideal S8x512x64 .f32) (x2 : FVec Ideal S4x512x64 .f32)
variable (x3 : FVec Ideal S1024x1024 .bf16) (x4 : FVec Ideal S512x1024 .f32)

theorem ld_y (X : FVec Ideal S512x256 .bf16) (i : Fin 512) (e : Fin 256) :
    View.ld (Val := Elt Ideal) (S := S512x256) (e' := .bf16) X r0_0 (ix2 i e) = X (ix2 i e) :=
  View.ld_unit_apply_of (Val := Elt Ideal) (S := S512x256) (e := .bf16) X ![0, 0] S512x256.size inb_S512x256_S512x256_0_0 (ix2 i e) (ix2 i e) fun a => by
    match a with
    | ⟨0, _⟩ => exact (Nat.zero_add i.val).symm
    | ⟨1, _⟩ => exact (Nat.zero_add e.val).symm

theorem ld_x (X : FVec Ideal S512x1024 .f32) (i : Fin 512) (e : Fin 1024) :
    View.ld (Val := Elt Ideal) (S := S512x1024) (e' := .f32) X r0_13 (ix2 i e) = X (ix2 i e) :=
  View.ld_unit_apply_of (Val := Elt Ideal) (S := S512x1024) (e := .f32) X ![0, 0] S512x1024.size inb_S512x1024_S512x1024_0_0 (ix2 i e) (ix2 i e) fun a => by
    match a with
    | ⟨0, _⟩ => exact (Nat.zero_add i.val).symm
    | ⟨1, _⟩ => exact (Nat.zero_add e.val).symm

theorem ld_w (X : FVec Ideal S1024x1024 .bf16) (i : Fin 1024) (e : Fin 1024) :
    View.ld (Val := Elt Ideal) (S := S1024x1024) (e' := .bf16) X r0_14 (ix2 i e) = X (ix2 i e) :=
  View.ld_unit_apply_of (Val := Elt Ideal) (S := S1024x1024) (e := .bf16) X ![0, 0] S1024x1024.size inb_S1024x1024_S1024x1024_0_0 (ix2 i e) (ix2 i e) fun a => by
    match a with
    | ⟨0, _⟩ => exact (Nat.zero_add i.val).symm
    | ⟨1, _⟩ => exact (Nat.zero_add e.val).symm

theorem ld_s0 (X : FVec Ideal S8x512x64 .f32) (i : Fin 512) (d : Fin 64) :
    View.ld (Val := Elt Ideal) (S := S8x512x64) (e' := .f32) X r0_1 (ix3 0 i d) = X (ix3 0 i d) :=
  View.ld_unit_apply_of (Val := Elt Ideal) (S := S8x512x64) (e := .f32) X ![0, 0, 0] S1x512x64.size inb_S8x512x64_S1x512x64_0_0_0 (ix3 0 i d) (ix3 0 i d) fun a => by
    match a with
    | ⟨0, _⟩ => rfl
    | ⟨1, _⟩ => exact (Nat.zero_add i.val).symm
    | ⟨2, _⟩ => exact (Nat.zero_add d.val).symm

theorem ld_s1 (X : FVec Ideal S8x512x64 .f32) (i : Fin 512) (d : Fin 64) :
    View.ld (Val := Elt Ideal) (S := S8x512x64) (e' := .f32) X r0_2 (ix3 0 i d) = X (ix3 1 i d) :=
  View.ld_unit_apply_of (Val := Elt Ideal) (S := S8x512x64) (e := .f32) X ![1, 0, 0] S1x512x64.size inb_S8x512x64_S1x512x64_1_0_0 (ix3 0 i d) (ix3 1 i d) fun a => by
    match a with
    | ⟨0, _⟩ => rfl
    | ⟨1, _⟩ => exact (Nat.zero_add i.val).symm
    | ⟨2, _⟩ => exact (Nat.zero_add d.val).symm

theorem ld_s2 (X : FVec Ideal S8x512x64 .f32) (i : Fin 512) (d : Fin 64) :
    View.ld (Val := Elt Ideal) (S := S8x512x64) (e' := .f32) X r0_3 (ix3 0 i d) = X (ix3 2 i d) :=
  View.ld_unit_apply_of (Val := Elt Ideal) (S := S8x512x64) (e := .f32) X ![2, 0, 0] S1x512x64.size inb_S8x512x64_S1x512x64_2_0_0 (ix3 0 i d) (ix3 2 i d) fun a => by
    match a with
    | ⟨0, _⟩ => rfl
    | ⟨1, _⟩ => exact (Nat.zero_add i.val).symm
    | ⟨2, _⟩ => exact (Nat.zero_add d.val).symm

theorem ld_s3 (X : FVec Ideal S8x512x64 .f32) (i : Fin 512) (d : Fin 64) :
    View.ld (Val := Elt Ideal) (S := S8x512x64) (e' := .f32) X r0_4 (ix3 0 i d) = X (ix3 3 i d) :=
  View.ld_unit_apply_of (Val := Elt Ideal) (S := S8x512x64) (e := .f32) X ![3, 0, 0] S1x512x64.size inb_S8x512x64_S1x512x64_3_0_0 (ix3 0 i d) (ix3 3 i d) fun a => by
    match a with
    | ⟨0, _⟩ => rfl
    | ⟨1, _⟩ => exact (Nat.zero_add i.val).symm
    | ⟨2, _⟩ => exact (Nat.zero_add d.val).symm

theorem ld_s4 (X : FVec Ideal S8x512x64 .f32) (i : Fin 512) (d : Fin 64) :
    View.ld (Val := Elt Ideal) (S := S8x512x64) (e' := .f32) X r0_5 (ix3 0 i d) = X (ix3 4 i d) :=
  View.ld_unit_apply_of (Val := Elt Ideal) (S := S8x512x64) (e := .f32) X ![4, 0, 0] S1x512x64.size inb_S8x512x64_S1x512x64_4_0_0 (ix3 0 i d) (ix3 4 i d) fun a => by
    match a with
    | ⟨0, _⟩ => rfl
    | ⟨1, _⟩ => exact (Nat.zero_add i.val).symm
    | ⟨2, _⟩ => exact (Nat.zero_add d.val).symm

theorem ld_s5 (X : FVec Ideal S8x512x64 .f32) (i : Fin 512) (d : Fin 64) :
    View.ld (Val := Elt Ideal) (S := S8x512x64) (e' := .f32) X r0_6 (ix3 0 i d) = X (ix3 5 i d) :=
  View.ld_unit_apply_of (Val := Elt Ideal) (S := S8x512x64) (e := .f32) X ![5, 0, 0] S1x512x64.size inb_S8x512x64_S1x512x64_5_0_0 (ix3 0 i d) (ix3 5 i d) fun a => by
    match a with
    | ⟨0, _⟩ => rfl
    | ⟨1, _⟩ => exact (Nat.zero_add i.val).symm
    | ⟨2, _⟩ => exact (Nat.zero_add d.val).symm

theorem ld_s6 (X : FVec Ideal S8x512x64 .f32) (i : Fin 512) (d : Fin 64) :
    View.ld (Val := Elt Ideal) (S := S8x512x64) (e' := .f32) X r0_7 (ix3 0 i d) = X (ix3 6 i d) :=
  View.ld_unit_apply_of (Val := Elt Ideal) (S := S8x512x64) (e := .f32) X ![6, 0, 0] S1x512x64.size inb_S8x512x64_S1x512x64_6_0_0 (ix3 0 i d) (ix3 6 i d) fun a => by
    match a with
    | ⟨0, _⟩ => rfl
    | ⟨1, _⟩ => exact (Nat.zero_add i.val).symm
    | ⟨2, _⟩ => exact (Nat.zero_add d.val).symm

theorem ld_s7 (X : FVec Ideal S8x512x64 .f32) (i : Fin 512) (d : Fin 64) :
    View.ld (Val := Elt Ideal) (S := S8x512x64) (e' := .f32) X r0_8 (ix3 0 i d) = X (ix3 7 i d) :=
  View.ld_unit_apply_of (Val := Elt Ideal) (S := S8x512x64) (e := .f32) X ![7, 0, 0] S1x512x64.size inb_S8x512x64_S1x512x64_7_0_0 (ix3 0 i d) (ix3 7 i d) fun a => by
    match a with
    | ⟨0, _⟩ => rfl
    | ⟨1, _⟩ => exact (Nat.zero_add i.val).symm
    | ⟨2, _⟩ => exact (Nat.zero_add d.val).symm

theorem ld_r0 (X : FVec Ideal S4x512x64 .f32) (i : Fin 512) (d : Fin 64) :
    View.ld (Val := Elt Ideal) (S := S4x512x64) (e' := .f32) X r0_9 (ix3 0 i d) = X (ix3 0 i d) :=
  View.ld_unit_apply_of (Val := Elt Ideal) (S := S4x512x64) (e := .f32) X ![0, 0, 0] S1x512x64.size inb_S4x512x64_S1x512x64_0_0_0 (ix3 0 i d) (ix3 0 i d) fun a => by
    match a with
    | ⟨0, _⟩ => rfl
    | ⟨1, _⟩ => exact (Nat.zero_add i.val).symm
    | ⟨2, _⟩ => exact (Nat.zero_add d.val).symm

theorem ld_r1 (X : FVec Ideal S4x512x64 .f32) (i : Fin 512) (d : Fin 64) :
    View.ld (Val := Elt Ideal) (S := S4x512x64) (e' := .f32) X r0_10 (ix3 0 i d) = X (ix3 1 i d) :=
  View.ld_unit_apply_of (Val := Elt Ideal) (S := S4x512x64) (e := .f32) X ![1, 0, 0] S1x512x64.size inb_S4x512x64_S1x512x64_1_0_0 (ix3 0 i d) (ix3 1 i d) fun a => by
    match a with
    | ⟨0, _⟩ => rfl
    | ⟨1, _⟩ => exact (Nat.zero_add i.val).symm
    | ⟨2, _⟩ => exact (Nat.zero_add d.val).symm

theorem ld_r2 (X : FVec Ideal S4x512x64 .f32) (i : Fin 512) (d : Fin 64) :
    View.ld (Val := Elt Ideal) (S := S4x512x64) (e' := .f32) X r0_11 (ix3 0 i d) = X (ix3 2 i d) :=
  View.ld_unit_apply_of (Val := Elt Ideal) (S := S4x512x64) (e := .f32) X ![2, 0, 0] S1x512x64.size inb_S4x512x64_S1x512x64_2_0_0 (ix3 0 i d) (ix3 2 i d) fun a => by
    match a with
    | ⟨0, _⟩ => rfl
    | ⟨1, _⟩ => exact (Nat.zero_add i.val).symm
    | ⟨2, _⟩ => exact (Nat.zero_add d.val).symm

theorem ld_r3 (X : FVec Ideal S4x512x64 .f32) (i : Fin 512) (d : Fin 64) :
    View.ld (Val := Elt Ideal) (S := S4x512x64) (e' := .f32) X r0_12 (ix3 0 i d) = X (ix3 3 i d) :=
  View.ld_unit_apply_of (Val := Elt Ideal) (S := S4x512x64) (e := .f32) X ![3, 0, 0] S1x512x64.size inb_S4x512x64_S1x512x64_3_0_0 (ix3 0 i d) (ix3 3 i d) fun a => by
    match a with
    | ⟨0, _⟩ => rfl
    | ⟨1, _⟩ => exact (Nat.zero_add i.val).symm
    | ⟨2, _⟩ => exact (Nat.zero_add d.val).symm

/-- The row of the three groups side by side that a grid point forms. -/
def catB : FVec Ideal S512x1024 .bf16 :=
  k0_pay1 (F := Ideal) (k0_pay13 x0 x1 x2 x3 x4) (k0_pay14 x0 x1 x2 x3 x4) (k0_pay15 x0 x1 x2 x3 x4) (k0_pay16 x0 x1 x2 x3 x4) (k0_pay17 x0 x1 x2 x3 x4) (k0_pay18 x0 x1 x2 x3 x4) (k0_pay19 x0 x1 x2 x3 x4) (k0_pay20 x0 x1 x2 x3 x4) (k0_pay21 x0 x1 x2 x3 x4) (k0_pay22 x0 x1 x2 x3 x4) (View.ld x2 r0_10) (View.ld x2 r0_11) (View.ld x2 r0_12)

theorem catB_y (i : Fin 512) (j : Fin 1024) (e : Fin 256) (hj : j.val = e.val) : catB x0 x1 x2 x3 x4 (ix2 i j) = x0 (ix2 i e) := by
  refine (cat_0 _ _ _ _ _ _ _ _ _ _ _ _ _ i j e hj).trans ?_
  exact (c3 i _ e).trans (ld_y x0 i e)

set_option maxHeartbeats 800000 in
theorem catB_s (i : Fin 512) (j : Fin 1024) (n : Fin 8) (d : Fin 64) (hj : j.val = 256 + (64 * n.val + d.val)) :
    catB x0 x1 x2 x3 x4 (ix2 i j) = x1 (ix3 n i d) := by
  match n with
  | ⟨0, _⟩ => exact (cat_1 _ _ _ _ _ _ _ _ _ _ _ _ _ i j d (hj.trans (by show 256 + (64 * 0 + d.val) = 256 + d.val; omega))).trans ((c4 i d _).trans (ld_s0 x1 i d))
  | ⟨1, _⟩ => exact (cat_2 _ _ _ _ _ _ _ _ _ _ _ _ _ i j d (hj.trans (by show 256 + (64 * 1 + d.val) = 320 + d.val; omega))).trans ((c5 i d _).trans (ld_s1 x1 i d))
  | ⟨2, _⟩ => exact (cat_3 _ _ _ _ _ _ _ _ _ _ _ _ _ i j d (hj.trans (by show 256 + (64 * 2 + d.val) = 384 + d.val; omega))).trans ((c6 i d _).trans (ld_s2 x1 i d))
  | ⟨3, _⟩ => exact (cat_4 _ _ _ _ _ _ _ _ _ _ _ _ _ i j d (hj.trans (by show 256 + (64 * 3 + d.val) = 448 + d.val; omega))).trans ((c7 i d _).trans (ld_s3 x1 i d))
  | ⟨4, _⟩ => exact (cat_5 _ _ _ _ _ _ _ _ _ _ _ _ _ i j d (hj.trans (by show 256 + (64 * 4 + d.val) = 512 + d.val; omega))).trans ((c8 i d _).trans (ld_s4 x1 i d))
  | ⟨5, _⟩ => exact (cat_6 _ _ _ _ _ _ _ _ _ _ _ _ _ i j d (hj.trans (by show 256 + (64 * 5 + d.val) = 576 + d.val; omega))).trans ((c9 i d _).trans (ld_s5 x1 i d))
  | ⟨6, _⟩ => exact (cat_7 _ _ _ _ _ _ _ _ _ _ _ _ _ i j d (hj.trans (by show 256 + (64 * 6 + d.val) = 640 + d.val; omega))).trans ((c10 i d _).trans (ld_s6 x1 i d))
  | ⟨7, _⟩ => exact (cat_8 _ _ _ _ _ _ _ _ _ _ _ _ _ i j d (hj.trans (by show 256 + (64 * 7 + d.val) = 704 + d.val; omega))).trans ((c11 i d _).trans (ld_s7 x1 i d))

set_option maxHeartbeats 800000 in
theorem catB_r (i : Fin 512) (j : Fin 1024) (n : Fin 4) (d : Fin 64) (hj : j.val = 768 + (64 * n.val + d.val)) :
    catB x0 x1 x2 x3 x4 (ix2 i j) = x2 (ix3 n i d) := by
  match n with
  | ⟨0, _⟩ => exact (cat_9 _ _ _ _ _ _ _ _ _ _ _ _ _ i j d (hj.trans (by show 768 + (64 * 0 + d.val) = 768 + d.val; omega))).trans ((c12 i d _).trans (ld_r0 x2 i d))
  | ⟨1, _⟩ => exact (cat_10 _ _ _ _ _ _ _ _ _ _ _ _ _ i j d (hj.trans (by show 768 + (64 * 1 + d.val) = 832 + d.val; omega))).trans (ld_r1 x2 i d)
  | ⟨2, _⟩ => exact (cat_11 _ _ _ _ _ _ _ _ _ _ _ _ _ i j d (hj.trans (by show 768 + (64 * 2 + d.val) = 896 + d.val; omega))).trans (ld_r2 x2 i d)
  | ⟨3, _⟩ => exact (cat_12 _ _ _ _ _ _ _ _ _ _ _ _ _ i j d (hj.trans (by show 768 + (64 * 3 + d.val) = 960 + d.val; omega))).trans (ld_r3 x2 i d)

theorem cat_body (i : Fin 512) (j : Fin 1024) : out0_6 (F := Ideal) x0 x1 x2 x3 x4 (ix2 i j) = catB x0 x1 x2 x3 x4 (ix2 i j) := by
  unfold out0_6
  canon_tiles x h
  obtain rfl : x = ix2 i j := by
    funext a
    apply Fin.ext
    match a with
    | ⟨0, _⟩ => exact h0.symm
    | ⟨1, _⟩ => exact h1.symm
  rfl

theorem y_body (i : Fin 512) (j : Fin 1024) :
    out0_5 (F := Ideal) x0 x1 x2 x3 x4 (ix2 i j) = x4 (ix2 i j) + ∑ e : Fin 1024, catB x0 x1 x2 x3 x4 (ix2 i e) * x3 (ix2 e j) := by
  unfold out0_5
  canon_tiles x h
  obtain rfl : x = ix2 i j := by
    funext a
    apply Fin.ext
    match a with
    | ⟨0, _⟩ => exact h0.symm
    | ⟨1, _⟩ => exact h1.symm
  refine (y_at _ _ _ _ _ _ _ _ _ _ _ _ _ i j _ _).trans (congrArg₂ (· + ·) (ld_x x4 i j) (Finset.sum_congr rfl fun e _ => ?_))
  exact congrArg₂ (· * ·) rfl (ld_w x3 e j)

/-- Every column lies in exactly one group. -/
theorem column (j : Fin 1024) :
    (∃ e : Fin 256, j.val = e.val) ∨ (∃ (n : Fin 8) (d : Fin 64), j.val = 256 + (64 * n.val + d.val))
      ∨ (∃ (n : Fin 4) (d : Fin 64), j.val = 768 + (64 * n.val + d.val)) := by
  by_cases h : j.val < 256
  · exact .inl ⟨⟨j.val, h⟩, rfl⟩
  by_cases h' : j.val < 768
  · exact .inr (.inl ⟨⟨(j.val - 256) / 64, by omega⟩, ⟨(j.val - 256) % 64, by omega⟩, by show j.val = 256 + (64 * ((j.val - 256) / 64) + (j.val - 256) % 64); omega⟩)
  · exact .inr (.inr ⟨⟨(j.val - 768) / 64, by omega⟩, ⟨(j.val - 768) % 64, by omega⟩, by show j.val = 768 + (64 * ((j.val - 768) / 64) + (j.val - 768) % 64); omega⟩)

end tiles

end Cert.Kernel9Ideal.JoinOut
-- ==== Proof.JoinOutRef.lean ====
/-
  The reference of the mixer's output product, stage by stage.
-/
module

public import proofs.«01_k».proof.Proof.Gen.Reference9Ideal.Read
public import Idealize.ShloMosaic.Lib.Pipeline.ValueKit
public import Idealize.ShloMosaic.Lib.Pointwise
public import Idealize.ShloMosaic.Lib.Claim

@[expose] public section

set_option maxRecDepth 16384

noncomputable section

namespace Cert.Reference9Ideal.JoinOut

open Cert.Reference9Ideal Cert.Reference9Ideal.Gen Cert.Reference9Ideal.Read Idealize.ShloMosaic Idealize.ShloMosaic.TcCoe Idealize.SL.Sem

variable (y : FVec Ideal S1x8192x256 .f32) (s : FVec Ideal S1x8192x8x64 .f32) (r : FVec Ideal S1x8192x4x64 .f32)
variable (w : FVec Ideal S1024x1024 .f32) (x : FVec Ideal S1x8192x1024 .f32) (t : Fin 8192) (j : Fin 1024)

theorem cat_y (e : Fin 256) (hj : j.val = e.val) : val_main_v4 (F := Ideal) y s r (ix3 0 t j) = y (ix3 0 t e) := by
  pointwise [val_main_v4, hj]

theorem cat_s (n : Fin 8) (d : Fin 64) (hj : j.val = 256 + (64 * n.val + d.val)) :
    val_main_v4 (F := Ideal) y s r (ix3 0 t j) = s (ix4 0 t n d) := by
  pointwise [val_main_v4, val_main_v2, hj]
  exact dif_pos (by omega)

theorem cat_r (n : Fin 4) (d : Fin 64) (hj : j.val = 768 + (64 * n.val + d.val)) :
    val_main_v4 (F := Ideal) y s r (ix3 0 t j) = r (ix4 0 t n d) := by
  pointwise [val_main_v4, val_main_v3, hj]
  refine (dif_neg (by omega)).trans ?_
  refine (dif_neg (by omega)).trans ?_
  exact congrArg₂ (fun p q => r (ix4 0 t p q)) (Fin.ext (by show (768 + (64 * n.val + d.val) - 256 - 512) / 64 = n.val; omega)) (Fin.ext (by show (768 + (64 * n.val + d.val) - 256 - 512) % 64 = d.val; omega))

theorem y_at : val_main_v7 (F := Ideal) y s r w x (ix2 t j)
    = x (ix3 0 t j) + ∑ e : Fin 1024, val_main_v4 (F := Ideal) y s r (ix3 0 t e) * w (ix2 e j) := by
  pointwise [val_main_v7, val_main_v6, val_main_v5]

theorem cat_at : val_main_v10 (F := Ideal) y s r (ix2 t j) = val_main_v4 (F := Ideal) y s r (ix3 0 t j) := by
  have e : val_main_v8 (F := Ideal) y s r = val_main_v4 (F := Ideal) y s r := rfl
  pointwise [val_main_v10, val_main_v9]
  exact congrFun e _

end Cert.Reference9Ideal.JoinOut
-- ==== Proof.JoinOutFinal.lean ====
/-
  The two result arrays of the mixer's output product are those of the reference.
-/
module

public import proofs.«01_k».proof.Proof.Gen.Kernel9Ideal.Value
public import proofs.«01_k».proof.Proof.JoinOutTile
public import proofs.«01_k».proof.Proof.JoinOutRef
public import Idealize.ShloMosaic.Lib.Pipeline.ValueKit
public import Idealize.ShloMosaic.Lib.Pointwise
public import Idealize.ShloMosaic.Lib.Claim

@[expose] public section

set_option maxRecDepth 16384

noncomputable section

namespace Cert.Kernel9Ideal.JoinOut

open Cert.Kernel9Ideal Cert.Kernel9Ideal.Gen Idealize.ShloMosaic Idealize.ShloMosaic.TcCoe Idealize.SL.Sem
open Cert.Reference9Ideal.Read (val_main_v4 val_main_v7 val_main_v10)

variable (m : (ℓ : Loc nD τ sig) → Buf (Elt Ideal) ℓ) (c : Dev nD)

/-- The arguments, as arrays. -/
abbrev a0 : FVec Ideal S1x8192x256 .f32 := m ((c : Thread nD τ).loc main_arg0)
abbrev a1 : FVec Ideal S1x8192x8x64 .f32 := m ((c : Thread nD τ).loc main_arg1)
abbrev a2 : FVec Ideal S1x8192x4x64 .f32 := m ((c : Thread nD τ).loc main_arg2)
abbrev a3 : FVec Ideal S1024x1024 .f32 := m ((c : Thread nD τ).loc main_arg3)
abbrev a4 : FVec Ideal S1x8192x1024 .f32 := m ((c : Thread nD τ).loc main_arg4)

set_option maxHeartbeats 1600000 in
theorem y_host (t : Fin 8192) (e : Fin 256) : V m c main_v1 (ix2 t e) = a0 m c (ix3 0 t e) := by
  simp only [V, List.flatten_cons, List.flatten_nil, List.append_nil, StableHlo.after_append]
  set_option maxHeartbeats 1600000 in after_results_simp
  pointwise

set_option maxHeartbeats 1600000 in
theorem s_host (n : Fin 8) (t : Fin 8192) (d : Fin 64) : V m c main_v3 (ix3 n t d) = a1 m c (ix4 0 t n d) := by
  simp only [V, List.flatten_cons, List.flatten_nil, List.append_nil, StableHlo.after_append]
  set_option maxHeartbeats 1600000 in after_results_simp
  pointwise

set_option maxHeartbeats 1600000 in
theorem r_host (n : Fin 4) (t : Fin 8192) (d : Fin 64) : V m c main_v5 (ix3 n t d) = a2 m c (ix4 0 t n d) := by
  simp only [V, List.flatten_cons, List.flatten_nil, List.append_nil, StableHlo.after_append]
  set_option maxHeartbeats 1600000 in after_results_simp
  pointwise

set_option maxHeartbeats 1600000 in
theorem w_host (e j : Fin 1024) : V m c main_v6 (ix2 e j) = a3 m c (ix2 e j) := by
  simp only [V, List.flatten_cons, List.flatten_nil, List.append_nil, StableHlo.after_append]
  set_option maxHeartbeats 1600000 in after_results_simp
  pointwise

set_option maxHeartbeats 1600000 in
theorem x_host (t : Fin 8192) (j : Fin 1024) : V m c main_v7 (ix2 t j) = a4 m c (ix3 0 t j) := by
  simp only [V, List.flatten_cons, List.flatten_nil, List.append_nil, StableHlo.after_append]
  set_option maxHeartbeats 1600000 in after_results_simp
  pointwise

theorem lt16 (t : Fin cfg0.N) : t.val < 16 := lt_of_lt_of_eq t.isLt (show cfg0.N = 16 from N_0)

/-- Row `i` of the block of a grid point. -/
def row (t : ℕ) (ht : t < 16) (i : Fin 512) : Fin 8192 := ⟨512 * t + i.val, by omega⟩

theorem idx : ∀ t : Fin cfg0.N,
    win0_0.index t = ![t.val, 0] ∧ win0_1.index t = ![0, t.val, 0] ∧ win0_2.index t = ![0, t.val, 0] ∧ win0_3.index t = ![0, 0]
    ∧ win0_4.index t = ![t.val, 0] ∧ win0_5.index t = ![t.val, 0] ∧ win0_6.index t = ![t.val, 0] :=
  (by decide +kernel : ∀ t : Fin grid0.N, _)

section points

variable (t : Fin cfg0.N)

theorem blk0 (i : Fin 512) (e : Fin 256) :
    (iblk m c 0 t : FVec Ideal S512x256 .bf16) (ix2 i e) = a0 m c (ix3 0 (row t.val (lt16 t) i) e) := by
  rw [← y_host]
  blk_ext [iblk, idx t, row]
theorem blk1 (n : Fin 8) (i : Fin 512) (d : Fin 64) :
    (iblk m c 1 t : FVec Ideal S8x512x64 .f32) (ix3 n i d) = a1 m c (ix4 0 (row t.val (lt16 t) i) n d) := by
  rw [← s_host]
  blk_ext [iblk, idx t, row]
theorem blk2 (n : Fin 4) (i : Fin 512) (d : Fin 64) :
    (iblk m c 2 t : FVec Ideal S4x512x64 .f32) (ix3 n i d) = a2 m c (ix4 0 (row t.val (lt16 t) i) n d) := by
  rw [← r_host]
  blk_ext [iblk, idx t, row]
theorem blk3 (e j : Fin 1024) : (iblk m c 3 t : FVec Ideal S1024x1024 .bf16) (ix2 e j) = a3 m c (ix2 e j) := by
  rw [← w_host]
  blk_ext [iblk, idx t]
theorem blk4 (i : Fin 512) (j : Fin 1024) :
    (iblk m c 4 t : FVec Ideal S512x1024 .f32) (ix2 i j) = a4 m c (ix3 0 (row t.val (lt16 t) i) j) := by
  rw [← x_host]
  blk_ext [iblk, idx t, row]

theorem cat_point (i : Fin 512) (j : Fin 1024) :
    catB (iblk m c 0 t) (iblk m c 1 t) (iblk m c 2 t) (iblk m c 3 t) (iblk m c 4 t) (ix2 i j)
      = val_main_v4 (F := Ideal) (a0 m c) (a1 m c) (a2 m c) (ix3 0 (row t.val (lt16 t) i) j) := by
  rcases column j with ⟨e, h⟩ | ⟨n, d, h⟩ | ⟨n, d, h⟩
  · exact (catB_y _ _ _ _ _ i j e h).trans ((blk0 m c t i e).trans (Cert.Reference9Ideal.JoinOut.cat_y _ _ _ _ j e h).symm)
  · exact (catB_s _ _ _ _ _ i j n d h).trans ((blk1 m c t n i d).trans (Cert.Reference9Ideal.JoinOut.cat_s _ _ _ _ j n d h).symm)
  · exact (catB_r _ _ _ _ _ i j n d h).trans ((blk2 m c t n i d).trans (Cert.Reference9Ideal.JoinOut.cat_r _ _ _ _ j n d h).symm)

theorem y_point (i : Fin 512) (j : Fin 1024) :
    out0_5 (F := Ideal) (iblk m c 0 t) (iblk m c 1 t) (iblk m c 2 t) (iblk m c 3 t) (iblk m c 4 t) (ix2 i j)
      = a4 m c (ix3 0 (row t.val (lt16 t) i) j)
        + ∑ e : Fin 1024, val_main_v4 (F := Ideal) (a0 m c) (a1 m c) (a2 m c) (ix3 0 (row t.val (lt16 t) i) e) * a3 m c (ix2 e j) := by
  refine (y_body _ _ _ _ _ i j).trans (congrArg₂ (· + ·) (blk4 m c t i j) (Finset.sum_congr rfl fun e _ => ?_))
  exact congrArg₂ (· * ·) (cat_point m c t i e) (blk3 m c t e j)

end points

set_option maxHeartbeats 800000 in
theorem final5 : (dats m 0 c).arrAt 5 (cfgs 0).N = val_main_v7 (F := Ideal) (a0 m c) (a1 m c) (a2 m c) (a3 m c) (a4 m c) := by
  refine (dats m 0 c).arrAt_eq_of_covers 5 _ (by decide +kernel) fun t hf y => ?_
  blk_simp
  idx_vars y
  rw [after0_5]
  have e : ((View.whole main_v8_0).slice (win0_5.rect t)).emb (ix2 y0 y1) = ix2 (row t.val (lt16 t) y0) y1 := by
    blk_ext [idx t, row]
  rw [e, Cert.Reference9Ideal.JoinOut.y_at]
  exact y_point m c t y0 y1

set_option maxHeartbeats 800000 in
theorem final6 : (dats m 0 c).arrAt 6 (cfgs 0).N = val_main_v10 (F := Ideal) (a0 m c) (a1 m c) (a2 m c) := by
  refine (dats m 0 c).arrAt_eq_of_covers 6 _ (by decide +kernel) fun t hf y => ?_
  blk_simp
  idx_vars y
  rw [after0_6]
  have e : ((View.whole main_v8_1).slice (win0_6.rect t)).emb (ix2 y0 y1) = ix2 (row t.val (lt16 t) y0) y1 := by
    blk_ext [idx t, row]
  rw [e, Cert.Reference9Ideal.JoinOut.cat_at]
  exact (cat_body _ _ _ _ _ y0 y1).trans (cat_point m c t y0 y1)

end Cert.Kernel9Ideal.JoinOut
-- ==== Proof.JoinOutAlg.lean ====
/-
  The mixer's output product: kernel and reference leave the same two arrays.
-/
module

public import proofs.«01_k».proof.Defs
public import proofs.«01_k».proof.Proof.JoinOutFinal
public import proofs.«01_k».proof.Proof.Gen.Reference9Ideal.Run

@[expose] public section

set_option maxRecDepth 16384

noncomputable section

namespace Cert.Proof

open Idealize.ShloMosaic Idealize.ShloMosaic.TcCoe Idealize.SL.Sem

set_option maxHeartbeats 1600000 in
/-- The mixer's output product: kernel and reference leave the same two arrays. -/
theorem alg9 : Cert.algebraic_Kernel9Ideal_Reference9Ideal (hKernel9Ideal := Cert.Kernel9Ideal.Gen.facts)
    (hReference9Ideal := Cert.Reference9Ideal.Gen.facts) := by
  pair_intro
  · run_from Cert.Kernel9Ideal.Gen.run_main m g
  · run_from Cert.Reference9Ideal.Value.run m' g'
    · exact (Cert.Kernel9Ideal.JoinOut.final5 m c).symm
    · exact (Cert.Kernel9Ideal.JoinOut.final6 m c).symm

end Cert.Proof

end
-- ==== Proof.lean ====
/-
  The proof of `Cert.Claim`: frames of every program, and the value claim of every pair.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Pre_finite
public import proofs.«01_k».proof.Proof.Gen.Pre_finite2
public import proofs.«01_k».proof.Proof.RetAlg
public import proofs.«01_k».proof.Proof.FfnAlg
public import proofs.«01_k».proof.Proof.Mat3
public import proofs.«01_k».proof.Proof.Mat4
public import proofs.«01_k».proof.Proof.FwdAlg
public import proofs.«01_k».proof.Proof.MixOutAlg
public import proofs.«01_k».proof.Proof.Mat7
public import proofs.«01_k».proof.Proof.Mat8
public import proofs.«01_k».proof.Proof.JoinOutAlg
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem Cert.Kernel

/-- The gradient of the SwiGLU input weight: kernel and reference leave the same array. -/
theorem alg3 : Cert.algebraic_Kernel3Ideal_Reference3Ideal (hKernel3Ideal := Cert.Kernel3Ideal.Gen.facts)
    (hReference3Ideal := Cert.Reference3Ideal.Gen.facts) := by
  pair_intro
  · run_from Cert.Kernel3Ideal.Gen.run_main m g
  · run_from Cert.Reference3Ideal.Value.run m' g'
    exact (congrArg₂ (fun a b => Cert.Kernel3Ideal.Mat.REF (m (c.tc.loc Cert.Kernel3Ideal.main_arg0)) a b) (hagree c).2.1
      (hagree c).2.2).trans (Cert.Kernel3Ideal.Mat.final m c).symm

/-- The gradient of the SwiGLU output weight: kernel and reference leave the same array. -/
theorem alg4 : Cert.algebraic_Kernel4Ideal_Reference4Ideal (hKernel4Ideal := Cert.Kernel4Ideal.Gen.facts)
    (hReference4Ideal := Cert.Reference4Ideal.Gen.facts) := by
  pair_intro
  · run_from Cert.Kernel4Ideal.Gen.run_main m g
  · run_from Cert.Reference4Ideal.Value.run m' g'
    exact (Cert.Kernel4Ideal.Mat.final m c).symm

/-- The gradient of the mixer's output weight: kernel and reference leave the same array. -/
theorem alg7 : Cert.algebraic_Kernel7Ideal_Reference7Ideal (hKernel7Ideal := Cert.Kernel7Ideal.Gen.facts)
    (hReference7Ideal := Cert.Reference7Ideal.Gen.facts) := by
  pair_intro
  · run_from Cert.Kernel7Ideal.Gen.run_main m g
  · run_from Cert.Reference7Ideal.Value.run m' g'
    exact (Cert.Kernel7Ideal.Mat.final m c).symm

/-- The gradient of the mixer's input weight: kernel and reference leave the same array. -/
theorem alg8 : Cert.algebraic_Kernel8Ideal_Reference8Ideal (hKernel8Ideal := Cert.Kernel8Ideal.Gen.facts)
    (hReference8Ideal := Cert.Reference8Ideal.Gen.facts) := by
  pair_intro
  · run_from Cert.Kernel8Ideal.Gen.run_main m g
  · run_from Cert.Reference8Ideal.Value.run m' g'
    exact (Cert.Kernel8Ideal.Mat.final m c).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Pre_finite.Gen.facts, Cert.Pre_finite2.Gen.facts,
  fun m ρ _ => Cert.Kernel.Gen.frame m ρ,
  fun m ρ _ => Cert.KernelIdeal.Gen.frame m ρ,
  fun m ρ _ => Cert.KernelIdeal.Gen.frame m ρ,
  fun m ρ _ => (θ_run _ _ _).mono (fun r h => ⟨fun c => (h c).2.2.2.2.2, sem_eq_zero_of_no_sems (by decide) _⟩) (Cert.ReferenceIdeal.Value.run m ρ),
  fun m ρ _ => (θ_run _ _ _).mono (fun r h => ⟨fun c => (h c).2.2.2.2.2, sem_eq_zero_of_no_sems (by decide) _⟩) (Cert.ReferenceIdeal.Value.run m ρ),
  fun m ρ _ => Cert.Kernel2.Gen.frame m ρ,
  fun m ρ _ => Cert.Kernel2Ideal.Gen.frame m ρ,
  fun m ρ _ => Cert.Kernel2Ideal.Gen.frame m ρ,
  fun m ρ _ => (θ_run _ _ _).mono (fun r h => ⟨fun c => (h c).2.2.2.2.2.2.2, sem_eq_zero_of_no_sems (by decide) _⟩) (Cert.Reference2Ideal.Value.run m ρ),
  fun m ρ _ => (θ_run _ _ _).mono (fun r h => ⟨fun c => (h c).2.2.2.2.2.2.2, sem_eq_zero_of_no_sems (by decide) _⟩) (Cert.Reference2Ideal.Value.run m ρ),
  fun m ρ _ => Cert.Kernel3.Gen.frame m ρ,
  fun m ρ _ => Cert.Kernel3Ideal.Gen.frame m ρ,
  fun m ρ _ => (θ_run _ _ _).mono (fun r h => ⟨fun c => (h c).2, sem_eq_zero_of_no_sems (by decide) _⟩) (Cert.Reference3Ideal.Value.run m ρ),
  fun m ρ _ => Cert.Kernel4.Gen.frame m ρ,
  fun m ρ _ => Cert.Kernel4Ideal.Gen.frame m ρ,
  fun m ρ _ => (θ_run _ _ _).mono (fun r h => ⟨fun c => (h c).2, sem_eq_zero_of_no_sems (by decide) _⟩) (Cert.Reference4Ideal.Value.run m ρ),
  fun m ρ _ => Cert.Kernel5.Gen.frame m ρ,
  fun m ρ _ => Cert.Kernel5Ideal.Gen.frame m ρ,
  fun m ρ _ => (θ_run _ _ _).mono (fun r h => ⟨fun c => (h c).2.2.2, sem_eq_zero_of_no_sems (by decide) _⟩) (Cert.Reference5Ideal.Value.run m ρ),
  fun m ρ _ => Cert.Kernel6.Gen.frame m ρ,
  fun m ρ _ => Cert.Kernel6Ideal.Gen.frame m ρ,
  fun m ρ _ => (θ_run _ _ _).mono (fun r h => ⟨fun c => (h c).2.2.2.2.2, sem_eq_zero_of_no_sems (by decide) _⟩) (Cert.Reference6Ideal.Value.run m ρ),
  fun m ρ _ => Cert.Kernel7.Gen.frame m ρ,
  fun m ρ _ => Cert.Kernel7Ideal.Gen.frame m ρ,
  fun m ρ _ => (θ_run _ _ _).mono (fun r h => ⟨fun c => (h c).2, sem_eq_zero_of_no_sems (by decide) _⟩) (Cert.Reference7Ideal.Value.run m ρ),
  fun m ρ _ => Cert.Kernel8.Gen.frame m ρ,
  fun m ρ _ => Cert.Kernel8Ideal.Gen.frame m ρ,
  fun m ρ _ => (θ_run _ _ _).mono (fun r h => ⟨fun c => (h c).2, sem_eq_zero_of_no_sems (by decide) _⟩) (Cert.Reference8Ideal.Value.run m ρ),
  fun m ρ _ => Cert.Kernel9.Gen.frame m ρ,
  fun m ρ _ => Cert.Kernel9Ideal.Gen.frame m ρ,
  fun m ρ _ => (θ_run _ _ _).mono (fun r h => ⟨fun c => (h c).2.2, sem_eq_zero_of_no_sems (by decide) _⟩) (Cert.Reference9Ideal.Value.run m ρ),
  trivial, alg1, trivial, alg2, trivial, alg3, trivial, alg4, trivial, alg5, trivial, alg6, trivial, alg7, trivial, alg8, trivial, alg9⟩

end Cert.Proof

end
